-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range_KernelIdeal [hPre_scale_in_range_KernelIdeal : Cert.Pre_scale_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_scale_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range_ReferenceIdeal [hPre_scale_in_range_ReferenceIdeal : Cert.Pre_scale_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_scale_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scale_in_range_KernelIdeal [hKernelIdeal : Cert.KernelIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scale_in_range_ReferenceIdeal [hReferenceIdeal : Cert.ReferenceIdeal.Facts] [hPre_scale_in_range_ReferenceIdeal : Cert.Pre_scale_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_scale_in_range_KernelIdeal [hKernelIdeal : Cert.KernelIdeal.Facts] [hReferenceIdeal : Cert.ReferenceIdeal.Facts] [hPre_scale_in_range_KernelIdeal : Cert.Pre_scale_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_scale_in_range_KernelIdeal : Cert.Pre_scale_in_range_KernelIdeal.Facts) (hPre_scale_in_range_ReferenceIdeal : Cert.Pre_scale_in_range_ReferenceIdeal.Facts),
    quiescent_Kernel (hKernel := hKernel)
    ∧ quiescent_KernelIdeal (hKernelIdeal := hKernelIdeal)
    ∧ quiescent_KernelIdeal_pre_scale_in_range_KernelIdeal (hKernelIdeal := hKernelIdeal) (hPre_scale_in_range_KernelIdeal := hPre_scale_in_range_KernelIdeal)
    ∧ quiescent_ReferenceIdeal (hReferenceIdeal := hReferenceIdeal)
    ∧ quiescent_ReferenceIdeal_pre_scale_in_range_ReferenceIdeal (hReferenceIdeal := hReferenceIdeal) (hPre_scale_in_range_ReferenceIdeal := hPre_scale_in_range_ReferenceIdeal)
    ∧ preserves_Kernel_KernelIdeal
    ∧ algebraic_KernelIdeal_ReferenceIdeal_pre_scale_in_range_KernelIdeal (hKernelIdeal := hKernelIdeal) (hReferenceIdeal := hReferenceIdeal) (hPre_scale_in_range_KernelIdeal := hPre_scale_in_range_KernelIdeal)
-- ==== Pre_scale_in_range_KernelIdeal.lean ====
abbrev S4096x128 : Shape := ⟨2, ![4096, 128]⟩
abbrev S128x8192 : Shape := ⟨2, ![128, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x128 .fp8e4m3) (main_arg1 : FVec F S128x8192 .fp8e5m2) (main_arg2 : FVec F S1 .f32) (main_arg3 : FVec F S1 .f32) : IVec S1 1 × IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  (main_v2, main_v4)
-- ==== Pre_scale_in_range_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4096x4096 .fp8e4m3) (main_arg1 : FVec F S4096x8192 .fp8e5m2) (main_arg2 : FVec F S1 .f32) (main_arg3 : FVec F S1 .f32) : IVec S1 1 × IVec S1 1 :=
  let main_v0 : FVec F S1 .f32 := mulf main_arg2 main_arg3
  let main_cst : FVec F S_ .f32 := constant S_ .f32 0x00000000#32
  let main_v1 : FVec F S1 .f32 := broadcastInDim S1 ![] bcast_S_S1 main_cst
  let main_v2 : IVec S1 1 := cmpf .oge main_v0 main_v1
  let main_cst_0 : FVec F S_ .f32 := constant S_ .f32 0x7F800000#32
  let main_v3 : FVec F S1 .f32 := broadcastInDim S1 ![] bcast_S_S1 main_cst_0
  let main_v4 : IVec S1 1 := cmpf .olt main_v0 main_v3
  (main_v2, main_v4)
-- ==== Kernel.lean ====
abbrev S4096x128 : Shape := ⟨2, ![4096, 128]⟩
abbrev S128x8192 : Shape := ⟨2, ![128, 8192]⟩
abbrev S1 : Shape := ⟨1, ![1]⟩
abbrev S4096x8192 : Shape := ⟨2, ![4096, 8192]⟩
abbrev S_ : Shape := ⟨0, ![]⟩
abbrev S2x128x4096 : Shape := ⟨3, ![2, 128, 4096]⟩
abbrev S2 : Shape := ⟨1, ![2]⟩
abbrev S1x128x4096 : Shape := ⟨3, ![1, 128, 4096]⟩
abbrev S128x4096 : Shape := ⟨2, ![128, 4096]⟩

abbrev nBuf : Space → Nat
  | .hbm => 13
  | .vmem => 7
  | .smem => 0
  | _ => 0

abbrev bufTy : (tb : Table) → Fin (tcTables nBuf tb) → BufTy
  | .hbm, ⟨0, _⟩ => ⟨S4096x128, .fp8e4m3⟩
  | .hbm, ⟨1, _⟩ => ⟨S128x8192, .fp8e5m2⟩
  | .hbm, ⟨2, _⟩ => ⟨S1, .f32⟩
  | .hbm, ⟨3, _⟩ => ⟨S1, .f32⟩
  | .hbm, ⟨4, _⟩ => ⟨S4096x128, .bf16⟩
  | .hbm, ⟨5, _⟩ => ⟨S128x8192, .bf16⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S4096x8192, .f32⟩
  | .local _ .vmem, ⟨0, _⟩ => ⟨S4096x128, .fp8e4m3⟩
  | .local _ .vmem, ⟨1, _⟩ => ⟨S128x8192, .fp8e5m2⟩
  | .local _ .vmem, ⟨2, _⟩ => ⟨S4096x128, .bf16⟩
  | .local _ .vmem, ⟨3, _⟩ => ⟨S128x8192, .bf16⟩
  | .local _ .vmem, ⟨4, _⟩ => ⟨S2x128x4096, .f32⟩
  | .local _ .vmem, ⟨5, _⟩ => ⟨S2x128x4096, .f32⟩
  | .local _ .vmem, ⟨6, _⟩ => ⟨S2x128x4096, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 5 14 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_scratch0 : Ref sig .tc := ⟨.vmem, 4, rfl⟩
abbrev cc1_scratch1 : Ref sig .tc := ⟨.vmem, 5, rfl⟩
abbrev cc1_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 4

abbrev nD : Nat := 32
abbrev τ : Topo := Topo.v7x

variable {F : FTy → Type} [FloatOps F]

abbrev grid0 : Pipeline.Grid := .none

abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := .none

def k1_dev1 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_6 : BitVec 32 := 32#32
  let v14 : BitVec 32 := Scalar.addi v2 c32_i32_6
  let c1_i32_7 : BitVec 32 := 1#32
  let v15 : BitVec 32 := Scalar.subi v14 c1_i32_7
  let c32_i32_8 : BitVec 32 := 32#32
  let c0_i32_9 : BitVec 32 := 0#32
  let v16 : BitVec 1 := Scalar.cmpi .eq c32_i32_8 c0_i32_9
  let c1_i32_10 : BitVec 32 := 1#32
  let v17 : BitVec 32 := Scalar.select v16 c1_i32_10 c32_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_42 : BitVec 32 := 1#32
  let v71 : BitVec 32 := Scalar.muli v25 c1_i32_42
  let v72 : BitVec 32 := Scalar.addi c0_i32_43 v71
  v72.toNat
def k1_dev2 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v3 : BitVec 32 := Scalar.addi v2 c1_i32_0
  let c32_i32_1 : BitVec 32 := 32#32
  let c0_i32 : BitVec 32 := 0#32
  let v4 : BitVec 1 := Scalar.cmpi .eq c32_i32_1 c0_i32
  let c1_i32_2 : BitVec 32 := 1#32
  let v5 : BitVec 32 := Scalar.select v4 c1_i32_2 c32_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_45 : BitVec 32 := 1#32
  let v73 : BitVec 32 := Scalar.muli v13 c1_i32_45
  let v74 : BitVec 32 := Scalar.addi c0_i32_46 v73
  v74.toNat
def k1_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v75 : BitVec 32 := Scalar.muli v2 c128_i32
  let c0_i32_51 : BitVec 32 := 0#32
  ![v75.toNat, 0]
def k1_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_52 : BitVec 32 := 128#32
  let v81 : BitVec 32 := Scalar.muli v2 c128_i32_52
  let c4096_i32 : BitVec 32 := 4096#32
  ![v81.toNat, 4096]
def k1_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_73 : BitVec 32 := 1#32
  let v99 : BitVec 32 := Scalar.muli v36 c1_i32_73
  let v100 : BitVec 32 := Scalar.addi c0_i32_74 v99
  v100.toNat
def k1_dev4 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_83 : BitVec 32 := 1#32
  let v109 : BitVec 32 := Scalar.muli v47 c1_i32_83
  let v110 : BitVec 32 := Scalar.addi c0_i32_84 v109
  v110.toNat
def k1_off3 (d0 : Dev nD) (c1_i32_89 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v119 : BitVec 32 := Scalar.subi v2 c1_i32_89
  let c32_i32_90 : BitVec 32 := 32#32
  let c0_i32_91 : BitVec 32 := 0#32
  let v120 : BitVec 1 := Scalar.cmpi .eq c32_i32_90 c0_i32_91
  let c1_i32_92 : BitVec 32 := 1#32
  let v121 : BitVec 32 := Scalar.select v120 c1_i32_92 c32_i32_90
  let v122 : BitVec 32 := Scalar.remsi v119 v121
  let c0_i32_94 : BitVec 32 := 0#32
  let v124 : BitVec 1 := Scalar.cmpi .slt v122 c0_i32_94
  let c0_i32_95 : BitVec 32 := 0#32
  let v125 : BitVec 1 := Scalar.cmpi .slt v121 c0_i32_95
  let v126 : BitVec 1 := Scalar.xori v124 v125
  let c0_i32_93 : BitVec 32 := 0#32
  let v123 : BitVec 1 := Scalar.cmpi .ne v122 c0_i32_93
  let v127 : BitVec 1 := Scalar.andi v126 v123
  let v128 : BitVec 32 := Scalar.addi v122 v121
  let v129 : BitVec 32 := Scalar.select v127 v128 v122
  let c128_i32_96 : BitVec 32 := 128#32
  let v130 : BitVec 32 := Scalar.muli v129 c128_i32_96
  let c0_i32_101 : BitVec 32 := 0#32
  ![v130.toNat, 0]
def k1_off4 (d0 : Dev nD) (c_m1_i32_102 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : BitVec 32 := Scalar.subi v2 c_m1_i32_102
  let c32_i32_103 : BitVec 32 := 32#32
  let c0_i32_104 : BitVec 32 := 0#32
  let v137 : BitVec 1 := Scalar.cmpi .eq c32_i32_103 c0_i32_104
  let c1_i32_105 : BitVec 32 := 1#32
  let v138 : BitVec 32 := Scalar.select v137 c1_i32_105 c32_i32_103
  let v139 : BitVec 32 := Scalar.remsi v136 v138
  let c0_i32_107 : BitVec 32 := 0#32
  let v141 : BitVec 1 := Scalar.cmpi .slt v139 c0_i32_107
  let c0_i32_108 : BitVec 32 := 0#32
  let v142 : BitVec 1 := Scalar.cmpi .slt v138 c0_i32_108
  let v143 : BitVec 1 := Scalar.xori v141 v142
  let c0_i32_106 : BitVec 32 := 0#32
  let v140 : BitVec 1 := Scalar.cmpi .ne v139 c0_i32_106
  let v144 : BitVec 1 := Scalar.andi v143 v140
  let v145 : BitVec 32 := Scalar.addi v139 v138
  let v146 : BitVec 32 := Scalar.select v144 v145 v139
  let c128_i32_109 : BitVec 32 := 128#32
  let v147 : BitVec 32 := Scalar.muli v146 c128_i32_109
  let c4096_i32_114 : BitVec 32 := 4096#32
  ![v147.toNat, 4096]
def k1_dev5 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_181 : BitVec 32 := 1#32
  let v209 : BitVec 32 := Scalar.muli v58 c1_i32_181
  let v210 : BitVec 32 := Scalar.addi c0_i32_182 v209
  v210.toNat
def k1_dev6 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_185 : BitVec 32 := 1#32
  let v213 : BitVec 32 := Scalar.muli v69 c1_i32_185
  let v214 : BitVec 32 := Scalar.addi c0_i32_186 v213
  v214.toNat
def k1_dev7 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_197 : BitVec 32 := 1#32
  let v219 : BitVec 32 := Scalar.muli v36 c1_i32_197
  let v220 : BitVec 32 := Scalar.addi c0_i32_198 v219
  v220.toNat
def k1_dev8 (d0 : Dev nD) : Nat :=
  let c0_i32_208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_207 : BitVec 32 := 1#32
  let v229 : BitVec 32 := Scalar.muli v47 c1_i32_207
  let v230 : BitVec 32 := Scalar.addi c0_i32_208 v229
  v230.toNat
def k1_dev9 (d0 : Dev nD) : Nat :=
  let c0_i32_307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_306 : BitVec 32 := 1#32
  let v329 : BitVec 32 := Scalar.muli v58 c1_i32_306
  let v330 : BitVec 32 := Scalar.addi c0_i32_307 v329
  v330.toNat
def k1_dev10 (d0 : Dev nD) : Nat :=
  let c0_i32_311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_310 : BitVec 32 := 1#32
  let v333 : BitVec 32 := Scalar.muli v69 c1_i32_310
  let v334 : BitVec 32 := Scalar.addi c0_i32_311 v333
  v334.toNat
def k1_dev11 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_322 : BitVec 32 := 1#32
  let v339 : BitVec 32 := Scalar.muli v36 c1_i32_322
  let v340 : BitVec 32 := Scalar.addi c0_i32_323 v339
  v340.toNat
def k1_dev12 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_332 : BitVec 32 := 1#32
  let v349 : BitVec 32 := Scalar.muli v47 c1_i32_332
  let v350 : BitVec 32 := Scalar.addi c0_i32_333 v349
  v350.toNat
def k1_dev13 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_430 : BitVec 32 := 1#32
  let v449 : BitVec 32 := Scalar.muli v58 c1_i32_430
  let v450 : BitVec 32 := Scalar.addi c0_i32_431 v449
  v450.toNat
def k1_dev14 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_434 : BitVec 32 := 1#32
  let v453 : BitVec 32 := Scalar.muli v69 c1_i32_434
  let v454 : BitVec 32 := Scalar.addi c0_i32_435 v453
  v454.toNat
def k1_dev15 (d0 : Dev nD) : Nat :=
  let c0_i32_447 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_446 : BitVec 32 := 1#32
  let v459 : BitVec 32 := Scalar.muli v36 c1_i32_446
  let v460 : BitVec 32 := Scalar.addi c0_i32_447 v459
  v460.toNat
def k1_dev16 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_456 : BitVec 32 := 1#32
  let v469 : BitVec 32 := Scalar.muli v47 c1_i32_456
  let v470 : BitVec 32 := Scalar.addi c0_i32_457 v469
  v470.toNat
def k1_dev17 (d0 : Dev nD) : Nat :=
  let c0_i32_555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_554 : BitVec 32 := 1#32
  let v569 : BitVec 32 := Scalar.muli v58 c1_i32_554
  let v570 : BitVec 32 := Scalar.addi c0_i32_555 v569
  v570.toNat
def k1_dev18 (d0 : Dev nD) : Nat :=
  let c0_i32_559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_558 : BitVec 32 := 1#32
  let v573 : BitVec 32 := Scalar.muli v69 c1_i32_558
  let v574 : BitVec 32 := Scalar.addi c0_i32_559 v573
  v574.toNat
def k1_dev19 (d0 : Dev nD) : Nat :=
  let c0_i32_571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_570 : BitVec 32 := 1#32
  let v579 : BitVec 32 := Scalar.muli v36 c1_i32_570
  let v580 : BitVec 32 := Scalar.addi c0_i32_571 v579
  v580.toNat
def k1_dev20 (d0 : Dev nD) : Nat :=
  let c0_i32_581 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_580 : BitVec 32 := 1#32
  let v589 : BitVec 32 := Scalar.muli v47 c1_i32_580
  let v590 : BitVec 32 := Scalar.addi c0_i32_581 v589
  v590.toNat
def k1_dev21 (d0 : Dev nD) : Nat :=
  let c0_i32_679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_678 : BitVec 32 := 1#32
  let v689 : BitVec 32 := Scalar.muli v58 c1_i32_678
  let v690 : BitVec 32 := Scalar.addi c0_i32_679 v689
  v690.toNat
def k1_dev22 (d0 : Dev nD) : Nat :=
  let c0_i32_683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_682 : BitVec 32 := 1#32
  let v693 : BitVec 32 := Scalar.muli v69 c1_i32_682
  let v694 : BitVec 32 := Scalar.addi c0_i32_683 v693
  v694.toNat
def k1_dev23 (d0 : Dev nD) : Nat :=
  let c0_i32_695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_694 : BitVec 32 := 1#32
  let v699 : BitVec 32 := Scalar.muli v36 c1_i32_694
  let v700 : BitVec 32 := Scalar.addi c0_i32_695 v699
  v700.toNat
def k1_dev24 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_704 : BitVec 32 := 1#32
  let v709 : BitVec 32 := Scalar.muli v47 c1_i32_704
  let v710 : BitVec 32 := Scalar.addi c0_i32_705 v709
  v710.toNat
def k1_dev25 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_802 : BitVec 32 := 1#32
  let v809 : BitVec 32 := Scalar.muli v58 c1_i32_802
  let v810 : BitVec 32 := Scalar.addi c0_i32_803 v809
  v810.toNat
def k1_dev26 (d0 : Dev nD) : Nat :=
  let c0_i32_807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_806 : BitVec 32 := 1#32
  let v813 : BitVec 32 := Scalar.muli v69 c1_i32_806
  let v814 : BitVec 32 := Scalar.addi c0_i32_807 v813
  v814.toNat
def k1_dev27 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_818 : BitVec 32 := 1#32
  let v819 : BitVec 32 := Scalar.muli v36 c1_i32_818
  let v820 : BitVec 32 := Scalar.addi c0_i32_819 v819
  v820.toNat
def k1_dev28 (d0 : Dev nD) : Nat :=
  let c0_i32_829 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_828 : BitVec 32 := 1#32
  let v829 : BitVec 32 := Scalar.muli v47 c1_i32_828
  let v830 : BitVec 32 := Scalar.addi c0_i32_829 v829
  v830.toNat
def k1_dev29 (d0 : Dev nD) : Nat :=
  let c0_i32_927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_926 : BitVec 32 := 1#32
  let v929 : BitVec 32 := Scalar.muli v58 c1_i32_926
  let v930 : BitVec 32 := Scalar.addi c0_i32_927 v929
  v930.toNat
def k1_dev30 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_930 : BitVec 32 := 1#32
  let v933 : BitVec 32 := Scalar.muli v69 c1_i32_930
  let v934 : BitVec 32 := Scalar.addi c0_i32_931 v933
  v934.toNat
def k1_dev31 (d0 : Dev nD) : Nat :=
  let c0_i32_943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_942 : BitVec 32 := 1#32
  let v939 : BitVec 32 := Scalar.muli v36 c1_i32_942
  let v940 : BitVec 32 := Scalar.addi c0_i32_943 v939
  v940.toNat
def k1_dev32 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_952 : BitVec 32 := 1#32
  let v949 : BitVec 32 := Scalar.muli v47 c1_i32_952
  let v950 : BitVec 32 := Scalar.addi c0_i32_953 v949
  v950.toNat
def k1_dev33 (d0 : Dev nD) : Nat :=
  let c0_i32_1051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1050 : BitVec 32 := 1#32
  let v1049 : BitVec 32 := Scalar.muli v58 c1_i32_1050
  let v1050 : BitVec 32 := Scalar.addi c0_i32_1051 v1049
  v1050.toNat
def k1_dev34 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1054 : BitVec 32 := 1#32
  let v1053 : BitVec 32 := Scalar.muli v69 c1_i32_1054
  let v1054 : BitVec 32 := Scalar.addi c0_i32_1055 v1053
  v1054.toNat
def k1_dev35 (d0 : Dev nD) : Nat :=
  let c0_i32_1067 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1066 : BitVec 32 := 1#32
  let v1059 : BitVec 32 := Scalar.muli v36 c1_i32_1066
  let v1060 : BitVec 32 := Scalar.addi c0_i32_1067 v1059
  v1060.toNat
def k1_dev36 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1076 : BitVec 32 := 1#32
  let v1069 : BitVec 32 := Scalar.muli v47 c1_i32_1076
  let v1070 : BitVec 32 := Scalar.addi c0_i32_1077 v1069
  v1070.toNat
def k1_dev37 (d0 : Dev nD) : Nat :=
  let c0_i32_1175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1174 : BitVec 32 := 1#32
  let v1169 : BitVec 32 := Scalar.muli v58 c1_i32_1174
  let v1170 : BitVec 32 := Scalar.addi c0_i32_1175 v1169
  v1170.toNat
def k1_dev38 (d0 : Dev nD) : Nat :=
  let c0_i32_1179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1178 : BitVec 32 := 1#32
  let v1173 : BitVec 32 := Scalar.muli v69 c1_i32_1178
  let v1174 : BitVec 32 := Scalar.addi c0_i32_1179 v1173
  v1174.toNat
def k1_dev39 (d0 : Dev nD) : Nat :=
  let c0_i32_1191 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1190 : BitVec 32 := 1#32
  let v1179 : BitVec 32 := Scalar.muli v36 c1_i32_1190
  let v1180 : BitVec 32 := Scalar.addi c0_i32_1191 v1179
  v1180.toNat
def k1_dev40 (d0 : Dev nD) : Nat :=
  let c0_i32_1201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1200 : BitVec 32 := 1#32
  let v1189 : BitVec 32 := Scalar.muli v47 c1_i32_1200
  let v1190 : BitVec 32 := Scalar.addi c0_i32_1201 v1189
  v1190.toNat
def k1_dev41 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1298 : BitVec 32 := 1#32
  let v1289 : BitVec 32 := Scalar.muli v58 c1_i32_1298
  let v1290 : BitVec 32 := Scalar.addi c0_i32_1299 v1289
  v1290.toNat
def k1_dev42 (d0 : Dev nD) : Nat :=
  let c0_i32_1303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1302 : BitVec 32 := 1#32
  let v1293 : BitVec 32 := Scalar.muli v69 c1_i32_1302
  let v1294 : BitVec 32 := Scalar.addi c0_i32_1303 v1293
  v1294.toNat
def k1_dev43 (d0 : Dev nD) : Nat :=
  let c0_i32_1315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1314 : BitVec 32 := 1#32
  let v1299 : BitVec 32 := Scalar.muli v36 c1_i32_1314
  let v1300 : BitVec 32 := Scalar.addi c0_i32_1315 v1299
  v1300.toNat
def k1_dev44 (d0 : Dev nD) : Nat :=
  let c0_i32_1325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1324 : BitVec 32 := 1#32
  let v1309 : BitVec 32 := Scalar.muli v47 c1_i32_1324
  let v1310 : BitVec 32 := Scalar.addi c0_i32_1325 v1309
  v1310.toNat
def k1_dev45 (d0 : Dev nD) : Nat :=
  let c0_i32_1423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1422 : BitVec 32 := 1#32
  let v1409 : BitVec 32 := Scalar.muli v58 c1_i32_1422
  let v1410 : BitVec 32 := Scalar.addi c0_i32_1423 v1409
  v1410.toNat
def k1_dev46 (d0 : Dev nD) : Nat :=
  let c0_i32_1427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1426 : BitVec 32 := 1#32
  let v1413 : BitVec 32 := Scalar.muli v69 c1_i32_1426
  let v1414 : BitVec 32 := Scalar.addi c0_i32_1427 v1413
  v1414.toNat
def k1_dev47 (d0 : Dev nD) : Nat :=
  let c0_i32_1439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1438 : BitVec 32 := 1#32
  let v1419 : BitVec 32 := Scalar.muli v36 c1_i32_1438
  let v1420 : BitVec 32 := Scalar.addi c0_i32_1439 v1419
  v1420.toNat
def k1_dev48 (d0 : Dev nD) : Nat :=
  let c0_i32_1449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1448 : BitVec 32 := 1#32
  let v1429 : BitVec 32 := Scalar.muli v47 c1_i32_1448
  let v1430 : BitVec 32 := Scalar.addi c0_i32_1449 v1429
  v1430.toNat
def k1_dev49 (d0 : Dev nD) : Nat :=
  let c0_i32_1547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1546 : BitVec 32 := 1#32
  let v1529 : BitVec 32 := Scalar.muli v58 c1_i32_1546
  let v1530 : BitVec 32 := Scalar.addi c0_i32_1547 v1529
  v1530.toNat
def k1_dev50 (d0 : Dev nD) : Nat :=
  let c0_i32_1551 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1550 : BitVec 32 := 1#32
  let v1533 : BitVec 32 := Scalar.muli v69 c1_i32_1550
  let v1534 : BitVec 32 := Scalar.addi c0_i32_1551 v1533
  v1534.toNat
def k1_dev51 (d0 : Dev nD) : Nat :=
  let c0_i32_1563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1562 : BitVec 32 := 1#32
  let v1539 : BitVec 32 := Scalar.muli v36 c1_i32_1562
  let v1540 : BitVec 32 := Scalar.addi c0_i32_1563 v1539
  v1540.toNat
def k1_dev52 (d0 : Dev nD) : Nat :=
  let c0_i32_1573 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1572 : BitVec 32 := 1#32
  let v1549 : BitVec 32 := Scalar.muli v47 c1_i32_1572
  let v1550 : BitVec 32 := Scalar.addi c0_i32_1573 v1549
  v1550.toNat
def k1_dev53 (d0 : Dev nD) : Nat :=
  let c0_i32_1671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1670 : BitVec 32 := 1#32
  let v1649 : BitVec 32 := Scalar.muli v58 c1_i32_1670
  let v1650 : BitVec 32 := Scalar.addi c0_i32_1671 v1649
  v1650.toNat
def k1_dev54 (d0 : Dev nD) : Nat :=
  let c0_i32_1675 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1674 : BitVec 32 := 1#32
  let v1653 : BitVec 32 := Scalar.muli v69 c1_i32_1674
  let v1654 : BitVec 32 := Scalar.addi c0_i32_1675 v1653
  v1654.toNat
def k1_dev55 (d0 : Dev nD) : Nat :=
  let c0_i32_1687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1686 : BitVec 32 := 1#32
  let v1659 : BitVec 32 := Scalar.muli v36 c1_i32_1686
  let v1660 : BitVec 32 := Scalar.addi c0_i32_1687 v1659
  v1660.toNat
def k1_dev56 (d0 : Dev nD) : Nat :=
  let c0_i32_1697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1696 : BitVec 32 := 1#32
  let v1669 : BitVec 32 := Scalar.muli v47 c1_i32_1696
  let v1670 : BitVec 32 := Scalar.addi c0_i32_1697 v1669
  v1670.toNat
def k1_dev57 (d0 : Dev nD) : Nat :=
  let c0_i32_1795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1794 : BitVec 32 := 1#32
  let v1769 : BitVec 32 := Scalar.muli v58 c1_i32_1794
  let v1770 : BitVec 32 := Scalar.addi c0_i32_1795 v1769
  v1770.toNat
def k1_dev58 (d0 : Dev nD) : Nat :=
  let c0_i32_1799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1798 : BitVec 32 := 1#32
  let v1773 : BitVec 32 := Scalar.muli v69 c1_i32_1798
  let v1774 : BitVec 32 := Scalar.addi c0_i32_1799 v1773
  v1774.toNat
def k1_dev59 (d0 : Dev nD) : Nat :=
  let c0_i32_1811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1810 : BitVec 32 := 1#32
  let v1779 : BitVec 32 := Scalar.muli v36 c1_i32_1810
  let v1780 : BitVec 32 := Scalar.addi c0_i32_1811 v1779
  v1780.toNat
def k1_dev60 (d0 : Dev nD) : Nat :=
  let c0_i32_1821 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1820 : BitVec 32 := 1#32
  let v1789 : BitVec 32 := Scalar.muli v47 c1_i32_1820
  let v1790 : BitVec 32 := Scalar.addi c0_i32_1821 v1789
  v1790.toNat
def k1_dev61 (d0 : Dev nD) : Nat :=
  let c0_i32_1919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_1918 : BitVec 32 := 1#32
  let v1889 : BitVec 32 := Scalar.muli v58 c1_i32_1918
  let v1890 : BitVec 32 := Scalar.addi c0_i32_1919 v1889
  v1890.toNat
def k1_dev62 (d0 : Dev nD) : Nat :=
  let c0_i32_1923 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_1922 : BitVec 32 := 1#32
  let v1893 : BitVec 32 := Scalar.muli v69 c1_i32_1922
  let v1894 : BitVec 32 := Scalar.addi c0_i32_1923 v1893
  v1894.toNat
def k1_dev63 (d0 : Dev nD) : Nat :=
  let c0_i32_1935 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_1934 : BitVec 32 := 1#32
  let v1899 : BitVec 32 := Scalar.muli v36 c1_i32_1934
  let v1900 : BitVec 32 := Scalar.addi c0_i32_1935 v1899
  v1900.toNat
def k1_dev64 (d0 : Dev nD) : Nat :=
  let c0_i32_1945 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_1944 : BitVec 32 := 1#32
  let v1909 : BitVec 32 := Scalar.muli v47 c1_i32_1944
  let v1910 : BitVec 32 := Scalar.addi c0_i32_1945 v1909
  v1910.toNat
def k1_dev65 (d0 : Dev nD) : Nat :=
  let c0_i32_2043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2042 : BitVec 32 := 1#32
  let v2009 : BitVec 32 := Scalar.muli v58 c1_i32_2042
  let v2010 : BitVec 32 := Scalar.addi c0_i32_2043 v2009
  v2010.toNat
def k1_dev66 (d0 : Dev nD) : Nat :=
  let c0_i32_2047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2046 : BitVec 32 := 1#32
  let v2013 : BitVec 32 := Scalar.muli v69 c1_i32_2046
  let v2014 : BitVec 32 := Scalar.addi c0_i32_2047 v2013
  v2014.toNat
def k1_dev67 (d0 : Dev nD) : Nat :=
  let c0_i32_2059 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2058 : BitVec 32 := 1#32
  let v2019 : BitVec 32 := Scalar.muli v36 c1_i32_2058
  let v2020 : BitVec 32 := Scalar.addi c0_i32_2059 v2019
  v2020.toNat
def k1_dev68 (d0 : Dev nD) : Nat :=
  let c0_i32_2069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2068 : BitVec 32 := 1#32
  let v2029 : BitVec 32 := Scalar.muli v47 c1_i32_2068
  let v2030 : BitVec 32 := Scalar.addi c0_i32_2069 v2029
  v2030.toNat
def k1_dev69 (d0 : Dev nD) : Nat :=
  let c0_i32_2167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2166 : BitVec 32 := 1#32
  let v2129 : BitVec 32 := Scalar.muli v58 c1_i32_2166
  let v2130 : BitVec 32 := Scalar.addi c0_i32_2167 v2129
  v2130.toNat
def k1_dev70 (d0 : Dev nD) : Nat :=
  let c0_i32_2171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2170 : BitVec 32 := 1#32
  let v2133 : BitVec 32 := Scalar.muli v69 c1_i32_2170
  let v2134 : BitVec 32 := Scalar.addi c0_i32_2171 v2133
  v2134.toNat
def k1_dev71 (d0 : Dev nD) : Nat :=
  let c0_i32_2183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2182 : BitVec 32 := 1#32
  let v2139 : BitVec 32 := Scalar.muli v36 c1_i32_2182
  let v2140 : BitVec 32 := Scalar.addi c0_i32_2183 v2139
  v2140.toNat
def k1_dev72 (d0 : Dev nD) : Nat :=
  let c0_i32_2193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2192 : BitVec 32 := 1#32
  let v2149 : BitVec 32 := Scalar.muli v47 c1_i32_2192
  let v2150 : BitVec 32 := Scalar.addi c0_i32_2193 v2149
  v2150.toNat
def k1_dev73 (d0 : Dev nD) : Nat :=
  let c0_i32_2291 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2290 : BitVec 32 := 1#32
  let v2249 : BitVec 32 := Scalar.muli v58 c1_i32_2290
  let v2250 : BitVec 32 := Scalar.addi c0_i32_2291 v2249
  v2250.toNat
def k1_dev74 (d0 : Dev nD) : Nat :=
  let c0_i32_2295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2294 : BitVec 32 := 1#32
  let v2253 : BitVec 32 := Scalar.muli v69 c1_i32_2294
  let v2254 : BitVec 32 := Scalar.addi c0_i32_2295 v2253
  v2254.toNat
def k1_dev75 (d0 : Dev nD) : Nat :=
  let c0_i32_2307 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2306 : BitVec 32 := 1#32
  let v2259 : BitVec 32 := Scalar.muli v36 c1_i32_2306
  let v2260 : BitVec 32 := Scalar.addi c0_i32_2307 v2259
  v2260.toNat
def k1_dev76 (d0 : Dev nD) : Nat :=
  let c0_i32_2317 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2316 : BitVec 32 := 1#32
  let v2269 : BitVec 32 := Scalar.muli v47 c1_i32_2316
  let v2270 : BitVec 32 := Scalar.addi c0_i32_2317 v2269
  v2270.toNat
def k1_dev77 (d0 : Dev nD) : Nat :=
  let c0_i32_2415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2414 : BitVec 32 := 1#32
  let v2369 : BitVec 32 := Scalar.muli v58 c1_i32_2414
  let v2370 : BitVec 32 := Scalar.addi c0_i32_2415 v2369
  v2370.toNat
def k1_dev78 (d0 : Dev nD) : Nat :=
  let c0_i32_2419 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2418 : BitVec 32 := 1#32
  let v2373 : BitVec 32 := Scalar.muli v69 c1_i32_2418
  let v2374 : BitVec 32 := Scalar.addi c0_i32_2419 v2373
  v2374.toNat
def k1_dev79 (d0 : Dev nD) : Nat :=
  let c0_i32_2431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2430 : BitVec 32 := 1#32
  let v2379 : BitVec 32 := Scalar.muli v36 c1_i32_2430
  let v2380 : BitVec 32 := Scalar.addi c0_i32_2431 v2379
  v2380.toNat
def k1_dev80 (d0 : Dev nD) : Nat :=
  let c0_i32_2441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2440 : BitVec 32 := 1#32
  let v2389 : BitVec 32 := Scalar.muli v47 c1_i32_2440
  let v2390 : BitVec 32 := Scalar.addi c0_i32_2441 v2389
  v2390.toNat
def k1_dev81 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2538 : BitVec 32 := 1#32
  let v2489 : BitVec 32 := Scalar.muli v58 c1_i32_2538
  let v2490 : BitVec 32 := Scalar.addi c0_i32_2539 v2489
  v2490.toNat
def k1_dev82 (d0 : Dev nD) : Nat :=
  let c0_i32_2543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2542 : BitVec 32 := 1#32
  let v2493 : BitVec 32 := Scalar.muli v69 c1_i32_2542
  let v2494 : BitVec 32 := Scalar.addi c0_i32_2543 v2493
  v2494.toNat
def k1_dev83 (d0 : Dev nD) : Nat :=
  let c0_i32_2555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2554 : BitVec 32 := 1#32
  let v2499 : BitVec 32 := Scalar.muli v36 c1_i32_2554
  let v2500 : BitVec 32 := Scalar.addi c0_i32_2555 v2499
  v2500.toNat
def k1_dev84 (d0 : Dev nD) : Nat :=
  let c0_i32_2565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2564 : BitVec 32 := 1#32
  let v2509 : BitVec 32 := Scalar.muli v47 c1_i32_2564
  let v2510 : BitVec 32 := Scalar.addi c0_i32_2565 v2509
  v2510.toNat
def k1_dev85 (d0 : Dev nD) : Nat :=
  let c0_i32_2663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2662 : BitVec 32 := 1#32
  let v2609 : BitVec 32 := Scalar.muli v58 c1_i32_2662
  let v2610 : BitVec 32 := Scalar.addi c0_i32_2663 v2609
  v2610.toNat
def k1_dev86 (d0 : Dev nD) : Nat :=
  let c0_i32_2667 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2666 : BitVec 32 := 1#32
  let v2613 : BitVec 32 := Scalar.muli v69 c1_i32_2666
  let v2614 : BitVec 32 := Scalar.addi c0_i32_2667 v2613
  v2614.toNat
def k1_dev87 (d0 : Dev nD) : Nat :=
  let c0_i32_2679 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2678 : BitVec 32 := 1#32
  let v2619 : BitVec 32 := Scalar.muli v36 c1_i32_2678
  let v2620 : BitVec 32 := Scalar.addi c0_i32_2679 v2619
  v2620.toNat
def k1_dev88 (d0 : Dev nD) : Nat :=
  let c0_i32_2689 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2688 : BitVec 32 := 1#32
  let v2629 : BitVec 32 := Scalar.muli v47 c1_i32_2688
  let v2630 : BitVec 32 := Scalar.addi c0_i32_2689 v2629
  v2630.toNat
def k1_dev89 (d0 : Dev nD) : Nat :=
  let c0_i32_2787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2786 : BitVec 32 := 1#32
  let v2729 : BitVec 32 := Scalar.muli v58 c1_i32_2786
  let v2730 : BitVec 32 := Scalar.addi c0_i32_2787 v2729
  v2730.toNat
def k1_dev90 (d0 : Dev nD) : Nat :=
  let c0_i32_2791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2790 : BitVec 32 := 1#32
  let v2733 : BitVec 32 := Scalar.muli v69 c1_i32_2790
  let v2734 : BitVec 32 := Scalar.addi c0_i32_2791 v2733
  v2734.toNat
def k1_dev91 (d0 : Dev nD) : Nat :=
  let c0_i32_2803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2802 : BitVec 32 := 1#32
  let v2739 : BitVec 32 := Scalar.muli v36 c1_i32_2802
  let v2740 : BitVec 32 := Scalar.addi c0_i32_2803 v2739
  v2740.toNat
def k1_dev92 (d0 : Dev nD) : Nat :=
  let c0_i32_2813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2812 : BitVec 32 := 1#32
  let v2749 : BitVec 32 := Scalar.muli v47 c1_i32_2812
  let v2750 : BitVec 32 := Scalar.addi c0_i32_2813 v2749
  v2750.toNat
def k1_dev93 (d0 : Dev nD) : Nat :=
  let c0_i32_2911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_2910 : BitVec 32 := 1#32
  let v2849 : BitVec 32 := Scalar.muli v58 c1_i32_2910
  let v2850 : BitVec 32 := Scalar.addi c0_i32_2911 v2849
  v2850.toNat
def k1_dev94 (d0 : Dev nD) : Nat :=
  let c0_i32_2915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_2914 : BitVec 32 := 1#32
  let v2853 : BitVec 32 := Scalar.muli v69 c1_i32_2914
  let v2854 : BitVec 32 := Scalar.addi c0_i32_2915 v2853
  v2854.toNat
def k1_dev95 (d0 : Dev nD) : Nat :=
  let c0_i32_2927 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_2926 : BitVec 32 := 1#32
  let v2859 : BitVec 32 := Scalar.muli v36 c1_i32_2926
  let v2860 : BitVec 32 := Scalar.addi c0_i32_2927 v2859
  v2860.toNat
def k1_dev96 (d0 : Dev nD) : Nat :=
  let c0_i32_2937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_2936 : BitVec 32 := 1#32
  let v2869 : BitVec 32 := Scalar.muli v47 c1_i32_2936
  let v2870 : BitVec 32 := Scalar.addi c0_i32_2937 v2869
  v2870.toNat
def k1_dev97 (d0 : Dev nD) : Nat :=
  let c0_i32_3035 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3034 : BitVec 32 := 1#32
  let v2969 : BitVec 32 := Scalar.muli v58 c1_i32_3034
  let v2970 : BitVec 32 := Scalar.addi c0_i32_3035 v2969
  v2970.toNat
def k1_dev98 (d0 : Dev nD) : Nat :=
  let c0_i32_3039 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3038 : BitVec 32 := 1#32
  let v2973 : BitVec 32 := Scalar.muli v69 c1_i32_3038
  let v2974 : BitVec 32 := Scalar.addi c0_i32_3039 v2973
  v2974.toNat
def k1_dev99 (d0 : Dev nD) : Nat :=
  let c0_i32_3051 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3050 : BitVec 32 := 1#32
  let v2979 : BitVec 32 := Scalar.muli v36 c1_i32_3050
  let v2980 : BitVec 32 := Scalar.addi c0_i32_3051 v2979
  v2980.toNat
def k1_dev100 (d0 : Dev nD) : Nat :=
  let c0_i32_3061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3060 : BitVec 32 := 1#32
  let v2989 : BitVec 32 := Scalar.muli v47 c1_i32_3060
  let v2990 : BitVec 32 := Scalar.addi c0_i32_3061 v2989
  v2990.toNat
def k1_dev101 (d0 : Dev nD) : Nat :=
  let c0_i32_3159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3158 : BitVec 32 := 1#32
  let v3089 : BitVec 32 := Scalar.muli v58 c1_i32_3158
  let v3090 : BitVec 32 := Scalar.addi c0_i32_3159 v3089
  v3090.toNat
def k1_dev102 (d0 : Dev nD) : Nat :=
  let c0_i32_3163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3162 : BitVec 32 := 1#32
  let v3093 : BitVec 32 := Scalar.muli v69 c1_i32_3162
  let v3094 : BitVec 32 := Scalar.addi c0_i32_3163 v3093
  v3094.toNat
def k1_dev103 (d0 : Dev nD) : Nat :=
  let c0_i32_3175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3174 : BitVec 32 := 1#32
  let v3099 : BitVec 32 := Scalar.muli v36 c1_i32_3174
  let v3100 : BitVec 32 := Scalar.addi c0_i32_3175 v3099
  v3100.toNat
def k1_dev104 (d0 : Dev nD) : Nat :=
  let c0_i32_3185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3184 : BitVec 32 := 1#32
  let v3109 : BitVec 32 := Scalar.muli v47 c1_i32_3184
  let v3110 : BitVec 32 := Scalar.addi c0_i32_3185 v3109
  v3110.toNat
def k1_dev105 (d0 : Dev nD) : Nat :=
  let c0_i32_3283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3282 : BitVec 32 := 1#32
  let v3209 : BitVec 32 := Scalar.muli v58 c1_i32_3282
  let v3210 : BitVec 32 := Scalar.addi c0_i32_3283 v3209
  v3210.toNat
def k1_dev106 (d0 : Dev nD) : Nat :=
  let c0_i32_3287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3286 : BitVec 32 := 1#32
  let v3213 : BitVec 32 := Scalar.muli v69 c1_i32_3286
  let v3214 : BitVec 32 := Scalar.addi c0_i32_3287 v3213
  v3214.toNat
def k1_dev107 (d0 : Dev nD) : Nat :=
  let c0_i32_3299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3298 : BitVec 32 := 1#32
  let v3219 : BitVec 32 := Scalar.muli v36 c1_i32_3298
  let v3220 : BitVec 32 := Scalar.addi c0_i32_3299 v3219
  v3220.toNat
def k1_dev108 (d0 : Dev nD) : Nat :=
  let c0_i32_3309 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3308 : BitVec 32 := 1#32
  let v3229 : BitVec 32 := Scalar.muli v47 c1_i32_3308
  let v3230 : BitVec 32 := Scalar.addi c0_i32_3309 v3229
  v3230.toNat
def k1_dev109 (d0 : Dev nD) : Nat :=
  let c0_i32_3407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3406 : BitVec 32 := 1#32
  let v3329 : BitVec 32 := Scalar.muli v58 c1_i32_3406
  let v3330 : BitVec 32 := Scalar.addi c0_i32_3407 v3329
  v3330.toNat
def k1_dev110 (d0 : Dev nD) : Nat :=
  let c0_i32_3411 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3410 : BitVec 32 := 1#32
  let v3333 : BitVec 32 := Scalar.muli v69 c1_i32_3410
  let v3334 : BitVec 32 := Scalar.addi c0_i32_3411 v3333
  v3334.toNat
def k1_dev111 (d0 : Dev nD) : Nat :=
  let c0_i32_3423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3422 : BitVec 32 := 1#32
  let v3339 : BitVec 32 := Scalar.muli v36 c1_i32_3422
  let v3340 : BitVec 32 := Scalar.addi c0_i32_3423 v3339
  v3340.toNat
def k1_dev112 (d0 : Dev nD) : Nat :=
  let c0_i32_3433 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3432 : BitVec 32 := 1#32
  let v3349 : BitVec 32 := Scalar.muli v47 c1_i32_3432
  let v3350 : BitVec 32 := Scalar.addi c0_i32_3433 v3349
  v3350.toNat
def k1_dev113 (d0 : Dev nD) : Nat :=
  let c0_i32_3531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3530 : BitVec 32 := 1#32
  let v3449 : BitVec 32 := Scalar.muli v58 c1_i32_3530
  let v3450 : BitVec 32 := Scalar.addi c0_i32_3531 v3449
  v3450.toNat
def k1_dev114 (d0 : Dev nD) : Nat :=
  let c0_i32_3535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3534 : BitVec 32 := 1#32
  let v3453 : BitVec 32 := Scalar.muli v69 c1_i32_3534
  let v3454 : BitVec 32 := Scalar.addi c0_i32_3535 v3453
  v3454.toNat
def k1_dev115 (d0 : Dev nD) : Nat :=
  let c0_i32_3547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3546 : BitVec 32 := 1#32
  let v3459 : BitVec 32 := Scalar.muli v36 c1_i32_3546
  let v3460 : BitVec 32 := Scalar.addi c0_i32_3547 v3459
  v3460.toNat
def k1_dev116 (d0 : Dev nD) : Nat :=
  let c0_i32_3557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3556 : BitVec 32 := 1#32
  let v3469 : BitVec 32 := Scalar.muli v47 c1_i32_3556
  let v3470 : BitVec 32 := Scalar.addi c0_i32_3557 v3469
  v3470.toNat
def k1_dev117 (d0 : Dev nD) : Nat :=
  let c0_i32_3655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3654 : BitVec 32 := 1#32
  let v3569 : BitVec 32 := Scalar.muli v58 c1_i32_3654
  let v3570 : BitVec 32 := Scalar.addi c0_i32_3655 v3569
  v3570.toNat
def k1_dev118 (d0 : Dev nD) : Nat :=
  let c0_i32_3659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3658 : BitVec 32 := 1#32
  let v3573 : BitVec 32 := Scalar.muli v69 c1_i32_3658
  let v3574 : BitVec 32 := Scalar.addi c0_i32_3659 v3573
  v3574.toNat
def k1_dev119 (d0 : Dev nD) : Nat :=
  let c0_i32_3671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3670 : BitVec 32 := 1#32
  let v3579 : BitVec 32 := Scalar.muli v36 c1_i32_3670
  let v3580 : BitVec 32 := Scalar.addi c0_i32_3671 v3579
  v3580.toNat
def k1_dev120 (d0 : Dev nD) : Nat :=
  let c0_i32_3681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3680 : BitVec 32 := 1#32
  let v3589 : BitVec 32 := Scalar.muli v47 c1_i32_3680
  let v3590 : BitVec 32 := Scalar.addi c0_i32_3681 v3589
  v3590.toNat
def k1_dev121 (d0 : Dev nD) : Nat :=
  let c0_i32_3779 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3778 : BitVec 32 := 1#32
  let v3689 : BitVec 32 := Scalar.muli v58 c1_i32_3778
  let v3690 : BitVec 32 := Scalar.addi c0_i32_3779 v3689
  v3690.toNat
def k1_dev122 (d0 : Dev nD) : Nat :=
  let c0_i32_3783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3782 : BitVec 32 := 1#32
  let v3693 : BitVec 32 := Scalar.muli v69 c1_i32_3782
  let v3694 : BitVec 32 := Scalar.addi c0_i32_3783 v3693
  v3694.toNat
def k1_dev123 (d0 : Dev nD) : Nat :=
  let c0_i32_3795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3794 : BitVec 32 := 1#32
  let v3699 : BitVec 32 := Scalar.muli v36 c1_i32_3794
  let v3700 : BitVec 32 := Scalar.addi c0_i32_3795 v3699
  v3700.toNat
def k1_dev124 (d0 : Dev nD) : Nat :=
  let c0_i32_3805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3804 : BitVec 32 := 1#32
  let v3709 : BitVec 32 := Scalar.muli v47 c1_i32_3804
  let v3710 : BitVec 32 := Scalar.addi c0_i32_3805 v3709
  v3710.toNat
def k1_dev125 (d0 : Dev nD) : Nat :=
  let c0_i32_3903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_3902 : BitVec 32 := 1#32
  let v3809 : BitVec 32 := Scalar.muli v58 c1_i32_3902
  let v3810 : BitVec 32 := Scalar.addi c0_i32_3903 v3809
  v3810.toNat
def k1_dev126 (d0 : Dev nD) : Nat :=
  let c0_i32_3907 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_3906 : BitVec 32 := 1#32
  let v3813 : BitVec 32 := Scalar.muli v69 c1_i32_3906
  let v3814 : BitVec 32 := Scalar.addi c0_i32_3907 v3813
  v3814.toNat
def k1_off5 (d0 : Dev nD) (c1_i32_3914 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3819 : BitVec 32 := Scalar.addi v2 c1_i32_3914
  let c32_i32_3915 : BitVec 32 := 32#32
  let c0_i32_3916 : BitVec 32 := 0#32
  let v3820 : BitVec 1 := Scalar.cmpi .eq c32_i32_3915 c0_i32_3916
  let c1_i32_3917 : BitVec 32 := 1#32
  let v3821 : BitVec 32 := Scalar.select v3820 c1_i32_3917 c32_i32_3915
  let v3822 : BitVec 32 := Scalar.remsi v3819 v3821
  let c0_i32_3919 : BitVec 32 := 0#32
  let v3824 : BitVec 1 := Scalar.cmpi .slt v3822 c0_i32_3919
  let c0_i32_3920 : BitVec 32 := 0#32
  let v3825 : BitVec 1 := Scalar.cmpi .slt v3821 c0_i32_3920
  let v3826 : BitVec 1 := Scalar.xori v3824 v3825
  let c0_i32_3918 : BitVec 32 := 0#32
  let v3823 : BitVec 1 := Scalar.cmpi .ne v3822 c0_i32_3918
  let v3827 : BitVec 1 := Scalar.andi v3826 v3823
  let v3828 : BitVec 32 := Scalar.addi v3822 v3821
  let v3829 : BitVec 32 := Scalar.select v3827 v3828 v3822
  let c128_i32_3921 : BitVec 32 := 128#32
  let v3830 : BitVec 32 := Scalar.muli v3829 c128_i32_3921
  let c0_i32_3924 : BitVec 32 := 0#32
  ![v3830.toNat, 0]
def k1_off5_at (r : Fin 31) : BitVec 32 :=
  if r.val < 15 then
    if r.val < 7 then
      if r.val < 3 then
        if r.val < 1 then
          1#32
        else
          if r.val < 2 then
            0#32
          else
            4294967295#32
      else
        if r.val < 5 then
          if r.val < 4 then
            4294967294#32
          else
            4294967293#32
        else
          if r.val < 6 then
            4294967292#32
          else
            4294967291#32
    else
      if r.val < 11 then
        if r.val < 9 then
          if r.val < 8 then
            4294967290#32
          else
            4294967289#32
        else
          if r.val < 10 then
            4294967288#32
          else
            4294967287#32
      else
        if r.val < 13 then
          if r.val < 12 then
            4294967286#32
          else
            4294967285#32
        else
          if r.val < 14 then
            4294967284#32
          else
            4294967283#32
  else
    if r.val < 23 then
      if r.val < 19 then
        if r.val < 17 then
          if r.val < 16 then
            4294967282#32
          else
            4294967281#32
        else
          if r.val < 18 then
            4294967280#32
          else
            4294967279#32
      else
        if r.val < 21 then
          if r.val < 20 then
            4294967278#32
          else
            4294967277#32
        else
          if r.val < 22 then
            4294967276#32
          else
            4294967275#32
    else
      if r.val < 27 then
        if r.val < 25 then
          if r.val < 24 then
            4294967274#32
          else
            4294967273#32
        else
          if r.val < 26 then
            4294967272#32
          else
            4294967271#32
      else
        if r.val < 29 then
          if r.val < 28 then
            4294967270#32
          else
            4294967269#32
        else
          if r.val < 30 then
            4294967268#32
          else
            4294967267#32
def k1_off6 (d0 : Dev nD) (c_m1_i32_3927 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v3836 : BitVec 32 := Scalar.addi v2 c_m1_i32_3927
  let c32_i32_3928 : BitVec 32 := 32#32
  let c0_i32_3929 : BitVec 32 := 0#32
  let v3837 : BitVec 1 := Scalar.cmpi .eq c32_i32_3928 c0_i32_3929
  let c1_i32_3930 : BitVec 32 := 1#32
  let v3838 : BitVec 32 := Scalar.select v3837 c1_i32_3930 c32_i32_3928
  let v3839 : BitVec 32 := Scalar.remsi v3836 v3838
  let c0_i32_3932 : BitVec 32 := 0#32
  let v3841 : BitVec 1 := Scalar.cmpi .slt v3839 c0_i32_3932
  let c0_i32_3933 : BitVec 32 := 0#32
  let v3842 : BitVec 1 := Scalar.cmpi .slt v3838 c0_i32_3933
  let v3843 : BitVec 1 := Scalar.xori v3841 v3842
  let c0_i32_3931 : BitVec 32 := 0#32
  let v3840 : BitVec 1 := Scalar.cmpi .ne v3839 c0_i32_3931
  let v3844 : BitVec 1 := Scalar.andi v3843 v3840
  let v3845 : BitVec 32 := Scalar.addi v3839 v3838
  let v3846 : BitVec 32 := Scalar.select v3844 v3845 v3839
  let c128_i32_3934 : BitVec 32 := 128#32
  let v3847 : BitVec 32 := Scalar.muli v3846 c128_i32_3934
  let c4096_i32_3937 : BitVec 32 := 4096#32
  ![v3847.toNat, 4096]
def k1_off6_at (r : Fin 31) : BitVec 32 :=
  if r.val < 15 then
    if r.val < 7 then
      if r.val < 3 then
        if r.val < 1 then
          4294967295#32
        else
          if r.val < 2 then
            0#32
          else
            1#32
      else
        if r.val < 5 then
          if r.val < 4 then
            2#32
          else
            3#32
        else
          if r.val < 6 then
            4#32
          else
            5#32
    else
      if r.val < 11 then
        if r.val < 9 then
          if r.val < 8 then
            6#32
          else
            7#32
        else
          if r.val < 10 then
            8#32
          else
            9#32
      else
        if r.val < 13 then
          if r.val < 12 then
            10#32
          else
            11#32
        else
          if r.val < 14 then
            12#32
          else
            13#32
  else
    if r.val < 23 then
      if r.val < 19 then
        if r.val < 17 then
          if r.val < 16 then
            14#32
          else
            15#32
        else
          if r.val < 18 then
            16#32
          else
            17#32
      else
        if r.val < 21 then
          if r.val < 20 then
            18#32
          else
            19#32
        else
          if r.val < 22 then
            20#32
          else
            21#32
    else
      if r.val < 27 then
        if r.val < 25 then
          if r.val < 24 then
            22#32
          else
            23#32
        else
          if r.val < 26 then
            24#32
          else
            25#32
      else
        if r.val < 29 then
          if r.val < 28 then
            26#32
          else
            27#32
        else
          if r.val < 30 then
            28#32
          else
            29#32
def k1_dev127 (d0 : Dev nD) : Nat :=
  let c0_i32_3977 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_3976 : BitVec 32 := 1#32
  let v3899 : BitVec 32 := Scalar.muli v36 c1_i32_3976
  let v3900 : BitVec 32 := Scalar.addi c0_i32_3977 v3899
  v3900.toNat
def k1_dev128 (d0 : Dev nD) : Nat :=
  let c0_i32_3991 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_3990 : BitVec 32 := 1#32
  let v3919 : BitVec 32 := Scalar.muli v47 c1_i32_3990
  let v3920 : BitVec 32 := Scalar.addi c0_i32_3991 v3919
  v3920.toNat
def k1_dev129 (d0 : Dev nD) : Nat :=
  let c0_i32_4019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4018 : BitVec 32 := 1#32
  let v3949 : BitVec 32 := Scalar.muli v58 c1_i32_4018
  let v3950 : BitVec 32 := Scalar.addi c0_i32_4019 v3949
  v3950.toNat
def k1_dev130 (d0 : Dev nD) : Nat :=
  let c0_i32_4023 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4022 : BitVec 32 := 1#32
  let v3953 : BitVec 32 := Scalar.muli v69 c1_i32_4022
  let v3954 : BitVec 32 := Scalar.addi c0_i32_4023 v3953
  v3954.toNat
def k1_dev131 (d0 : Dev nD) : Nat :=
  let c0_i32_4041 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4040 : BitVec 32 := 1#32
  let v3971 : BitVec 32 := Scalar.muli v36 c1_i32_4040
  let v3972 : BitVec 32 := Scalar.addi c0_i32_4041 v3971
  v3972.toNat
def k1_dev132 (d0 : Dev nD) : Nat :=
  let c0_i32_4055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4054 : BitVec 32 := 1#32
  let v3991 : BitVec 32 := Scalar.muli v47 c1_i32_4054
  let v3992 : BitVec 32 := Scalar.addi c0_i32_4055 v3991
  v3992.toNat
def k1_dev133 (d0 : Dev nD) : Nat :=
  let c0_i32_4083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4082 : BitVec 32 := 1#32
  let v4021 : BitVec 32 := Scalar.muli v58 c1_i32_4082
  let v4022 : BitVec 32 := Scalar.addi c0_i32_4083 v4021
  v4022.toNat
def k1_dev134 (d0 : Dev nD) : Nat :=
  let c0_i32_4087 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4086 : BitVec 32 := 1#32
  let v4025 : BitVec 32 := Scalar.muli v69 c1_i32_4086
  let v4026 : BitVec 32 := Scalar.addi c0_i32_4087 v4025
  v4026.toNat
def k1_dev135 (d0 : Dev nD) : Nat :=
  let c0_i32_4105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4104 : BitVec 32 := 1#32
  let v4043 : BitVec 32 := Scalar.muli v36 c1_i32_4104
  let v4044 : BitVec 32 := Scalar.addi c0_i32_4105 v4043
  v4044.toNat
def k1_dev136 (d0 : Dev nD) : Nat :=
  let c0_i32_4119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4118 : BitVec 32 := 1#32
  let v4063 : BitVec 32 := Scalar.muli v47 c1_i32_4118
  let v4064 : BitVec 32 := Scalar.addi c0_i32_4119 v4063
  v4064.toNat
def k1_dev137 (d0 : Dev nD) : Nat :=
  let c0_i32_4147 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4146 : BitVec 32 := 1#32
  let v4093 : BitVec 32 := Scalar.muli v58 c1_i32_4146
  let v4094 : BitVec 32 := Scalar.addi c0_i32_4147 v4093
  v4094.toNat
def k1_dev138 (d0 : Dev nD) : Nat :=
  let c0_i32_4151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4150 : BitVec 32 := 1#32
  let v4097 : BitVec 32 := Scalar.muli v69 c1_i32_4150
  let v4098 : BitVec 32 := Scalar.addi c0_i32_4151 v4097
  v4098.toNat
def k1_dev139 (d0 : Dev nD) : Nat :=
  let c0_i32_4169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4168 : BitVec 32 := 1#32
  let v4115 : BitVec 32 := Scalar.muli v36 c1_i32_4168
  let v4116 : BitVec 32 := Scalar.addi c0_i32_4169 v4115
  v4116.toNat
def k1_dev140 (d0 : Dev nD) : Nat :=
  let c0_i32_4183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4182 : BitVec 32 := 1#32
  let v4135 : BitVec 32 := Scalar.muli v47 c1_i32_4182
  let v4136 : BitVec 32 := Scalar.addi c0_i32_4183 v4135
  v4136.toNat
def k1_dev141 (d0 : Dev nD) : Nat :=
  let c0_i32_4211 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4210 : BitVec 32 := 1#32
  let v4165 : BitVec 32 := Scalar.muli v58 c1_i32_4210
  let v4166 : BitVec 32 := Scalar.addi c0_i32_4211 v4165
  v4166.toNat
def k1_dev142 (d0 : Dev nD) : Nat :=
  let c0_i32_4215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4214 : BitVec 32 := 1#32
  let v4169 : BitVec 32 := Scalar.muli v69 c1_i32_4214
  let v4170 : BitVec 32 := Scalar.addi c0_i32_4215 v4169
  v4170.toNat
def k1_dev143 (d0 : Dev nD) : Nat :=
  let c0_i32_4233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4232 : BitVec 32 := 1#32
  let v4187 : BitVec 32 := Scalar.muli v36 c1_i32_4232
  let v4188 : BitVec 32 := Scalar.addi c0_i32_4233 v4187
  v4188.toNat
def k1_dev144 (d0 : Dev nD) : Nat :=
  let c0_i32_4247 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4246 : BitVec 32 := 1#32
  let v4207 : BitVec 32 := Scalar.muli v47 c1_i32_4246
  let v4208 : BitVec 32 := Scalar.addi c0_i32_4247 v4207
  v4208.toNat
def k1_dev145 (d0 : Dev nD) : Nat :=
  let c0_i32_4275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4274 : BitVec 32 := 1#32
  let v4237 : BitVec 32 := Scalar.muli v58 c1_i32_4274
  let v4238 : BitVec 32 := Scalar.addi c0_i32_4275 v4237
  v4238.toNat
def k1_dev146 (d0 : Dev nD) : Nat :=
  let c0_i32_4279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4278 : BitVec 32 := 1#32
  let v4241 : BitVec 32 := Scalar.muli v69 c1_i32_4278
  let v4242 : BitVec 32 := Scalar.addi c0_i32_4279 v4241
  v4242.toNat
def k1_dev147 (d0 : Dev nD) : Nat :=
  let c0_i32_4297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4296 : BitVec 32 := 1#32
  let v4259 : BitVec 32 := Scalar.muli v36 c1_i32_4296
  let v4260 : BitVec 32 := Scalar.addi c0_i32_4297 v4259
  v4260.toNat
def k1_dev148 (d0 : Dev nD) : Nat :=
  let c0_i32_4311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4310 : BitVec 32 := 1#32
  let v4279 : BitVec 32 := Scalar.muli v47 c1_i32_4310
  let v4280 : BitVec 32 := Scalar.addi c0_i32_4311 v4279
  v4280.toNat
def k1_dev149 (d0 : Dev nD) : Nat :=
  let c0_i32_4339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4338 : BitVec 32 := 1#32
  let v4309 : BitVec 32 := Scalar.muli v58 c1_i32_4338
  let v4310 : BitVec 32 := Scalar.addi c0_i32_4339 v4309
  v4310.toNat
def k1_dev150 (d0 : Dev nD) : Nat :=
  let c0_i32_4343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4342 : BitVec 32 := 1#32
  let v4313 : BitVec 32 := Scalar.muli v69 c1_i32_4342
  let v4314 : BitVec 32 := Scalar.addi c0_i32_4343 v4313
  v4314.toNat
def k1_dev151 (d0 : Dev nD) : Nat :=
  let c0_i32_4361 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4360 : BitVec 32 := 1#32
  let v4331 : BitVec 32 := Scalar.muli v36 c1_i32_4360
  let v4332 : BitVec 32 := Scalar.addi c0_i32_4361 v4331
  v4332.toNat
def k1_dev152 (d0 : Dev nD) : Nat :=
  let c0_i32_4375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4374 : BitVec 32 := 1#32
  let v4351 : BitVec 32 := Scalar.muli v47 c1_i32_4374
  let v4352 : BitVec 32 := Scalar.addi c0_i32_4375 v4351
  v4352.toNat
def k1_dev153 (d0 : Dev nD) : Nat :=
  let c0_i32_4403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4402 : BitVec 32 := 1#32
  let v4381 : BitVec 32 := Scalar.muli v58 c1_i32_4402
  let v4382 : BitVec 32 := Scalar.addi c0_i32_4403 v4381
  v4382.toNat
def k1_dev154 (d0 : Dev nD) : Nat :=
  let c0_i32_4407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4406 : BitVec 32 := 1#32
  let v4385 : BitVec 32 := Scalar.muli v69 c1_i32_4406
  let v4386 : BitVec 32 := Scalar.addi c0_i32_4407 v4385
  v4386.toNat
def k1_dev155 (d0 : Dev nD) : Nat :=
  let c0_i32_4425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4424 : BitVec 32 := 1#32
  let v4403 : BitVec 32 := Scalar.muli v36 c1_i32_4424
  let v4404 : BitVec 32 := Scalar.addi c0_i32_4425 v4403
  v4404.toNat
def k1_dev156 (d0 : Dev nD) : Nat :=
  let c0_i32_4439 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4438 : BitVec 32 := 1#32
  let v4423 : BitVec 32 := Scalar.muli v47 c1_i32_4438
  let v4424 : BitVec 32 := Scalar.addi c0_i32_4439 v4423
  v4424.toNat
def k1_dev157 (d0 : Dev nD) : Nat :=
  let c0_i32_4467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4466 : BitVec 32 := 1#32
  let v4453 : BitVec 32 := Scalar.muli v58 c1_i32_4466
  let v4454 : BitVec 32 := Scalar.addi c0_i32_4467 v4453
  v4454.toNat
def k1_dev158 (d0 : Dev nD) : Nat :=
  let c0_i32_4471 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4470 : BitVec 32 := 1#32
  let v4457 : BitVec 32 := Scalar.muli v69 c1_i32_4470
  let v4458 : BitVec 32 := Scalar.addi c0_i32_4471 v4457
  v4458.toNat
def k1_dev159 (d0 : Dev nD) : Nat :=
  let c0_i32_4489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4488 : BitVec 32 := 1#32
  let v4475 : BitVec 32 := Scalar.muli v36 c1_i32_4488
  let v4476 : BitVec 32 := Scalar.addi c0_i32_4489 v4475
  v4476.toNat
def k1_dev160 (d0 : Dev nD) : Nat :=
  let c0_i32_4503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4502 : BitVec 32 := 1#32
  let v4495 : BitVec 32 := Scalar.muli v47 c1_i32_4502
  let v4496 : BitVec 32 := Scalar.addi c0_i32_4503 v4495
  v4496.toNat
def k1_dev161 (d0 : Dev nD) : Nat :=
  let c0_i32_4531 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4530 : BitVec 32 := 1#32
  let v4525 : BitVec 32 := Scalar.muli v58 c1_i32_4530
  let v4526 : BitVec 32 := Scalar.addi c0_i32_4531 v4525
  v4526.toNat
def k1_dev162 (d0 : Dev nD) : Nat :=
  let c0_i32_4535 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4534 : BitVec 32 := 1#32
  let v4529 : BitVec 32 := Scalar.muli v69 c1_i32_4534
  let v4530 : BitVec 32 := Scalar.addi c0_i32_4535 v4529
  v4530.toNat
def k1_dev163 (d0 : Dev nD) : Nat :=
  let c0_i32_4553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4552 : BitVec 32 := 1#32
  let v4547 : BitVec 32 := Scalar.muli v36 c1_i32_4552
  let v4548 : BitVec 32 := Scalar.addi c0_i32_4553 v4547
  v4548.toNat
def k1_dev164 (d0 : Dev nD) : Nat :=
  let c0_i32_4567 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4566 : BitVec 32 := 1#32
  let v4567 : BitVec 32 := Scalar.muli v47 c1_i32_4566
  let v4568 : BitVec 32 := Scalar.addi c0_i32_4567 v4567
  v4568.toNat
def k1_dev165 (d0 : Dev nD) : Nat :=
  let c0_i32_4595 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4594 : BitVec 32 := 1#32
  let v4597 : BitVec 32 := Scalar.muli v58 c1_i32_4594
  let v4598 : BitVec 32 := Scalar.addi c0_i32_4595 v4597
  v4598.toNat
def k1_dev166 (d0 : Dev nD) : Nat :=
  let c0_i32_4599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4598 : BitVec 32 := 1#32
  let v4601 : BitVec 32 := Scalar.muli v69 c1_i32_4598
  let v4602 : BitVec 32 := Scalar.addi c0_i32_4599 v4601
  v4602.toNat
def k1_dev167 (d0 : Dev nD) : Nat :=
  let c0_i32_4617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4616 : BitVec 32 := 1#32
  let v4619 : BitVec 32 := Scalar.muli v36 c1_i32_4616
  let v4620 : BitVec 32 := Scalar.addi c0_i32_4617 v4619
  v4620.toNat
def k1_dev168 (d0 : Dev nD) : Nat :=
  let c0_i32_4631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4630 : BitVec 32 := 1#32
  let v4639 : BitVec 32 := Scalar.muli v47 c1_i32_4630
  let v4640 : BitVec 32 := Scalar.addi c0_i32_4631 v4639
  v4640.toNat
def k1_dev169 (d0 : Dev nD) : Nat :=
  let c0_i32_4659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4658 : BitVec 32 := 1#32
  let v4669 : BitVec 32 := Scalar.muli v58 c1_i32_4658
  let v4670 : BitVec 32 := Scalar.addi c0_i32_4659 v4669
  v4670.toNat
def k1_dev170 (d0 : Dev nD) : Nat :=
  let c0_i32_4663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4662 : BitVec 32 := 1#32
  let v4673 : BitVec 32 := Scalar.muli v69 c1_i32_4662
  let v4674 : BitVec 32 := Scalar.addi c0_i32_4663 v4673
  v4674.toNat
def k1_dev171 (d0 : Dev nD) : Nat :=
  let c0_i32_4681 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4680 : BitVec 32 := 1#32
  let v4691 : BitVec 32 := Scalar.muli v36 c1_i32_4680
  let v4692 : BitVec 32 := Scalar.addi c0_i32_4681 v4691
  v4692.toNat
def k1_dev172 (d0 : Dev nD) : Nat :=
  let c0_i32_4695 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4694 : BitVec 32 := 1#32
  let v4711 : BitVec 32 := Scalar.muli v47 c1_i32_4694
  let v4712 : BitVec 32 := Scalar.addi c0_i32_4695 v4711
  v4712.toNat
def k1_dev173 (d0 : Dev nD) : Nat :=
  let c0_i32_4723 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4722 : BitVec 32 := 1#32
  let v4741 : BitVec 32 := Scalar.muli v58 c1_i32_4722
  let v4742 : BitVec 32 := Scalar.addi c0_i32_4723 v4741
  v4742.toNat
def k1_dev174 (d0 : Dev nD) : Nat :=
  let c0_i32_4727 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4726 : BitVec 32 := 1#32
  let v4745 : BitVec 32 := Scalar.muli v69 c1_i32_4726
  let v4746 : BitVec 32 := Scalar.addi c0_i32_4727 v4745
  v4746.toNat
def k1_dev175 (d0 : Dev nD) : Nat :=
  let c0_i32_4745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4744 : BitVec 32 := 1#32
  let v4763 : BitVec 32 := Scalar.muli v36 c1_i32_4744
  let v4764 : BitVec 32 := Scalar.addi c0_i32_4745 v4763
  v4764.toNat
def k1_dev176 (d0 : Dev nD) : Nat :=
  let c0_i32_4759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4758 : BitVec 32 := 1#32
  let v4783 : BitVec 32 := Scalar.muli v47 c1_i32_4758
  let v4784 : BitVec 32 := Scalar.addi c0_i32_4759 v4783
  v4784.toNat
def k1_dev177 (d0 : Dev nD) : Nat :=
  let c0_i32_4787 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4786 : BitVec 32 := 1#32
  let v4813 : BitVec 32 := Scalar.muli v58 c1_i32_4786
  let v4814 : BitVec 32 := Scalar.addi c0_i32_4787 v4813
  v4814.toNat
def k1_dev178 (d0 : Dev nD) : Nat :=
  let c0_i32_4791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4790 : BitVec 32 := 1#32
  let v4817 : BitVec 32 := Scalar.muli v69 c1_i32_4790
  let v4818 : BitVec 32 := Scalar.addi c0_i32_4791 v4817
  v4818.toNat
def k1_dev179 (d0 : Dev nD) : Nat :=
  let c0_i32_4809 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4808 : BitVec 32 := 1#32
  let v4835 : BitVec 32 := Scalar.muli v36 c1_i32_4808
  let v4836 : BitVec 32 := Scalar.addi c0_i32_4809 v4835
  v4836.toNat
def k1_dev180 (d0 : Dev nD) : Nat :=
  let c0_i32_4823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4822 : BitVec 32 := 1#32
  let v4855 : BitVec 32 := Scalar.muli v47 c1_i32_4822
  let v4856 : BitVec 32 := Scalar.addi c0_i32_4823 v4855
  v4856.toNat
def k1_dev181 (d0 : Dev nD) : Nat :=
  let c0_i32_4851 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4850 : BitVec 32 := 1#32
  let v4885 : BitVec 32 := Scalar.muli v58 c1_i32_4850
  let v4886 : BitVec 32 := Scalar.addi c0_i32_4851 v4885
  v4886.toNat
def k1_dev182 (d0 : Dev nD) : Nat :=
  let c0_i32_4855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4854 : BitVec 32 := 1#32
  let v4889 : BitVec 32 := Scalar.muli v69 c1_i32_4854
  let v4890 : BitVec 32 := Scalar.addi c0_i32_4855 v4889
  v4890.toNat
def k1_dev183 (d0 : Dev nD) : Nat :=
  let c0_i32_4873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4872 : BitVec 32 := 1#32
  let v4907 : BitVec 32 := Scalar.muli v36 c1_i32_4872
  let v4908 : BitVec 32 := Scalar.addi c0_i32_4873 v4907
  v4908.toNat
def k1_dev184 (d0 : Dev nD) : Nat :=
  let c0_i32_4887 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4886 : BitVec 32 := 1#32
  let v4927 : BitVec 32 := Scalar.muli v47 c1_i32_4886
  let v4928 : BitVec 32 := Scalar.addi c0_i32_4887 v4927
  v4928.toNat
def k1_dev185 (d0 : Dev nD) : Nat :=
  let c0_i32_4915 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4914 : BitVec 32 := 1#32
  let v4957 : BitVec 32 := Scalar.muli v58 c1_i32_4914
  let v4958 : BitVec 32 := Scalar.addi c0_i32_4915 v4957
  v4958.toNat
def k1_dev186 (d0 : Dev nD) : Nat :=
  let c0_i32_4919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4918 : BitVec 32 := 1#32
  let v4961 : BitVec 32 := Scalar.muli v69 c1_i32_4918
  let v4962 : BitVec 32 := Scalar.addi c0_i32_4919 v4961
  v4962.toNat
def k1_dev187 (d0 : Dev nD) : Nat :=
  let c0_i32_4937 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_4936 : BitVec 32 := 1#32
  let v4979 : BitVec 32 := Scalar.muli v36 c1_i32_4936
  let v4980 : BitVec 32 := Scalar.addi c0_i32_4937 v4979
  v4980.toNat
def k1_dev188 (d0 : Dev nD) : Nat :=
  let c0_i32_4951 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_4950 : BitVec 32 := 1#32
  let v4999 : BitVec 32 := Scalar.muli v47 c1_i32_4950
  let v5000 : BitVec 32 := Scalar.addi c0_i32_4951 v4999
  v5000.toNat
def k1_dev189 (d0 : Dev nD) : Nat :=
  let c0_i32_4979 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_4978 : BitVec 32 := 1#32
  let v5029 : BitVec 32 := Scalar.muli v58 c1_i32_4978
  let v5030 : BitVec 32 := Scalar.addi c0_i32_4979 v5029
  v5030.toNat
def k1_dev190 (d0 : Dev nD) : Nat :=
  let c0_i32_4983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_4982 : BitVec 32 := 1#32
  let v5033 : BitVec 32 := Scalar.muli v69 c1_i32_4982
  let v5034 : BitVec 32 := Scalar.addi c0_i32_4983 v5033
  v5034.toNat
def k1_dev191 (d0 : Dev nD) : Nat :=
  let c0_i32_5001 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5000 : BitVec 32 := 1#32
  let v5051 : BitVec 32 := Scalar.muli v36 c1_i32_5000
  let v5052 : BitVec 32 := Scalar.addi c0_i32_5001 v5051
  v5052.toNat
def k1_dev192 (d0 : Dev nD) : Nat :=
  let c0_i32_5015 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5014 : BitVec 32 := 1#32
  let v5071 : BitVec 32 := Scalar.muli v47 c1_i32_5014
  let v5072 : BitVec 32 := Scalar.addi c0_i32_5015 v5071
  v5072.toNat
def k1_dev193 (d0 : Dev nD) : Nat :=
  let c0_i32_5043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5042 : BitVec 32 := 1#32
  let v5101 : BitVec 32 := Scalar.muli v58 c1_i32_5042
  let v5102 : BitVec 32 := Scalar.addi c0_i32_5043 v5101
  v5102.toNat
def k1_dev194 (d0 : Dev nD) : Nat :=
  let c0_i32_5047 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5046 : BitVec 32 := 1#32
  let v5105 : BitVec 32 := Scalar.muli v69 c1_i32_5046
  let v5106 : BitVec 32 := Scalar.addi c0_i32_5047 v5105
  v5106.toNat
def k1_dev195 (d0 : Dev nD) : Nat :=
  let c0_i32_5065 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5064 : BitVec 32 := 1#32
  let v5123 : BitVec 32 := Scalar.muli v36 c1_i32_5064
  let v5124 : BitVec 32 := Scalar.addi c0_i32_5065 v5123
  v5124.toNat
def k1_dev196 (d0 : Dev nD) : Nat :=
  let c0_i32_5079 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5078 : BitVec 32 := 1#32
  let v5143 : BitVec 32 := Scalar.muli v47 c1_i32_5078
  let v5144 : BitVec 32 := Scalar.addi c0_i32_5079 v5143
  v5144.toNat
def k1_dev197 (d0 : Dev nD) : Nat :=
  let c0_i32_5107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5106 : BitVec 32 := 1#32
  let v5173 : BitVec 32 := Scalar.muli v58 c1_i32_5106
  let v5174 : BitVec 32 := Scalar.addi c0_i32_5107 v5173
  v5174.toNat
def k1_dev198 (d0 : Dev nD) : Nat :=
  let c0_i32_5111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5110 : BitVec 32 := 1#32
  let v5177 : BitVec 32 := Scalar.muli v69 c1_i32_5110
  let v5178 : BitVec 32 := Scalar.addi c0_i32_5111 v5177
  v5178.toNat
def k1_dev199 (d0 : Dev nD) : Nat :=
  let c0_i32_5129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5128 : BitVec 32 := 1#32
  let v5195 : BitVec 32 := Scalar.muli v36 c1_i32_5128
  let v5196 : BitVec 32 := Scalar.addi c0_i32_5129 v5195
  v5196.toNat
def k1_dev200 (d0 : Dev nD) : Nat :=
  let c0_i32_5143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5142 : BitVec 32 := 1#32
  let v5215 : BitVec 32 := Scalar.muli v47 c1_i32_5142
  let v5216 : BitVec 32 := Scalar.addi c0_i32_5143 v5215
  v5216.toNat
def k1_dev201 (d0 : Dev nD) : Nat :=
  let c0_i32_5171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5170 : BitVec 32 := 1#32
  let v5245 : BitVec 32 := Scalar.muli v58 c1_i32_5170
  let v5246 : BitVec 32 := Scalar.addi c0_i32_5171 v5245
  v5246.toNat
def k1_dev202 (d0 : Dev nD) : Nat :=
  let c0_i32_5175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5174 : BitVec 32 := 1#32
  let v5249 : BitVec 32 := Scalar.muli v69 c1_i32_5174
  let v5250 : BitVec 32 := Scalar.addi c0_i32_5175 v5249
  v5250.toNat
def k1_dev203 (d0 : Dev nD) : Nat :=
  let c0_i32_5193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5192 : BitVec 32 := 1#32
  let v5267 : BitVec 32 := Scalar.muli v36 c1_i32_5192
  let v5268 : BitVec 32 := Scalar.addi c0_i32_5193 v5267
  v5268.toNat
def k1_dev204 (d0 : Dev nD) : Nat :=
  let c0_i32_5207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5206 : BitVec 32 := 1#32
  let v5287 : BitVec 32 := Scalar.muli v47 c1_i32_5206
  let v5288 : BitVec 32 := Scalar.addi c0_i32_5207 v5287
  v5288.toNat
def k1_dev205 (d0 : Dev nD) : Nat :=
  let c0_i32_5235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5234 : BitVec 32 := 1#32
  let v5317 : BitVec 32 := Scalar.muli v58 c1_i32_5234
  let v5318 : BitVec 32 := Scalar.addi c0_i32_5235 v5317
  v5318.toNat
def k1_dev206 (d0 : Dev nD) : Nat :=
  let c0_i32_5239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5238 : BitVec 32 := 1#32
  let v5321 : BitVec 32 := Scalar.muli v69 c1_i32_5238
  let v5322 : BitVec 32 := Scalar.addi c0_i32_5239 v5321
  v5322.toNat
def k1_dev207 (d0 : Dev nD) : Nat :=
  let c0_i32_5257 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5256 : BitVec 32 := 1#32
  let v5339 : BitVec 32 := Scalar.muli v36 c1_i32_5256
  let v5340 : BitVec 32 := Scalar.addi c0_i32_5257 v5339
  v5340.toNat
def k1_dev208 (d0 : Dev nD) : Nat :=
  let c0_i32_5271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5270 : BitVec 32 := 1#32
  let v5359 : BitVec 32 := Scalar.muli v47 c1_i32_5270
  let v5360 : BitVec 32 := Scalar.addi c0_i32_5271 v5359
  v5360.toNat
def k1_dev209 (d0 : Dev nD) : Nat :=
  let c0_i32_5299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5298 : BitVec 32 := 1#32
  let v5389 : BitVec 32 := Scalar.muli v58 c1_i32_5298
  let v5390 : BitVec 32 := Scalar.addi c0_i32_5299 v5389
  v5390.toNat
def k1_dev210 (d0 : Dev nD) : Nat :=
  let c0_i32_5303 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5302 : BitVec 32 := 1#32
  let v5393 : BitVec 32 := Scalar.muli v69 c1_i32_5302
  let v5394 : BitVec 32 := Scalar.addi c0_i32_5303 v5393
  v5394.toNat
def k1_dev211 (d0 : Dev nD) : Nat :=
  let c0_i32_5321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5320 : BitVec 32 := 1#32
  let v5411 : BitVec 32 := Scalar.muli v36 c1_i32_5320
  let v5412 : BitVec 32 := Scalar.addi c0_i32_5321 v5411
  v5412.toNat
def k1_dev212 (d0 : Dev nD) : Nat :=
  let c0_i32_5335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5334 : BitVec 32 := 1#32
  let v5431 : BitVec 32 := Scalar.muli v47 c1_i32_5334
  let v5432 : BitVec 32 := Scalar.addi c0_i32_5335 v5431
  v5432.toNat
def k1_dev213 (d0 : Dev nD) : Nat :=
  let c0_i32_5363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5362 : BitVec 32 := 1#32
  let v5461 : BitVec 32 := Scalar.muli v58 c1_i32_5362
  let v5462 : BitVec 32 := Scalar.addi c0_i32_5363 v5461
  v5462.toNat
def k1_dev214 (d0 : Dev nD) : Nat :=
  let c0_i32_5367 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5366 : BitVec 32 := 1#32
  let v5465 : BitVec 32 := Scalar.muli v69 c1_i32_5366
  let v5466 : BitVec 32 := Scalar.addi c0_i32_5367 v5465
  v5466.toNat
def k1_dev215 (d0 : Dev nD) : Nat :=
  let c0_i32_5385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5384 : BitVec 32 := 1#32
  let v5483 : BitVec 32 := Scalar.muli v36 c1_i32_5384
  let v5484 : BitVec 32 := Scalar.addi c0_i32_5385 v5483
  v5484.toNat
def k1_dev216 (d0 : Dev nD) : Nat :=
  let c0_i32_5399 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5398 : BitVec 32 := 1#32
  let v5503 : BitVec 32 := Scalar.muli v47 c1_i32_5398
  let v5504 : BitVec 32 := Scalar.addi c0_i32_5399 v5503
  v5504.toNat
def k1_dev217 (d0 : Dev nD) : Nat :=
  let c0_i32_5427 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5426 : BitVec 32 := 1#32
  let v5533 : BitVec 32 := Scalar.muli v58 c1_i32_5426
  let v5534 : BitVec 32 := Scalar.addi c0_i32_5427 v5533
  v5534.toNat
def k1_dev218 (d0 : Dev nD) : Nat :=
  let c0_i32_5431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5430 : BitVec 32 := 1#32
  let v5537 : BitVec 32 := Scalar.muli v69 c1_i32_5430
  let v5538 : BitVec 32 := Scalar.addi c0_i32_5431 v5537
  v5538.toNat
def k1_dev219 (d0 : Dev nD) : Nat :=
  let c0_i32_5449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5448 : BitVec 32 := 1#32
  let v5555 : BitVec 32 := Scalar.muli v36 c1_i32_5448
  let v5556 : BitVec 32 := Scalar.addi c0_i32_5449 v5555
  v5556.toNat
def k1_dev220 (d0 : Dev nD) : Nat :=
  let c0_i32_5463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5462 : BitVec 32 := 1#32
  let v5575 : BitVec 32 := Scalar.muli v47 c1_i32_5462
  let v5576 : BitVec 32 := Scalar.addi c0_i32_5463 v5575
  v5576.toNat
def k1_dev221 (d0 : Dev nD) : Nat :=
  let c0_i32_5491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5490 : BitVec 32 := 1#32
  let v5605 : BitVec 32 := Scalar.muli v58 c1_i32_5490
  let v5606 : BitVec 32 := Scalar.addi c0_i32_5491 v5605
  v5606.toNat
def k1_dev222 (d0 : Dev nD) : Nat :=
  let c0_i32_5495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5494 : BitVec 32 := 1#32
  let v5609 : BitVec 32 := Scalar.muli v69 c1_i32_5494
  let v5610 : BitVec 32 := Scalar.addi c0_i32_5495 v5609
  v5610.toNat
def k1_dev223 (d0 : Dev nD) : Nat :=
  let c0_i32_5513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5512 : BitVec 32 := 1#32
  let v5627 : BitVec 32 := Scalar.muli v36 c1_i32_5512
  let v5628 : BitVec 32 := Scalar.addi c0_i32_5513 v5627
  v5628.toNat
def k1_dev224 (d0 : Dev nD) : Nat :=
  let c0_i32_5527 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5526 : BitVec 32 := 1#32
  let v5647 : BitVec 32 := Scalar.muli v47 c1_i32_5526
  let v5648 : BitVec 32 := Scalar.addi c0_i32_5527 v5647
  v5648.toNat
def k1_dev225 (d0 : Dev nD) : Nat :=
  let c0_i32_5555 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5554 : BitVec 32 := 1#32
  let v5677 : BitVec 32 := Scalar.muli v58 c1_i32_5554
  let v5678 : BitVec 32 := Scalar.addi c0_i32_5555 v5677
  v5678.toNat
def k1_dev226 (d0 : Dev nD) : Nat :=
  let c0_i32_5559 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5558 : BitVec 32 := 1#32
  let v5681 : BitVec 32 := Scalar.muli v69 c1_i32_5558
  let v5682 : BitVec 32 := Scalar.addi c0_i32_5559 v5681
  v5682.toNat
def k1_dev227 (d0 : Dev nD) : Nat :=
  let c0_i32_5577 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5576 : BitVec 32 := 1#32
  let v5699 : BitVec 32 := Scalar.muli v36 c1_i32_5576
  let v5700 : BitVec 32 := Scalar.addi c0_i32_5577 v5699
  v5700.toNat
def k1_dev228 (d0 : Dev nD) : Nat :=
  let c0_i32_5591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5590 : BitVec 32 := 1#32
  let v5719 : BitVec 32 := Scalar.muli v47 c1_i32_5590
  let v5720 : BitVec 32 := Scalar.addi c0_i32_5591 v5719
  v5720.toNat
def k1_dev229 (d0 : Dev nD) : Nat :=
  let c0_i32_5619 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5618 : BitVec 32 := 1#32
  let v5749 : BitVec 32 := Scalar.muli v58 c1_i32_5618
  let v5750 : BitVec 32 := Scalar.addi c0_i32_5619 v5749
  v5750.toNat
def k1_dev230 (d0 : Dev nD) : Nat :=
  let c0_i32_5623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5622 : BitVec 32 := 1#32
  let v5753 : BitVec 32 := Scalar.muli v69 c1_i32_5622
  let v5754 : BitVec 32 := Scalar.addi c0_i32_5623 v5753
  v5754.toNat
def k1_dev231 (d0 : Dev nD) : Nat :=
  let c0_i32_5641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5640 : BitVec 32 := 1#32
  let v5771 : BitVec 32 := Scalar.muli v36 c1_i32_5640
  let v5772 : BitVec 32 := Scalar.addi c0_i32_5641 v5771
  v5772.toNat
def k1_dev232 (d0 : Dev nD) : Nat :=
  let c0_i32_5655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5654 : BitVec 32 := 1#32
  let v5791 : BitVec 32 := Scalar.muli v47 c1_i32_5654
  let v5792 : BitVec 32 := Scalar.addi c0_i32_5655 v5791
  v5792.toNat
def k1_dev233 (d0 : Dev nD) : Nat :=
  let c0_i32_5683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5682 : BitVec 32 := 1#32
  let v5821 : BitVec 32 := Scalar.muli v58 c1_i32_5682
  let v5822 : BitVec 32 := Scalar.addi c0_i32_5683 v5821
  v5822.toNat
def k1_dev234 (d0 : Dev nD) : Nat :=
  let c0_i32_5687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5686 : BitVec 32 := 1#32
  let v5825 : BitVec 32 := Scalar.muli v69 c1_i32_5686
  let v5826 : BitVec 32 := Scalar.addi c0_i32_5687 v5825
  v5826.toNat
def k1_dev235 (d0 : Dev nD) : Nat :=
  let c0_i32_5705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5704 : BitVec 32 := 1#32
  let v5843 : BitVec 32 := Scalar.muli v36 c1_i32_5704
  let v5844 : BitVec 32 := Scalar.addi c0_i32_5705 v5843
  v5844.toNat
def k1_dev236 (d0 : Dev nD) : Nat :=
  let c0_i32_5719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5718 : BitVec 32 := 1#32
  let v5863 : BitVec 32 := Scalar.muli v47 c1_i32_5718
  let v5864 : BitVec 32 := Scalar.addi c0_i32_5719 v5863
  v5864.toNat
def k1_dev237 (d0 : Dev nD) : Nat :=
  let c0_i32_5747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5746 : BitVec 32 := 1#32
  let v5893 : BitVec 32 := Scalar.muli v58 c1_i32_5746
  let v5894 : BitVec 32 := Scalar.addi c0_i32_5747 v5893
  v5894.toNat
def k1_dev238 (d0 : Dev nD) : Nat :=
  let c0_i32_5751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5750 : BitVec 32 := 1#32
  let v5897 : BitVec 32 := Scalar.muli v69 c1_i32_5750
  let v5898 : BitVec 32 := Scalar.addi c0_i32_5751 v5897
  v5898.toNat
def k1_dev239 (d0 : Dev nD) : Nat :=
  let c0_i32_5769 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5768 : BitVec 32 := 1#32
  let v5915 : BitVec 32 := Scalar.muli v36 c1_i32_5768
  let v5916 : BitVec 32 := Scalar.addi c0_i32_5769 v5915
  v5916.toNat
def k1_dev240 (d0 : Dev nD) : Nat :=
  let c0_i32_5783 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5782 : BitVec 32 := 1#32
  let v5935 : BitVec 32 := Scalar.muli v47 c1_i32_5782
  let v5936 : BitVec 32 := Scalar.addi c0_i32_5783 v5935
  v5936.toNat
def k1_dev241 (d0 : Dev nD) : Nat :=
  let c0_i32_5811 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5810 : BitVec 32 := 1#32
  let v5965 : BitVec 32 := Scalar.muli v58 c1_i32_5810
  let v5966 : BitVec 32 := Scalar.addi c0_i32_5811 v5965
  v5966.toNat
def k1_dev242 (d0 : Dev nD) : Nat :=
  let c0_i32_5815 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5814 : BitVec 32 := 1#32
  let v5969 : BitVec 32 := Scalar.muli v69 c1_i32_5814
  let v5970 : BitVec 32 := Scalar.addi c0_i32_5815 v5969
  v5970.toNat
def k1_dev243 (d0 : Dev nD) : Nat :=
  let c0_i32_5833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5832 : BitVec 32 := 1#32
  let v5987 : BitVec 32 := Scalar.muli v36 c1_i32_5832
  let v5988 : BitVec 32 := Scalar.addi c0_i32_5833 v5987
  v5988.toNat
def k1_dev244 (d0 : Dev nD) : Nat :=
  let c0_i32_5847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5846 : BitVec 32 := 1#32
  let v6007 : BitVec 32 := Scalar.muli v47 c1_i32_5846
  let v6008 : BitVec 32 := Scalar.addi c0_i32_5847 v6007
  v6008.toNat
def k1_dev245 (d0 : Dev nD) : Nat :=
  let c0_i32_5875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5874 : BitVec 32 := 1#32
  let v6037 : BitVec 32 := Scalar.muli v58 c1_i32_5874
  let v6038 : BitVec 32 := Scalar.addi c0_i32_5875 v6037
  v6038.toNat
def k1_dev246 (d0 : Dev nD) : Nat :=
  let c0_i32_5879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5878 : BitVec 32 := 1#32
  let v6041 : BitVec 32 := Scalar.muli v69 c1_i32_5878
  let v6042 : BitVec 32 := Scalar.addi c0_i32_5879 v6041
  v6042.toNat
def k1_dev247 (d0 : Dev nD) : Nat :=
  let c0_i32_5897 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_14 : BitVec 32 := 1#32
  let v26 : BitVec 32 := Scalar.addi v2 c1_i32_14
  let c32_i32_15 : BitVec 32 := 32#32
  let c0_i32_16 : BitVec 32 := 0#32
  let v27 : BitVec 1 := Scalar.cmpi .eq c32_i32_15 c0_i32_16
  let c1_i32_17 : BitVec 32 := 1#32
  let v28 : BitVec 32 := Scalar.select v27 c1_i32_17 c32_i32_15
  let v29 : BitVec 32 := Scalar.remsi v26 v28
  let c0_i32_19 : BitVec 32 := 0#32
  let v31 : BitVec 1 := Scalar.cmpi .slt v29 c0_i32_19
  let c0_i32_20 : BitVec 32 := 0#32
  let v32 : BitVec 1 := Scalar.cmpi .slt v28 c0_i32_20
  let v33 : BitVec 1 := Scalar.xori v31 v32
  let c0_i32_18 : BitVec 32 := 0#32
  let v30 : BitVec 1 := Scalar.cmpi .ne v29 c0_i32_18
  let v34 : BitVec 1 := Scalar.andi v33 v30
  let v35 : BitVec 32 := Scalar.addi v29 v28
  let v36 : BitVec 32 := Scalar.select v34 v35 v29
  let c1_i32_5896 : BitVec 32 := 1#32
  let v6059 : BitVec 32 := Scalar.muli v36 c1_i32_5896
  let v6060 : BitVec 32 := Scalar.addi c0_i32_5897 v6059
  v6060.toNat
def k1_dev248 (d0 : Dev nD) : Nat :=
  let c0_i32_5911 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32 : BitVec 32 := 4294967295#32
  let v37 : BitVec 32 := Scalar.addi v2 c_m1_i32
  let c32_i32_21 : BitVec 32 := 32#32
  let c0_i32_22 : BitVec 32 := 0#32
  let v38 : BitVec 1 := Scalar.cmpi .eq c32_i32_21 c0_i32_22
  let c1_i32_23 : BitVec 32 := 1#32
  let v39 : BitVec 32 := Scalar.select v38 c1_i32_23 c32_i32_21
  let v40 : BitVec 32 := Scalar.remsi v37 v39
  let c0_i32_25 : BitVec 32 := 0#32
  let v42 : BitVec 1 := Scalar.cmpi .slt v40 c0_i32_25
  let c0_i32_26 : BitVec 32 := 0#32
  let v43 : BitVec 1 := Scalar.cmpi .slt v39 c0_i32_26
  let v44 : BitVec 1 := Scalar.xori v42 v43
  let c0_i32_24 : BitVec 32 := 0#32
  let v41 : BitVec 1 := Scalar.cmpi .ne v40 c0_i32_24
  let v45 : BitVec 1 := Scalar.andi v44 v41
  let v46 : BitVec 32 := Scalar.addi v40 v39
  let v47 : BitVec 32 := Scalar.select v45 v46 v40
  let c1_i32_5910 : BitVec 32 := 1#32
  let v6079 : BitVec 32 := Scalar.muli v47 c1_i32_5910
  let v6080 : BitVec 32 := Scalar.addi c0_i32_5911 v6079
  v6080.toNat
def k1_dev249 (d0 : Dev nD) : Nat :=
  let c0_i32_5939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_27 : BitVec 32 := 1#32
  let v48 : BitVec 32 := Scalar.subi v2 c1_i32_27
  let c32_i32_28 : BitVec 32 := 32#32
  let c0_i32_29 : BitVec 32 := 0#32
  let v49 : BitVec 1 := Scalar.cmpi .eq c32_i32_28 c0_i32_29
  let c1_i32_30 : BitVec 32 := 1#32
  let v50 : BitVec 32 := Scalar.select v49 c1_i32_30 c32_i32_28
  let v51 : BitVec 32 := Scalar.remsi v48 v50
  let c0_i32_32 : BitVec 32 := 0#32
  let v53 : BitVec 1 := Scalar.cmpi .slt v51 c0_i32_32
  let c0_i32_33 : BitVec 32 := 0#32
  let v54 : BitVec 1 := Scalar.cmpi .slt v50 c0_i32_33
  let v55 : BitVec 1 := Scalar.xori v53 v54
  let c0_i32_31 : BitVec 32 := 0#32
  let v52 : BitVec 1 := Scalar.cmpi .ne v51 c0_i32_31
  let v56 : BitVec 1 := Scalar.andi v55 v52
  let v57 : BitVec 32 := Scalar.addi v51 v50
  let v58 : BitVec 32 := Scalar.select v56 v57 v51
  let c1_i32_5938 : BitVec 32 := 1#32
  let v6109 : BitVec 32 := Scalar.muli v58 c1_i32_5938
  let v6110 : BitVec 32 := Scalar.addi c0_i32_5939 v6109
  v6110.toNat
def k1_dev250 (d0 : Dev nD) : Nat :=
  let c0_i32_5943 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c_m1_i32_34 : BitVec 32 := 4294967295#32
  let v59 : BitVec 32 := Scalar.subi v2 c_m1_i32_34
  let c32_i32_35 : BitVec 32 := 32#32
  let c0_i32_36 : BitVec 32 := 0#32
  let v60 : BitVec 1 := Scalar.cmpi .eq c32_i32_35 c0_i32_36
  let c1_i32_37 : BitVec 32 := 1#32
  let v61 : BitVec 32 := Scalar.select v60 c1_i32_37 c32_i32_35
  let v62 : BitVec 32 := Scalar.remsi v59 v61
  let c0_i32_39 : BitVec 32 := 0#32
  let v64 : BitVec 1 := Scalar.cmpi .slt v62 c0_i32_39
  let c0_i32_40 : BitVec 32 := 0#32
  let v65 : BitVec 1 := Scalar.cmpi .slt v61 c0_i32_40
  let v66 : BitVec 1 := Scalar.xori v64 v65
  let c0_i32_38 : BitVec 32 := 0#32
  let v63 : BitVec 1 := Scalar.cmpi .ne v62 c0_i32_38
  let v67 : BitVec 1 := Scalar.andi v66 v63
  let v68 : BitVec 32 := Scalar.addi v62 v61
  let v69 : BitVec 32 := Scalar.select v67 v68 v62
  let c1_i32_5942 : BitVec 32 := 1#32
  let v6113 : BitVec 32 := Scalar.muli v69 c1_i32_5942
  let v6114 : BitVec 32 := Scalar.addi c0_i32_5943 v6113
  v6114.toNat
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Ring.Text.lean ====
/- The all-reduce body as a straight-line program in steps: a prologue, thirty-one reduce-scatter steps, the copy of the finished chunk into the
   result, thirty-one all-gather steps. Each step is written once, for a symbolic device, step number and lane. -/
module

public import proofs.«01_k».proof.Proof.Gen.KernelIdeal.Skeleton

@[expose] public section

noncomputable section

namespace Cert.KernelIdeal.Ring

open Idealize.ShloMosaic Idealize.SL.Sem Cert.KernelIdeal.Gen

variable {F : FTy → Type} [FloatOps F]

/-- Programs of one TensorCore without a result. -/
abbrev Txt (F : FTy → Type) : Type 1 := Prog (TpuEff nD τ sig (Elt F) Λ₀ .tc) PUnit

/-! ## Neighbours and offsets, as the kernel computes them -/

/-- The right neighbour, from the barrier's signal. -/
def barR (d : Dev nD) : Dev nD := ⟨k1_dev2 d, k1_dev2_lt d⟩
/-- The left neighbour, from the barrier's signal. -/
def barL (d : Dev nD) : Dev nD := ⟨k1_dev1 d, k1_dev1_lt d⟩

/-- The device a lane sends to: lane 0 to the right, lane 1 to the left. -/
def down : Fin 2 → Dev nD → Dev nD
  | 0, d => ⟨k1_dev3 d, k1_dev3_lt d⟩
  | 1, d => ⟨k1_dev4 d, k1_dev4_lt d⟩
/-- The device a lane receives from. -/
def up : Fin 2 → Dev nD → Dev nD
  | 0, d => ⟨k1_dev5 d, k1_dev5_lt d⟩
  | 1, d => ⟨k1_dev6 d, k1_dev6_lt d⟩

/-- Where a lane's own first chunk lies in the array. -/
def ownOff : Fin 2 → Dev nD → Fin 2 → Nat
  | 0, d => k1_off1 d
  | 1, d => k1_off2 d
/-- Where the chunk lies that a lane adds in reduce-scatter step `s`. -/
def inOffF : Fin 2 → Dev nD → Fin 31 → Fin 2 → Nat
  | 0, d, s => k1_off3 d (BitVec.ofNat 32 (s.val + 1))
  | 1, d, s => k1_off4 d (0#32 - BitVec.ofNat 32 (s.val + 1))
/-- Where the chunk lies that a lane passes on in all-gather step `s`; at 31, the chunk it receives last. -/
def agOffF : Fin 2 → Dev nD → Fin 32 → Fin 2 → Nat
  | 0, d, s => k1_off5 d (1#32 - BitVec.ofNat 32 s.val)
  | 1, d, s => k1_off6 d (BitVec.ofNat 32 s.val - 1#32)
/-- `inOffF` at a step number. -/
def inOff (l : Fin 2) (d : Dev nD) (s : Nat) : Fin 2 → Nat := inOffF l d (Fin.ofNat 31 s)
/-- `agOffF` at a step number. -/
def agOff (l : Fin 2) (d : Dev nD) (s : Nat) : Fin 2 → Nat := agOffF l d (Fin.ofNat 32 s)

theorem ownOff_eq : ∀ (l : Fin 2) (d : Dev nD), ownOff l d = ![128 * d.val, 4096 * l.val] := by decide +kernel
theorem inOffF_eq : ∀ (l : Fin 2) (d : Dev nD) (s : Fin 31),
    inOffF l d s = ![128 * ((d.val + if l = 0 then 31 - s.val else s.val + 1) % 32), 4096 * l.val] := by decide +kernel
theorem agOffF_eq : ∀ (l : Fin 2) (d : Dev nD) (s : Fin 32),
    agOffF l d s = ![128 * ((d.val + if l = 0 then 33 - s.val else 31 + s.val) % 32), 4096 * l.val] := by decide +kernel
/-- The chunk number of reduce-scatter step `s`. -/
def inIx (l : Fin 2) (d : Dev nD) (s : Nat) : Nat := (d.val + if l = 0 then 31 - s % 31 else s % 31 + 1) % 32
/-- The chunk number of all-gather step `s`. -/
def agIx (l : Fin 2) (d : Dev nD) (s : Nat) : Nat := (d.val + if l = 0 then 33 - s % 32 else 31 + s % 32) % 32
theorem inOff_eq (l : Fin 2) (d : Dev nD) (s : Nat) : inOff l d s = ![128 * inIx l d s, 4096 * l.val] := inOffF_eq l d _
theorem agOff_eq (l : Fin 2) (d : Dev nD) (s : Nat) : agOff l d s = ![128 * agIx l d s, 4096 * l.val] := agOffF_eq l d _

theorem off_inb {k : Nat} (hk : k < 32) (l : Fin 2) : ∀ a, (![128 * k, 4096 * l.val] : Fin 2 → Nat) a + S128x4096.size a ≤ S4096x8192.size a := by
  intro a
  have := l.isLt
  fin_cases a
  · show 128 * k + 128 ≤ 4096; omega
  · show 4096 * l.val + 4096 ≤ 8192; omega

theorem ownOff_inb (l : Fin 2) (d : Dev nD) : ∀ a, ownOff l d a + S128x4096.size a ≤ S4096x8192.size a := by
  rw [ownOff_eq]; exact off_inb d.isLt l
theorem inOff_inb (l : Fin 2) (d : Dev nD) (s : Nat) : ∀ a, inOff l d s a + S128x4096.size a ≤ S4096x8192.size a := by
  rw [inOff_eq]; exact off_inb (Nat.mod_lt _ (by decide)) l
theorem agOff_inb (l : Fin 2) (d : Dev nD) (s : Nat) : ∀ a, agOff l d s a + S128x4096.size a ≤ S4096x8192.size a := by
  rw [agOff_eq]; exact off_inb (Nat.mod_lt _ (by decide)) l

theorem lane_inb : ∀ (l : Fin 2) (a : Fin 3), (![l.val, 0, 0] : Fin 3 → Nat) a + S1x128x4096.size a ≤ S2x128x4096.size a := by decide +kernel
theorem semLane_inb : ∀ (l : Fin 2) (a : Fin 1), (![l.val] : Fin 1 → Nat) a + S1.size a ≤ S2.size a := by decide +kernel

/-! ## The views -/

/-- The array the body reads. -/
abbrev xM : Memref sig .tc .hbm S4096x8192 .f32 := Memref.whole main_v7
/-- The array the body writes. -/
abbrev yM : Memref sig .tc .hbm S4096x8192 .f32 := Memref.whole main_v8
/-- The buffer a lane accumulates in and sends from. -/
abbrev aM : Memref sig .tc .vmem S2x128x4096 .f32 := Memref.whole cc1_scratch0
/-- The buffer a lane receives in. -/
abbrev bM : Memref sig .tc .vmem S2x128x4096 .f32 := Memref.whole cc1_scratch1
/-- The buffer a lane's next chunk is copied to. -/
abbrev cM : Memref sig .tc .vmem S2x128x4096 .f32 := Memref.whole cc1_scratch2

/-- The rectangle of lane `l` in a two-lane buffer. -/
abbrev laneR (l : Fin 2) : Rect S2x128x4096 := Rect.unit (s := S2x128x4096) ![l.val, 0, 0] S1x128x4096.size (lane_inb l)
/-- Lane `l` of a two-lane buffer, as a matrix. -/
abbrev lane (M : Memref sig .tc .vmem S2x128x4096 .f32) (l : Fin 2) : Memref sig .tc .vmem S128x4096 .f32 :=
  (M.slice (laneR l) (fun _ => rfl)).squeeze S128x4096 squeezes_S1x128x4096_S128x4096
/-- Entry `l` of a pair of copy semaphores. -/
abbrev dsem (a : DmaSems sig S2) (l : Fin 2) : DmaSem sig :=
  ((a.slice (Rect.unit (s := S2) ![l.val] S1.size (semLane_inb l))).squeeze S_ squeezes_S1_S_).sem
/-- Entry `l` of a pair of counting semaphores. -/
abbrev rsem (a : Sems sig S2) (l : Fin 2) : Sem sig :=
  ((a.slice (Rect.unit (s := S2) ![l.val] S1.size (semLane_inb l))).squeeze S_ squeezes_S1_S_).sem
/-- A chunk of one of the two large arrays. -/
abbrev chunk (M : Memref sig .tc .hbm S4096x8192 .f32) (o : Fin 2 → Nat) (h : ∀ a, o a + S128x4096.size a ≤ S4096x8192.size a) :
    Memref sig .tc .hbm S128x4096 .f32 := M.slice (Rect.unit (s := S4096x8192) o S128x4096.size h) (fun _ => rfl)

/-! ## The steps -/

/-- A lane's own chunk copied into its accumulator: the start. -/
def ownStart (d : Dev nD) (l : Fin 2) : Txt F :=
  Prog.lift (.enqueueDma (chunk xM (ownOff l d) (ownOff_inb l d)) (.here (lane aM l)) (.dma (dsem cc1_scratch7 l)) (View.wordExact_bits rfl)
    ((View.wordExact_bits rfl).reshape _ _) ⟨Or.inl rfl, trivial⟩)
/-- A lane's own chunk copied into its accumulator: the wait. -/
def ownWait (d : Dev nD) (l : Fin 2) : Txt F :=
  Prog.lift (.waitDma2 (dsem cc1_scratch7 l) (chunk xM (ownOff l d) (ownOff_inb l d)) (lane aM l) (View.wordExact_bits rfl)
    ((View.wordExact_bits rfl).reshape _ _))

/-- The barrier with both neighbours, then each lane's own chunk into its accumulator. -/
def pro (d : Dev nD) : Txt F := do
  semSignalWord (barL d) (SemArray.scalar (sig.barrier 0 rfl) : Sems sig S_).sem 1#32
  semSignalWord (barR d) (SemArray.scalar (sig.barrier 0 rfl) : Sems sig S_).sem 1#32
  semWaitWord (SemArray.scalar (sig.barrier 0 rfl) : Sems sig S_).sem 2#32
  ownStart d 0
  ownStart d 1
  ownWait d 0
  ownWait d 1

/-- A lane's accumulator sent to the next device. -/
def rsSend (d : Dev nD) (l : Fin 2) : Txt F :=
  Prog.lift (.enqueueDma (lane aM l) (.remote (Dev.tc (down l d)) (lane bM l) (.dma (dsem cc1_scratch3 l))) (.dma (dsem cc1_scratch4 l))
    ((View.wordExact_bits rfl).reshape _ _) ((View.wordExact_bits rfl).reshape _ _) ⟨⟨rfl, Or.inl rfl⟩, trivial⟩)
/-- The chunk to add, copied beside what is received. -/
def inStart (d : Dev nD) (s : Nat) (l : Fin 2) : Txt F :=
  Prog.lift (.enqueueDma (chunk xM (inOff l d s) (inOff_inb l d s)) (.here (lane cM l)) (.dma (dsem cc1_scratch7 l)) (View.wordExact_bits rfl)
    ((View.wordExact_bits rfl).reshape _ _) ⟨Or.inl rfl, trivial⟩)
/-- A lane's three waits, then the sum of what was received and the chunk to add becomes the accumulator. -/
def rsAdd (d : Dev nD) (s : Nat) (l : Fin 2) : Txt F := do
  Prog.lift (.waitDma2 (dsem cc1_scratch3 l) (lane bM l) (lane aM l) ((View.wordExact_bits rfl).reshape _ _) ((View.wordExact_bits rfl).reshape _ _))
  Prog.lift (.waitDma2 (dsem cc1_scratch4 l) (lane aM l) (lane bM l) ((View.wordExact_bits rfl).reshape _ _) ((View.wordExact_bits rfl).reshape _ _))
  Prog.lift (.waitDma2 (dsem cc1_scratch7 l) (chunk xM (inOff l d s) (inOff_inb l d s)) (lane cM l) (View.wordExact_bits rfl)
    ((View.wordExact_bits rfl).reshape _ _))
  let vb : Vec F S1x128x4096 .f32 ← Prog.lift (.load bM (laneR l).toLoadRect (View.loadsAt_vmem h_S1x128x4096))
  let vc : Vec F S1x128x4096 .f32 ← Prog.lift (.load cM (laneR l).toLoadRect (View.loadsAt_vmem h_S1x128x4096))
  let _va : Vec F S1x128x4096 .f32 ← Prog.lift (.load aM (laneR l).toLoadRect (View.loadsAt_vmem h_S1x128x4096))
  Prog.lift (.store aM (laneR l) (k1_pay1 vb vc) Finset.univ (View.stores_vmem_bits_univ h_S1x128x4096 rfl) (.inl rfl))
/-- Reduce-scatter step `s`. -/
def rsStep (d : Dev nD) (s : Nat) : Txt F := do
  rsSend d 0
  rsSend d 1
  inStart d s 0
  inStart d s 1
  rsAdd d s 0
  rsAdd d s 1
  semSignalWord (up 0 d) (rsem cc1_scratch8 0) 1#32
  semSignalWord (up 1 d) (rsem cc1_scratch8 1) 1#32
  semWaitWord (rsem cc1_scratch8 0) 1#32
  semWaitWord (rsem cc1_scratch8 1) 1#32

/-- A lane's finished chunk copied into the result: the start. -/
def midStart (d : Dev nD) (l : Fin 2) : Txt F :=
  Prog.lift (.enqueueDma (lane aM l) (.here (chunk yM (agOff l d 0) (agOff_inb l d 0))) (.dma (dsem cc1_scratch7 l))
    ((View.wordExact_bits rfl).reshape _ _) (View.wordExact_bits rfl) ⟨Or.inl rfl, trivial⟩)
/-- A lane's finished chunk copied into the result: the wait. -/
def midWait (d : Dev nD) (l : Fin 2) : Txt F :=
  Prog.lift (.waitDma2 (dsem cc1_scratch7 l) (lane aM l) (chunk yM (agOff l d 0) (agOff_inb l d 0))
    ((View.wordExact_bits rfl).reshape _ _) (View.wordExact_bits rfl))
/-- Both lanes' finished chunks into the result. -/
def mid (d : Dev nD) : Txt F := do
  midStart d 0
  midStart d 1
  midWait d 0
  midWait d 1

/-- A finished chunk of the result sent to the same place on the next device. -/
def agSend (d : Dev nD) (s : Nat) (l : Fin 2) : Txt F :=
  Prog.lift (.enqueueDma (chunk yM (agOff l d s) (agOff_inb l d s))
    (.remote (Dev.tc (down l d)) (chunk yM (agOff l d s) (agOff_inb l d s)) (.dma (dsem cc1_scratch5 l))) (.dma (dsem cc1_scratch6 l))
    (View.wordExact_bits rfl) (View.wordExact_bits rfl) ⟨⟨rfl, Or.inl rfl⟩, trivial⟩)
/-- The waits for a lane's own transfer and for the one it receives. -/
def agWait (d : Dev nD) (s : Nat) (l : Fin 2) : Txt F := do
  Prog.lift (.waitDma2 (dsem cc1_scratch5 l) (chunk yM (agOff l d s) (agOff_inb l d s)) (chunk yM (agOff l d s) (agOff_inb l d s))
    (View.wordExact_bits rfl) (View.wordExact_bits rfl))
  Prog.lift (.waitDma2 (dsem cc1_scratch6 l) (chunk yM (agOff l d s) (agOff_inb l d s)) (chunk yM (agOff l d s) (agOff_inb l d s))
    (View.wordExact_bits rfl) (View.wordExact_bits rfl))
/-- All-gather step `s`. -/
def agStep (d : Dev nD) (s : Nat) : Txt F := do
  agSend d s 0
  agSend d s 1
  agWait d s 0
  agWait d s 1
  semSignalWord (up 0 d) (rsem cc1_scratch9 0) 1#32
  semSignalWord (up 1 d) (rsem cc1_scratch9 1) 1#32
  semWaitWord (rsem cc1_scratch9 0) 1#32
  semWaitWord (rsem cc1_scratch9 1) 1#32

/-- The last `k` of thirty-one steps, in order. -/
def steps (f : Nat → Txt F) : Nat → Txt F
  | 0 => pure ⟨⟩
  | k + 1 => do f (30 - k); steps f k

/-- The whole body in steps. -/
def text : Txt F := do
  let d : Dev nD ← Prog.lift .deviceId
  pro d
  steps (rsStep d) 31
  mid d
  steps (agStep d) 31

end Cert.KernelIdeal.Ring

end
-- ==== Proof.Ring.BodyEq.lean ====
module

public import proofs.«01_k».proof.Proof.Ring.Text
public import proofs.«01_k».proof.Proof.Gen.KernelIdeal.Points
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

theorem body_text : (bodyAt1 ⟨0, by decide⟩ : Txt F) = text := by
  chain_rfl

end Cert.KernelIdeal.Ring

end
-- ==== Proof.Ring.Sched.lean ====
/- What the devices hand one another: the cells, the contents each transfer leaves, and the schedule of duties. -/
module

public import proofs.«01_k».proof.Proof.Ring.Text
public import Idealize.ShloMosaic.Lib.Rounds
public import Idealize.ShloMosaic.Lib.Pipeline.Regions
public import Idealize.ShloMosaic.Lib.Pipeline.Kit
public import Idealize.ShloMosaic.Harness.Basic

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## Neighbours -/

theorem down_up : ∀ (l : Fin 2) (c : Dev nD), down l (up l c) = c := by decide +kernel
theorem up_down : ∀ (l : Fin 2) (c : Dev nD), up l (down l c) = c := by decide +kernel
theorem barL_eq : ∀ c : Dev nD, barL c = up 0 c := by decide +kernel
theorem barR_eq : ∀ c : Dev nD, barR c = up 1 c := by decide +kernel
/-- Passing on along a lane, as a permutation of the devices. -/
def ringE (l : Fin 2) : Dev nD ≃ Dev nD := ⟨down l, up l, up_down l, down_up l⟩

/-- The chunk received in all-gather step `s` is the one passed on in step `s + 1`. -/
theorem agOff_up : ∀ (l : Fin 2) (c : Dev nD) (s : Fin 31), agOff l (up l c) s.val = agOff l c (s.val + 1) := by decide +kernel

/-! ## Cells -/

/-- The kinds of semaphores the kernel uses. -/
inductive Kd | bar | sRs | rRs | sAg | rAg | cp | aRs | aAg
  deriving DecidableEq

instance : Fintype Kd := ⟨{.bar, .sRs, .rRs, .sAg, .rAg, .cp, .aRs, .aAg}, fun k => by cases k <;> decide⟩

/-- The barrier semaphore. -/
abbrev barS : Sem sig := (SemArray.scalar (sig.barrier 0 rfl) : Sems sig S_).sem

/-- The semaphore of a kind and a lane. -/
@[reducible] def semOf : Kd → Fin 2 → SemLoc sig
  | .bar, _ => .reg barS
  | .sRs, l => .dma (dsem cc1_scratch3 l)
  | .rRs, l => .dma (dsem cc1_scratch4 l)
  | .sAg, l => .dma (dsem cc1_scratch5 l)
  | .rAg, l => .dma (dsem cc1_scratch6 l)
  | .cp, l => .dma (dsem cc1_scratch7 l)
  | .aRs, l => .reg (rsem cc1_scratch8 l)
  | .aAg, l => .reg (rsem cc1_scratch9 l)

/-- The kind and lane of a semaphore, if it is one of the kernel's. -/
def kindOf (sm : SemLoc sig) : Option (Kd × Fin 2) :=
  [(Kd.bar, 0), (.sRs, 0), (.sRs, 1), (.rRs, 0), (.rRs, 1), (.sAg, 0), (.sAg, 1), (.rAg, 0), (.rAg, 1), (.cp, 0), (.cp, 1),
    (.aRs, 0), (.aRs, 1), (.aAg, 0), (.aAg, 1)].find? fun p => semOf p.1 p.2 = sm

theorem kindOf_bar : ∀ l : Fin 2, kindOf (semOf .bar l) = some (Kd.bar, 0) := by decide +kernel
theorem kindOf_semOf : ∀ (k : Kd) (l : Fin 2), k ≠ .bar → kindOf (semOf k l) = some (k, l) := by
  intro k; cases k <;> decide +kernel

/-- The cell of a kind and a lane on a device. -/
abbrev cell (k : Kd) (l : Fin 2) (c : Dev nD) : GSem nD τ sig := ((c : Thread nD τ), semOf k l)

/-! ## Resources -/

/-- The pipelines' copy of the protocol algebra and the kernel's. -/
abbrev UU : Type := UR sig nD τ × URounds (GSem nD τ sig) (Fin 2)

local notation "𝕄" => MT nD τ sig ℕ (Elt F) ℕ UU ℕ

abbrev EP : Emb (UR sig nD τ) (MT nD τ sig ℕ (Elt F) ℕ UU ℕ) := embL
abbrev ER : Emb (URounds (GSem nD τ sig) (Fin 2)) (MT nD τ sig ℕ (Elt F) ℕ UU ℕ) := embR

/-- A chunk's or lane's contents. -/
abbrev Tile (F : FTy → Type) : Type := S128x4096.Idx → Elt F .f32

/-- Device `c` owns what the view covers, holding `V`. -/
def has {sp : Space} (M : Memref sig .tc sp S128x4096 .f32) (c : Dev nD) (V : Tile F) : sProp 𝕄 :=
  iprop(∃ f, ⌜M.view.read (Elt F) f = V⌝ ∗ (M.view.loc (c : Thread nD τ) ↦[M.view.set]{fullShare} f))
/-- Device `c` owns what the view covers. -/
def any {sp : Space} (M : Memref sig .tc sp S128x4096 .f32) (c : Dev nD) : sProp 𝕄 :=
  iprop(∃ f, (M.view.loc (c : Thread nD τ) ↦[M.view.set]{fullShare} f))

omit [FloatOps F] in
theorem has_any {sp : Space} (M : Memref sig .tc sp S128x4096 .f32) (c : Dev nD) (V : Tile F) : (has M c V : sProp 𝕄) ⊢ any M c := by
  unfold has any
  iintro ⟨%f, -, H⟩
  iexists f; iexact H

/-- The chunk a lane starts from. -/
abbrev ownC (l : Fin 2) (c : Dev nD) : Memref sig .tc .hbm S128x4096 .f32 := chunk xM (ownOff l c) (ownOff_inb l c)
/-- The chunk a lane adds in reduce-scatter step `s`. -/
abbrev inC (l : Fin 2) (c : Dev nD) (s : Nat) : Memref sig .tc .hbm S128x4096 .f32 := chunk xM (inOff l c s) (inOff_inb l c s)
/-- The chunk a lane passes on in all-gather step `s`. -/
abbrev agC (l : Fin 2) (c : Dev nD) (s : Nat) : Memref sig .tc .hbm S128x4096 .f32 := chunk yM (agOff l c s) (agOff_inb l c s)

/-- The contents of the array each device reads. -/
abbrev Xs (F : FTy → Type) : Type := Dev nD → (main_v7 : Ref sig .tc).ty.Contents (Elt F)

variable (X : Xs F)

/-- Device `c` owns a chunk of the array it reads, unchanged. -/
def xPart (c : Dev nD) (o : Fin 2 → Nat) (h : ∀ a, o a + S128x4096.size a ≤ S4096x8192.size a) : sProp 𝕄 :=
  iprop((chunk xM o h).view.loc (c : Thread nD τ) ↦[(chunk xM o h).view.set]{fullShare} (X c))

/-- What a lane's accumulator holds before reduce-scatter step `s`: the previous device's, plus the chunk to add. -/
def acc (l : Fin 2) : Nat → Dev nD → Tile F
  | 0, c => (ownC l c).view.read (Elt F) (X c)
  | s + 1, c => addf (F := F) (s := S128x4096) (φ := .f32) (acc l s (up l c)) ((inC l c s).view.read (Elt F) (X c))

/-- What the chunk of all-gather step `s` holds: the finished chunk of the device `s` places up the ring. -/
def fin (l : Fin 2) : Nat → Dev nD → Tile F
  | 0, c => acc X l 31 c
  | s + 1, c => fin l s (up l c)

/-! ## The schedule -/

/-- How many rounds a kind's cells have. -/
def rounds : Kd → Nat
  | .bar => 1
  | .cp => 33
  | _ => 31

/-- The size of every transfer, as its semaphores count it. -/
abbrev N : Nat := (lane bM 0).view.dmaCredit
theorem N_pos : 0 < N := View.dmaCredit_pos _ (by decide)

/-- The size of one duty of a kind. -/
def amt : Kd → Nat
  | .bar | .aRs | .aAg => 1
  | _ => N
theorem amt_pos (k : Kd) : 0 < amt k := by cases k <;> first | exact Nat.one_pos | exact N_pos

/-- What device `p` tells its lane-`l` sender at the barrier: its receive buffer, the chunks of the result to be sent there, and that its
    receive cells are at their start. -/
def barPay (l : Fin 2) (p : Dev nD) : sProp 𝕄 :=
  iprop(any (lane bM l) p ∗ (bigSep (Finset.Ico 0 31) fun s => any (agC l p (s + 1)) p)
    ∗ reached ER (cell .rRs l p) 0 ∗ reached ER (cell .rAg l p) 0)

/-- What a duty of a kind hands the owner `c` of the cell. -/
def pay (k : Kd) (l : Fin 2) (c : Dev nD) (r : Nat) (d : Fin 2) : sProp 𝕄 :=
  match k with
  | .bar => barPay d (down d c)
  | .sRs => any (lane aM l) c
  | .rRs => iprop(has (lane bM l) c (acc X l r (up l c)) ∗ reached ER (cell .aRs l (up l c)) r)
  | .sAg => has (agC l c r) c (fin X l r c)
  | .rAg => iprop(has (agC l c (r + 1)) c (fin X l (r + 1) c) ∗ reached ER (cell .aAg l (up l c)) r)
  | .cp => match r with
    | 0 => iprop(has (lane aM l) c (acc X l 0 c) ∗ xPart X c (ownOff l c) (ownOff_inb l c))
    | s + 1 => if s < 31 then iprop(has (lane cM l) c ((inC l c s).view.read (Elt F) (X c)) ∗ xPart X c (inOff l c s) (inOff_inb l c s))
        else iprop(has (agC l c 0) c (fin X l 0 c) ∗ any (lane aM l) c)
  | .aRs => iprop((if r < 30 then any (lane bM l) (down l c) else iprop(emp)) ∗ reached ER (cell .rRs l (down l c)) (r + 1))
  | .aAg => reached ER (cell .rAg l (down l c)) (r + 1)

omit [FloatOps F] in
instance has_storable {sp : Space} (M : Memref sig .tc sp S128x4096 .f32) (c : Dev nD) (V : Tile F) :
    BI.Storable (upEmb : UEmb _ 𝕄) (has M c V) := by unfold has; infer_instance
omit [FloatOps F] in
instance any_storable {sp : Space} (M : Memref sig .tc sp S128x4096 .f32) (c : Dev nD) :
    BI.Storable (upEmb : UEmb _ 𝕄) (any (F := F) M c) := by unfold any; infer_instance
omit [FloatOps F] in
instance xPart_storable (c : Dev nD) (o : Fin 2 → Nat) (h : ∀ a, o a + S128x4096.size a ≤ S4096x8192.size a) :
    BI.Storable (upEmb : UEmb _ 𝕄) (xPart X c o h) := by unfold xPart; infer_instance
omit [FloatOps F] in
instance barPay_storable (l : Fin 2) (p : Dev nD) : BI.Storable (upEmb : UEmb _ 𝕄) (barPay (F := F) l p) := by
  unfold barPay; infer_instance
instance pay_storable (k : Kd) (l : Fin 2) (c : Dev nD) (r : Nat) (d : Fin 2) :
    BI.Storable (upEmb : UEmb _ 𝕄) (pay X k l c r d) := by
  cases k <;> unfold pay <;> dsimp only <;> (repeat' split) <;> infer_instance

/-- The schedule: one duty a round for as many rounds as the kind has, two on the barrier. -/
def sch : Rounds.Schedule (GSem nD τ sig) (Fin 2) 𝕄 where
  duties g r := match kindOf g.2 with
    | some (k, _) => if g.1.2 = .tc ∧ r < rounds k then (if k = .bar then Finset.univ else {0}) else ∅
    | none => ∅
  unitless _ := False
  amount g _ _ := match kindOf g.2 with
    | some (k, _) => amt k
    | none => 1
  payload g r d := match kindOf g.2 with
    | some (k, l) => pay X k l g.1.1 r d
    | none => iprop(emp)
  amount_pos g _ _ _ := by
    split
    · exact amt_pos _
    · exact Nat.one_pos

instance sch_storable (g : GSem nD τ sig) (r : ℕ) (d : Fin 2) : BI.Storable (upEmb : UEmb _ 𝕄) ((sch X).payload g r d) := by
  show BI.Storable upEmb (match kindOf g.2 with | some (k, l) => pay X k l g.1.1 r d | none => iprop(emp))
  split <;> infer_instance

section Tables

variable (c : Dev nD) (l : Fin 2) {k : Kd} {r : Nat}

theorem duties_one (hk : k ≠ .bar) (hr : r < rounds k) : (sch X).duties (cell k l c) r = {0} := by
  dsimp only [sch]; rw [kindOf_semOf k l hk]; dsimp only; rw [if_pos ⟨rfl, hr⟩, if_neg hk]
theorem duties_bar : (sch X).duties (cell .bar l c) 0 = Finset.univ := by
  dsimp only [sch]; rw [kindOf_bar]; rfl
theorem duties_end (hr : rounds k ≤ r) : (sch X).duties (cell k l c) r = ∅ := by
  dsimp only [sch]
  by_cases hk : k = .bar
  · subst hk; rw [kindOf_bar]; exact if_neg fun h => absurd h.2 (by omega)
  · rw [kindOf_semOf k l hk]; exact if_neg fun h => absurd h.2 (by omega)
theorem mem_one (hk : k ≠ .bar) (hr : r < rounds k) : (0 : Fin 2) ∈ (sch X).duties (cell k l c) r := by
  rw [duties_one X c l hk hr]; exact Finset.mem_singleton_self _
theorem mem_bar (d : Fin 2) : d ∈ (sch X).duties (cell .bar l c) 0 := by rw [duties_bar]; exact Finset.mem_univ d
theorem amount_eq (d : Fin 2) : (sch X).amount (cell k l c) r d = amt k := by
  dsimp only [sch]
  by_cases hk : k = .bar
  · subst hk; rw [kindOf_bar]
  · rw [kindOf_semOf k l hk]
theorem expect_one (hk : k ≠ .bar) (hr : r < rounds k) : (sch X).expect (cell k l c) r = amt k := by
  unfold Schedule.expect Schedule.amountOf; rw [duties_one X c l hk hr, Finset.sum_singleton, amount_eq]
theorem expect_bar : (sch X).expect (cell .bar l c) 0 = 2 := by
  unfold Schedule.expect Schedule.amountOf; rw [duties_bar, Fin.sum_univ_two, amount_eq, amount_eq]; rfl
theorem payload_one (hk : k ≠ .bar) (d : Fin 2) : (sch X).payload (cell k l c) r d = pay X k l c r d := by
  dsimp only [sch]; rw [kindOf_semOf k l hk]
theorem payload_bar (d : Fin 2) : (sch X).payload (cell .bar l c) r d = barPay d (down d c) := by
  dsimp only [sch]; rw [kindOf_bar]; rfl
theorem rest_one (hk : k ≠ .bar) (hr : r < rounds k) :
    bigSep ((sch X).duties (cell k l c) r \ ∅) (fun d => (sch X).payload (cell k l c) r d) = pay X k l c r 0 := by
  rw [Finset.sdiff_empty, duties_one X c l hk hr, bigSep_singleton, payload_one X c l hk]
theorem rest_bar : bigSep ((sch X).duties (cell .bar l c) 0 \ ∅) (fun d => (sch X).payload (cell .bar l c) 0 d)
    = iprop(barPay 0 (down 0 c) ∗ barPay 1 (down 1 c)) := by
  rw [Finset.sdiff_empty, duties_bar, BI.bigSep_fin_two, payload_bar, payload_bar]; rfl

end Tables

end Cert.KernelIdeal.Ring

end
-- ==== Proof.Ring.Owed.lean ====
/- What a device still owes its neighbours at each step, and why each of its waits may be made while it owes that. -/
module

public import proofs.«01_k».proof.Proof.Ring.Sched

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

/-- The rounds a cell's debts are told apart by. -/
def L (g : GSem nD τ sig) : Finset ℕ := if g.1.2 = .tc then Finset.range 31 else ∅
/-- The order the waits are made in: the barrier, then each step's receipt and acknowledgement, step by step. -/
def lv (g : GSem nD τ sig) (i : ℕ) : ℕ := match kindOf g.2 with
  | some (.bar, _) => 1
  | some (.rRs, _) => 2 * i + 2
  | some (.aRs, _) => 2 * i + 3
  | some (.rAg, _) => 2 * i + 64
  | some (.aAg, _) => 2 * i + 65
  | _ => 0

/-- The order of a kind's round. -/
def lvK : Kd → ℕ → ℕ
  | .bar, _ => 1
  | .rRs, i => 2 * i + 2
  | .aRs, i => 2 * i + 3
  | .rAg, i => 2 * i + 64
  | .aAg, i => 2 * i + 65
  | _, _ => 0

theorem lv_cell (k : Kd) (l : Fin 2) (c : Dev nD) (i : ℕ) : lv (cell k l c) i = lvK k i := by
  unfold lv
  by_cases hk : k = .bar
  · subst hk; rw [kindOf_bar l]; rfl
  · rw [kindOf_semOf k l hk]; cases k <;> rfl
theorem L_of_ne (g : GSem nD τ sig) (h : g.1.2 ≠ .tc) : L g = ∅ := if_neg h
theorem mem_L (c : Dev nD) (sm : SemLoc sig) {i : ℕ} (h : i < 31) : i ∈ L ((c : Thread nD τ), sm) := by
  rw [L, if_pos rfl]; exact Finset.mem_range.mpr h

/-- Every debt listed comes later than `n`. -/
def Above (n : ℕ) (O : CellTallies nD τ sig ℕ) : Prop := ∀ (g : GSem nD τ sig) (i : ℕ), 0 < O g i → i ∈ L g ∧ n < lv g i

theorem above_zero (n : ℕ) : Above n 0 := fun _ _ h => absurd h (Nat.lt_irrefl 0)
theorem above_add {n : ℕ} {O O' : CellTallies nD τ sig ℕ} (h : Above n O) (h' : Above n O') : Above n (O + O') := fun g i hp => by
  rw [Pi.add_apply, Finsupp.add_apply] at hp
  rcases Nat.add_pos_iff_pos_or_pos.mp hp with hp | hp
  · exact h g i hp
  · exact h' g i hp
theorem above_sum {n : ℕ} (S : Finset ℕ) (f : ℕ → CellTallies nD τ sig ℕ) (h : ∀ r ∈ S, Above n (f r)) : Above n (∑ r ∈ S, f r) := by
  induction S using Finset.induction_on with
  | empty => rw [Finset.sum_empty]; exact above_zero n
  | insert a S ha ih =>
    rw [Finset.sum_insert ha]
    exact above_add (h a (Finset.mem_insert_self _ _)) (ih fun r hr => h r (Finset.mem_insert_of_mem hr))
theorem above_at {n : ℕ} (k : Kd) (l : Fin 2) (c : Dev nD) (i m : ℕ) (hi : i < 31) (hn : n < lvK k i) : Above n (tallyAt (cell k l c) i m) :=
  fun g j hp => by
    rw [tallyAt_apply] at hp
    by_cases h : g = cell k l c ∧ j = i
    · rw [h.1, h.2, lv_cell]; exact ⟨mem_L _ _ hi, hn⟩
    · rw [if_neg h] at hp; exact absurd hp (Nat.lt_irrefl 0)

/-- A device may make a wait that comes no later than `n` while all it owes comes later. -/
theorem mayWait (k : Kd) (l : Fin 2) (c : Dev nD) {i n : ℕ} {O : CellTallies nD τ sig ℕ} (hi : i < 31) (hn : lvK k i ≤ n) (hO : Above n O) :
    (levAts L lv : sProp 𝕄) ⊢ MayWait (c : Thread nD τ) (semOf k l) i O :=
  MayOwe.of_cut (L := L) (lev := lv) n (fun p hp => by rw [Finset.mem_singleton.mp hp]; exact mem_L _ _ hi)
    (fun g u hg => (hO g u hg).1)
    (fun p hp => by rw [Finset.mem_singleton.mp hp]; exact (lv_cell k l c i).trans_le hn)
    (fun g u hg => (hO g u hg).2)

/-- What a device owes for one step: both lanes' transfer to the next device, both lanes' acknowledgement to the previous one. -/
def oStep (kr ka : Kd) (c : Dev nD) (s : ℕ) : CellTallies nD τ sig ℕ :=
  tallyAt (cell ka 1 (up 1 c)) s 1 + tallyAt (cell ka 0 (up 0 c)) s 1 + tallyAt (cell kr 1 (down 1 c)) s N + tallyAt (cell kr 0 (down 0 c)) s N
/-- What it owes for the steps from `s` on. -/
def oLeft (kr ka : Kd) (c : Dev nD) (s : ℕ) : CellTallies nD τ sig ℕ := ∑ r ∈ Finset.Ico s 31, oStep kr ka c r
theorem Ico_step {s : ℕ} (hs : s < 31) : Finset.Ico s 31 = insert s (Finset.Ico (s + 1) 31) := by
  ext j; simp only [Finset.mem_Ico, Finset.mem_insert]; omega
theorem step_notMem (s : ℕ) : s ∉ Finset.Ico (s + 1) 31 := by simp only [Finset.mem_Ico]; omega
omit [FloatOps F] in
/-- Of what is kept for the steps from `s` on, the part of step `s`. -/
theorem bigSep_step (Φ : ℕ → sProp 𝕄) {s : ℕ} (hs : s < 31) :
    bigSep (Finset.Ico s 31) Φ = iprop(Φ s ∗ bigSep (Finset.Ico (s + 1) 31) Φ) := by
  rw [Ico_step hs, bigSep_insert (step_notMem s)]; rfl
theorem oLeft_step (kr ka : Kd) (c : Dev nD) {s : ℕ} (hs : s < 31) : oLeft kr ka c s = oLeft kr ka c (s + 1) + oStep kr ka c s := by
  unfold oLeft; rw [Ico_step hs, Finset.sum_insert (step_notMem s), add_comm]
theorem oLeft_end (kr ka : Kd) (c : Dev nD) : oLeft kr ka c 31 = 0 := by unfold oLeft; rw [Finset.Ico_self, Finset.sum_empty]

/-- What a device owes at launch. -/
def O₀ (c : Dev nD) : CellTallies nD τ sig ℕ :=
  oLeft .rAg .aAg c 0 + oLeft .rRs .aRs c 0 + tallyAt (cell .bar 0 (barR c)) 0 1 + tallyAt (cell .bar 0 (barL c)) 0 1

theorem above_step {n : ℕ} {kr ka : Kd} (c : Dev nD) {s : ℕ} (hs : s < 31) (hr : n < lvK kr s) (ha : n < lvK ka s) : Above n (oStep kr ka c s) :=
  above_add (above_add (above_add (above_at _ _ _ _ _ hs ha) (above_at _ _ _ _ _ hs ha)) (above_at _ _ _ _ _ hs hr)) (above_at _ _ _ _ _ hs hr)
theorem above_left {n : ℕ} {kr ka : Kd} (c : Dev nD) (s : ℕ) (hr : ∀ r, s ≤ r → n < lvK kr r) (ha : ∀ r, s ≤ r → n < lvK ka r) :
    Above n (oLeft kr ka c s) :=
  above_sum _ _ fun r h => above_step c (Finset.mem_Ico.mp h).2 (hr r (Finset.mem_Ico.mp h).1) (ha r (Finset.mem_Ico.mp h).1)
theorem above_ag {n : ℕ} (c : Dev nD) {s : ℕ} (h : n < 2 * s + 64) : Above n (oLeft .rAg .aAg c s) :=
  above_left c s (fun r hr => show n < 2 * r + 64 by omega) (fun r hr => show n < 2 * r + 65 by omega)
theorem above_rs {n : ℕ} (c : Dev nD) {s : ℕ} (hs : s ≤ 31) (h : n < 2 * s + 2) : Above n (oLeft .rAg .aAg c 0 + oLeft .rRs .aRs c s) :=
  above_add (above_ag c (by omega))
    (above_left c s (fun r hr => show n < 2 * r + 2 by omega) (fun r hr => show n < 2 * r + 3 by omega))
theorem above_O₀ (c : Dev nD) : Above 0 (O₀ c) :=
  above_add (above_add (above_rs c (by decide) (by decide)) (above_at _ _ _ _ _ (by decide) Nat.one_pos)) (above_at _ _ _ _ _ (by decide) Nat.one_pos)

end Cert.KernelIdeal.Ring

end
-- ==== Proof.Ring.Ops.lean ====
/- One lemma for each kind of operation of the body: what it takes and what it leaves. -/
module

public import proofs.«01_k».proof.Proof.Ring.Owed

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

abbrev 𝒱₀ : Variants := Variants.none

/-- The weakest precondition of a program of device `c`. -/
abbrev wpc (c : Dev nD) (p : Txt F) (Q : PUnit → sProp 𝕄) : sProp 𝕄 := wp frame (wpE (defs₀ (F := F)) 𝒱₀ c none) Set.univ p Q

variable (X : Xs F) (K : GSem nD τ sig → ℕ) (c : Dev nD)

/-- Every cell's invariant, at the names the launch gave them. -/
def invs : sProp 𝕄 := bigSep Finset.univ fun p : Kd × Fin 2 × Dev nD => cellInv ER (sch X) (K (cell p.1 p.2.1 p.2.2)) (cell p.1 p.2.1 p.2.2)
instance invs_persistent : BI.Persistent (invs X K) := by unfold invs; infer_instance
theorem inv_at (k : Kd) (l : Fin 2) (c : Dev nD) : invs X K ⊢ cellInv ER (sch X) (K (cell k l c)) (cell k l c) :=
  bigSep_elim (Φ := fun p : Kd × Fin 2 × Dev nD => cellInv ER (sch X) (K (cell p.1 p.2.1 p.2.2)) (cell p.1 p.2.1 p.2.2)) (Finset.mem_univ (k, l, c))

/-- What device `c` owes, whatever it has waited for. -/
def ow (O : CellTallies nD τ sig ℕ) : sProp 𝕄 := iprop(∃ W, owes (c : Thread nD τ) O W)

omit [FloatOps F] in
/-- What a copy writes is what its source holds. -/
theorem has_written {sp sp' : Space} (M : Memref sig .tc sp S128x4096 .f32) (M' : Memref sig .tc sp' S128x4096 .f32) (f : M.view.ty.Contents (Elt F))
    (f' : M'.view.ty.Contents (Elt F)) {V : Tile F} (h : M'.view.read (Elt F) f' = V) :
    (M.view.loc (c : Thread nD τ) ↦[M.view.set]{fullShare} (M.view.write (Elt F) f (M'.view.read (Elt F) f') Finset.univ)) ⊢ (has M c V : sProp 𝕄) := by
  unfold has
  iintro H
  iexists (M.view.write (Elt F) f (M'.view.read (Elt F) f') Finset.univ)
  isplitr
  · ipureintro; exact (View.read_write_univ f _).trans h
  iexact H

omit [FloatOps F] in
theorem any_intro {sp : Space} (M : Memref sig .tc sp S128x4096 .f32) (f : M.view.ty.Contents (Elt F)) :
    (M.view.loc (c : Thread nD τ) ↦[M.view.set]{fullShare} f) ⊢ (any M c : sProp 𝕄) := by
  unfold any; iintro H; iexists f; iexact H

omit [FloatOps F] in
theorem has_intro {sp : Space} (M : Memref sig .tc sp S128x4096 .f32) (f : M.view.ty.Contents (Elt F)) {V : Tile F} (h : M.view.read (Elt F) f = V) :
    (M.view.loc (c : Thread nD τ) ↦[M.view.set]{fullShare} f) ⊢ (has M c V : sProp 𝕄) := by
  unfold has; iintro H; iexists f; isplitr
  · ipureintro; exact h
  iexact H

variable (l : Fin 2) (s : ℕ) {O : CellTallies nD τ sig ℕ} {k : PUnit.{1} → Txt F} {Q : PUnit.{1} → sProp (MT nD τ sig ℕ (Elt F) ℕ UU ℕ)}

/-! ## Waits and signals -/

/-- A wait on a counting semaphore for its round. -/
theorem wait_wp (kd : Kd) (sem : Sem sig) (hsem : semOf kd l = .reg sem) (hk : kd ≠ .bar) (ha : amt kd = 1) (i : ℕ) (hs : s < rounds kd)  :
    iprop(invs X K ∗ cred (tallyAt (cell kd l c) i 1) ∗ ow c O ∗ MayWait (c : Thread nD τ) (semOf kd l) i O ∗ atPos ER (cell kd l c) s ∅ 0)
    ⊢ iprop(((ow c O ∗ atPos ER (cell kd l c) (s + 1) ∅ 0 ∗ reached ER (cell kd l c) (s + 1) ∗ pay X kd l c s 0) -∗ wpc c (k ⟨⟩) Q)
        -∗ wpc c (.op (.semWait sem 1) k) Q) := by
  unfold ow
  iintro ⟨#HI, Hc, ⟨%W, HO⟩, Hm, Hp⟩ Hk
  iapply (Rounds.wp_wait_rest_token 𝒱₀ ER (sch X) (c : Thread nD τ) none (sm := semOf kd l) (κ := K (cell kd l c))
      (by rw [hsem]; exact wpE_semWait_eq 𝒱₀ (c : Thread nD τ) none Set.univ) (Set.mem_univ _) i (O := O) (W := W) (R := s) (m := 0) (T := ∅)
      (by rw [Nat.zero_add]; exact ((expect_one X c l hk hs).trans ha).symm)) $$ [Hc HO Hm Hp]
  · isplitr; · iapply (inv_at X K kd l c); iexact HI
    isplitl [Hc]; · iexact Hc
    isplitl [HO]; · iexact HO
    isplitl [Hm]; · iexact Hm
    iexact Hp
  iintro ⟨HO, Hp, Hr, Hpay⟩
  ihave Hpay := (Entails.of_eq (rest_one X c l hk hs)) $$ Hpay
  iapply Hk
  isplitl [HO]; · iexists _; iexact HO
  isplitl [Hp]; · iexact Hp
  isplitl [Hr]; · iexact Hr
  iexact Hpay

/-- A wait on a copy semaphore for its round. -/
theorem waitDma_wp (kd : Kd) (sem : DmaSem sig) (hsem : semOf kd l = .dma sem) (hk : kd ≠ .bar) (ha : amt kd = N) (i : ℕ) (hs : s < rounds kd)
    {sp sp' : Space} {s₀ s₁ : Shape} {e₀ e₁ : EltTy} {src : Memref sig .tc sp s₀ e₀} {dst : Memref sig .tc sp' s₁ e₁} {hsrc : src.view.WordExact} {hdst : dst.view.WordExact}
    (hN : dst.view.dmaCredit = N) :
    iprop(invs X K ∗ cred (tallyAt (cell kd l c) i N) ∗ ow c O ∗ MayWait (c : Thread nD τ) (semOf kd l) i O ∗ atPos ER (cell kd l c) s ∅ 0)
    ⊢ iprop(((ow c O ∗ atPos ER (cell kd l c) (s + 1) ∅ 0 ∗ reached ER (cell kd l c) (s + 1) ∗ pay X kd l c s 0) -∗ wpc c (k ⟨⟩) Q)
        -∗ wpc c (.op (.waitDma2 sem src dst hsrc hdst) k) Q) := by
  unfold ow
  iintro ⟨#HI, Hc, ⟨%W, HO⟩, Hm, Hp⟩ Hk
  iapply (Rounds.wp_wait_rest_token 𝒱₀ ER (sch X) (c : Thread nD τ) none (sm := semOf kd l) (k' := N) (κ := K (cell kd l c))
      (by rw [hsem, ← hN]; exact wpE_waitDma2_eq 𝒱₀ (c : Thread nD τ) none Set.univ) (Set.mem_univ _) i (O := O) (W := W) (R := s) (m := 0) (T := ∅)
      (by rw [Nat.zero_add]; exact ((expect_one X c l hk hs).trans ha).symm)) $$ [Hc HO Hm Hp]
  · isplitr; · iapply (inv_at X K kd l c); iexact HI
    isplitl [Hc]; · iexact Hc
    isplitl [HO]; · iexact HO
    isplitl [Hm]; · iexact Hm
    iexact Hp
  iintro ⟨HO, Hp, Hr, Hpay⟩
  ihave Hpay := (Entails.of_eq (rest_one X c l hk hs)) $$ Hpay
  iapply Hk
  isplitl [HO]; · iexists _; iexact HO
  isplitl [Hp]; · iexact Hp
  isplitl [Hr]; · iexact Hr
  iexact Hpay

/-- A signal to the device up the ring, acknowledging a round. -/
theorem signal_wp (kd : Kd) (sem : Sem sig) (hsem : semOf kd l = .reg sem) (hk : kd ≠ .bar) (ha : amt kd = 1) (hs : s < rounds kd) (p : Dev nD) :
    iprop(invs X K ∗ ow c (O + tallyAt (cell kd l p) s 1) ∗ dutyTok ER (cell kd l p) s 0 ∗ pay X kd l p s 0 ∗ reached ER (cell kd l p) s)
    ⊢ iprop((ow c O -∗ wpc c (k ⟨⟩) Q) -∗ wpc c (.op (.semSignal (p : Thread nD τ) sem 1) k) Q) := by
  unfold ow
  iintro ⟨#HI, ⟨%W, HO⟩, Ht, Hpay, #Hr⟩ Hk
  have hc : ((p : Thread nD τ), SemLoc.reg sem) = cell kd l p := by rw [← hsem]
  iapply (Rounds.wp_signal 𝒱₀ ER (sch X) (c : Thread nD τ) none (dst := (p : Thread nD τ)) (sem := sem) (r := s) (d := 0) (κ := K (cell kd l p))
      (by rw [hc]; exact mem_one X p l hk hs) (by rw [hc]; exact (amount_eq X p l 0).trans ha) s O (by rw [hc])) $$ [HO Ht Hpay]
  · rw [hc]
    isplitr; · iapply (inv_at X K kd l p); iexact HI
    isplitl [HO]; · iexact HO
    isplitl [Ht]; · iexact Ht
    isplitl [Hpay]; · iapply (Entails.of_eq (payload_one X p l hk 0).symm); iexact Hpay
    iexact Hr
  iintro HO
  iapply Hk
  iexists W; iexact HO

/-! ## Copies and transfers -/

/-- A copy on one device. -/
theorem copy_wp (hs : s < 33) {sp sp' : Space} {src : Memref sig .tc sp S128x4096 .f32} {dst : Memref sig .tc sp' S128x4096 .f32}
    {hsrc : src.view.WordExact} {hdst : dst.view.WordExact} {hsem : DmaTarget.Typed (nD := nD) (p := (c : Thread nD τ).2) sp (semOf .cp l) (.here dst)}
    (hN : dst.view.amount (semOf .cp l) = N) (f : src.view.ty.Contents (Elt F))
    (hpay : iprop(has dst c (src.view.read (Elt F) f) ∗ (src.view.loc (c : Thread nD τ) ↦[src.view.set]{fullShare} f)) ⊢ pay X .cp l c s 0) :
    iprop(invs X K ∗ (src.view.loc (c : Thread nD τ) ↦[src.view.set]{fullShare} f) ∗ any dst c ∗ dutyTok ER (cell .cp l c) s 0 ∗ reached ER (cell .cp l c) s)
    ⊢ iprop((cred (tallyAt (cell .cp l c) 0 N) -∗ wpc c (k ⟨⟩) Q)
        -∗ wpc c (.op (.enqueueDma src (.here dst) (semOf .cp l) hsrc hdst hsem) k) Q) := by
  unfold any
  iintro ⟨#HI, Hs, ⟨%fd, Hd⟩, Ht, #Hr⟩
  iapply (Rounds.wp_copy_pointsTo 𝒱₀ ER (sch X) (c : Thread nD τ) none (src := src) (dst := dst) (sem := semOf .cp l) (q := fullShare) (fs := f) (fd := fd)
      (r := s) (d := 0) (κ := K (cell .cp l c)) (mem_one X c l (by decide) hs) 0 N hN (amount_eq X c l 0)
      ((sep_mono_left (has_written c dst src fd f rfl)).trans (hpay.trans (Entails.of_eq (payload_one X c l (by decide) 0).symm)))) $$ [Hs Hd Ht]
  isplitr; · iapply (inv_at X K .cp l c); iexact HI
  isplitl [Hs]; · iexact Hs
  isplitl [Hd]; · iexact Hd
  isplitl [Ht]; · iexact Ht
  iexact Hr

/-- A transfer to the device down the ring. -/
theorem send_wp (ks kr : Kd) (p : Dev nD) (hks : ks ≠ .bar) (hkr : kr ≠ .bar) (hs : s < rounds ks) (hr : s < rounds kr) (hans : amt ks = N) (hanr : amt kr = N)
    {sp sp' : Space} {src : Memref sig .tc sp S128x4096 .f32} {dst : Memref sig .tc sp' S128x4096 .f32}
    {hsc : dst.view.ref.isScScratch = false} {hsrc : src.view.WordExact} {hdst : dst.view.WordExact}
    {hsem : DmaTarget.Typed (p := (c : Thread nD τ).2) sp (semOf kr l) (.remote (Dev.tc (τ := τ) p) dst (semOf ks l) hsc)}
    (hN : dst.view.amount (semOf kr l) = N) {V : Tile F} {R : sProp 𝕄}
    (hpay₁ : has src c V ⊢ pay X ks l c s 0) (hpay₂ : iprop(has dst p V ∗ R) ⊢ pay X kr l p s 0) :
    iprop(invs X K ∗ has src c V ∗ any dst p ∗ R ∗ ow c (O + tallyAt (cell kr l p) s N)
      ∗ dutyTok ER (cell ks l c) s 0 ∗ reached ER (cell ks l c) s ∗ dutyTok ER (cell kr l p) s 0 ∗ reached ER (cell kr l p) s)
    ⊢ iprop(((cred (tallyAt (cell ks l c) 0 N) ∗ ow c O) -∗ wpc c (k ⟨⟩) Q)
        -∗ wpc c (.op (.enqueueDma src (.remote (Dev.tc (τ := τ) p) dst (semOf ks l) hsc) (semOf kr l) hsrc hdst hsem) k) Q) := by
  unfold any ow
  iintro ⟨#HI, Hs, ⟨%fd, Hd⟩, HR, ⟨%W, HO⟩, Ht, #Hr, Ht', #Hr'⟩ Hk
  unfold Ring.has at hpay₁ ⊢
  icases Hs with ⟨%f, %hf, Hs⟩
  iapply (Rounds.wp_send_pointsTo_with 𝒱₀ ER (sch X) (c : Thread nD τ) none (c' := (p : Thread nD τ)) (src := src) (dst := dst)
      (sS := semOf ks l) (sem := semOf kr l) (q := fullShare) (fs := f) (fd := fd) (F := R)
      (κ₁ := K (cell ks l c)) (κ₂ := K (cell kr l p)) (r₁ := s) (r₂ := s) (d₁ := 0) (d₂ := 0)
      (mem_one X c l hks hs) (mem_one X p l hkr hr) s 0 N hN ((amount_eq X c l 0).trans hans) ((amount_eq X p l 0).trans hanr) O rfl
      (((has_intro c src f hf).trans hpay₁).trans (Entails.of_eq (payload_one X c l hks 0).symm))
      (((sep_mono_left (has_written p dst src fd f hf)).trans hpay₂).trans (Entails.of_eq (payload_one X p l hkr 0).symm))) $$ [Hs Hd HR HO Ht Ht']
  · isplitr; · iapply (inv_at X K ks l c); iexact HI
    isplitr; · iapply (inv_at X K kr l p); iexact HI
    isplitl [Hs]; · iexact Hs
    isplitl [Hd HR]
    · isplitl [Hd]; · iexact Hd
      iexact HR
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists W; iexact HO

end Cert.KernelIdeal.Ring

end
-- ==== Proof.Ring.Lane.lean ====
/- One lane's part of a step: what it takes and what it leaves. -/
module

public import proofs.«01_k».proof.Proof.Ring.Ops
public import Idealize.ShloMosaic.Lib.Pipeline.Value

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

omit [FloatOps F] in
/-- A lane is its rectangle of the two-lane buffer. -/
theorem lane_set (M : Memref sig .tc .vmem S2x128x4096 .f32) (l : Fin 2) : (lane M l).view.set = (M.access (laneR l)).set :=
  View.set_reshape _ _

omit [FloatOps F] in
/-- A lane reads as its rectangle, in the matrix's shape. -/
theorem lane_read (M : Memref sig .tc .vmem S2x128x4096 .f32) (l : Fin 2) (f : M.view.ty.Contents (Elt F)) :
    (lane M l).view.read (Elt F) f = shapeCast S128x4096 ((M.access (laneR l)).read (Elt F) f) shapeCasts_S1x128x4096_S128x4096 := rfl

/-- What the store leaves in the accumulator. -/
theorem lane_sum (l : Fin 2) (f : aM.view.ty.Contents (Elt F)) (vb vc : Vec F S1x128x4096 .f32) :
    (lane aM l).view.read (Elt F) ((aM.access (laneR l)).write (Elt F) f (k1_pay1 vb vc) Finset.univ)
      = addf (F := F) (s := S128x4096) (φ := .f32) (shapeCast S128x4096 vb shapeCasts_S1x128x4096_S128x4096) (shapeCast S128x4096 vc shapeCasts_S1x128x4096_S128x4096) := by
  rw [lane_read, View.read_write_univ]
  exact shapeCast_shapeCast _ _ _

variable (X : Xs F) (K : GSem nD τ sig → ℕ) (c : Dev nD)
variable (l : Fin 2) (s : ℕ) {O : CellTallies nD τ sig ℕ} {k : PUnit.{1} → Txt F} {Q : PUnit.{1} → sProp (MT nD τ sig ℕ (Elt F) ℕ UU ℕ)}

/-! ## Reduce-scatter -/

omit [FloatOps F] in
/-- A lane of the receive buffer counts as every transfer does. -/
theorem bM_amount : (lane bM l).view.amount (semOf .rRs l) = N := rfl
omit [FloatOps F] in
theorem cM_amount : (lane cM l).view.amount (semOf .cp l) = N := rfl
omit [FloatOps F] in
theorem aM_credit : (lane aM l).view.dmaCredit = N := rfl
omit [FloatOps F] in
theorem bM_credit : (lane bM l).view.dmaCredit = N := rfl
omit [FloatOps F] in
theorem cM_credit : (lane cM l).view.dmaCredit = N := rfl

theorem pay_sRs : has (lane aM l) c (acc X l s c) ⊢ pay X .sRs l c s 0 := by unfold pay; exact has_any _ _ _
theorem pay_rRs : iprop(has (lane bM l) (down l c) (acc X l s c) ∗ reached ER (cell .aRs l c) s) ⊢ pay X .rRs l (down l c) s 0 := by
  unfold pay; dsimp only; rw [up_down]
theorem pay_cp (hs : s < 31) : pay X .cp l c (s + 1) 0
    = iprop(has (lane cM l) c ((inC l c s).view.read (Elt F) (X c)) ∗ xPart X c (inOff l c s) (inOff_inb l c s)) := by
  unfold pay; dsimp only; rw [if_pos hs]

/-- The accumulator sent on. -/
theorem rsSend_wp (hs : s < 31) :
    iprop(invs X K ∗ has (lane aM l) c (acc X l s c) ∗ any (lane bM l) (down l c) ∗ reached ER (cell .aRs l c) s
      ∗ ow c (O + tallyAt (cell .rRs l (down l c)) s N)
      ∗ dutyTok ER (cell .sRs l c) s 0 ∗ reached ER (cell .sRs l c) s
      ∗ dutyTok ER (cell .rRs l (down l c)) s 0 ∗ reached ER (cell .rRs l (down l c)) s)
    ⊢ iprop(((cred (tallyAt (cell .sRs l c) 0 N) ∗ ow c O) -∗ wpc c (k ⟨⟩) Q)
        -∗ wpc c (rsSend c l >>= k) Q) := by
  have h1 : s < rounds .sRs := hs
  have h2 : s < rounds .rRs := hs
  have h3 : amt .sRs = N := rfl
  have h4 : amt .rRs = N := rfl
  exact send_wp X K c l s (src := lane aM l) (dst := lane bM l) (O := O) (k := k) (Q := Q) (hsc := rfl)
    (hsrc := (View.wordExact_bits rfl).reshape _ _) (hdst := (View.wordExact_bits rfl).reshape _ _) (hsem := ⟨⟨rfl, Or.inl rfl⟩, trivial⟩)
    .sRs .rRs (down l c) (by decide) (by decide) h1 h2 h3 h4 (bM_amount l) (pay_sRs X c l s) (pay_rRs X c l s)

/-- The next chunk copied beside the receive buffer. -/
theorem inStart_wp (hs : s < 31) :
    iprop(invs X K ∗ xPart X c (inOff l c s) (inOff_inb l c s) ∗ any (lane cM l) c ∗ dutyTok ER (cell .cp l c) (s + 1) 0 ∗ reached ER (cell .cp l c) (s + 1))
    ⊢ iprop((cred (tallyAt (cell .cp l c) 0 N) -∗ wpc c (k ⟨⟩) Q) -∗ wpc c (inStart c s l >>= k) Q) := by
  have h1 : s + 1 < 33 := by omega
  exact copy_wp X K c l (s + 1) (k := k) (Q := Q) h1 (src := inC l c s) (dst := lane cM l)
    (hsrc := View.wordExact_bits rfl) (hdst := (View.wordExact_bits rfl).reshape _ _) (hsem := ⟨Or.inl rfl, trivial⟩) (cM_amount l) (X c)
    (Entails.of_eq (pay_cp X c l s hs).symm)

/-- The three waits and the sum. -/
theorem rsAdd_wp (hs : s < 31) (hO : Above (2 * s + 2) O) :
    iprop(invs X K ∗ levAts L lv ∗ cred (tallyAt (cell .sRs l c) 0 N) ∗ cred (tallyAt (cell .cp l c) 0 N) ∗ cred (tallyAt (cell .rRs l c) s N)
      ∗ ow c O ∗ atPos ER (cell .sRs l c) s ∅ 0 ∗ atPos ER (cell .rRs l c) s ∅ 0 ∗ atPos ER (cell .cp l c) (s + 1) ∅ 0)
    ⊢ iprop(((ow c O ∗ (atPos ER (cell .sRs l c) (s + 1) ∅ 0 ∗ atPos ER (cell .rRs l c) (s + 1) ∅ 0 ∗ atPos ER (cell .cp l c) (s + 2) ∅ 0)
          ∗ (reached ER (cell .sRs l c) (s + 1) ∗ reached ER (cell .rRs l c) (s + 1) ∗ reached ER (cell .cp l c) (s + 2) ∗ reached ER (cell .aRs l (up l c)) s)
          ∗ has (lane aM l) c (acc X l (s + 1) c) ∗ any (lane bM l) c ∗ any (lane cM l) c ∗ xPart X c (inOff l c s) (inOff_inb l c s)) -∗ wpc c (k ⟨⟩) Q)
        -∗ wpc c (rsAdd c s l >>= k) Q) := by
  have h1 : s < rounds .sRs := hs
  have h2 : s < rounds .rRs := hs
  have h3 : s + 1 < rounds .cp := by show s + 1 < 33; omega
  have a1 : amt .sRs = N := rfl
  have a2 : amt .rRs = N := rfl
  have a3 : amt .cp = N := rfl
  iintro ⟨#HI, #Hl, HcS, HcC, HcR, HO, HpS, HpR, HpC⟩ Hk
  iapply (waitDma_wp X K c l s .sRs (dsem cc1_scratch3 l) rfl (by decide) a1 0 h1 (src := lane bM l) (dst := lane aM l)
    (hsrc := (View.wordExact_bits rfl).reshape _ _) (hdst := (View.wordExact_bits rfl).reshape _ _) (aM_credit l)) $$ [HcS HO HpS]
  · isplitr; · iexact HI
    isplitl [HcS]; · iexact HcS
    isplitl [HO]; · iexact HO
    isplitr; · iapply (mayWait .sRs l c (by decide) (Nat.zero_le _) hO); iexact Hl
    iexact HpS
  iintro ⟨HO, HpS, #HrS, Ha⟩
  iapply (waitDma_wp X K c l s .rRs (dsem cc1_scratch4 l) rfl (by decide) a2 s h2 (src := lane aM l) (dst := lane bM l)
    (hsrc := (View.wordExact_bits rfl).reshape _ _) (hdst := (View.wordExact_bits rfl).reshape _ _) (bM_credit l)) $$ [HcR HO HpR]
  · isplitr; · iexact HI
    isplitl [HcR]; · iexact HcR
    isplitl [HO]; · iexact HO
    isplitr; · iapply (mayWait .rRs l c hs (Nat.le_refl _) hO); iexact Hl
    iexact HpR
  iintro ⟨HO, HpR, #HrR, Hb⟩
  iapply (waitDma_wp X K c l (s + 1) .cp (dsem cc1_scratch7 l) rfl (by decide) a3 0 h3 (src := inC l c s) (dst := lane cM l)
    (hsrc := View.wordExact_bits rfl) (hdst := (View.wordExact_bits rfl).reshape _ _) (cM_credit l)) $$ [HcC HO HpC]
  · isplitr; · iexact HI
    isplitl [HcC]; · iexact HcC
    isplitl [HO]; · iexact HO
    isplitr; · iapply (mayWait .cp l c (by decide) (Nat.zero_le _) hO); iexact Hl
    iexact HpC
  iintro ⟨HO, HpC, #HrC, Hc⟩
  ihave Hc := (Entails.of_eq (pay_cp X c l s hs)) $$ Hc
  unfold pay
  dsimp only
  unfold has any
  icases Ha with ⟨%fa, Ha⟩
  icases Hb with ⟨⟨%fb, %hb, Hb⟩, #Hra⟩
  icases Hc with ⟨⟨%fc, %hc, Hc⟩, Hx⟩
  iapply (wp_load_rect 𝒱₀ (c : Thread nD τ) none Set.univ (m := bM) (r := laneR l) (S := (lane bM l).view.set) (by rw [lane_set])) $$ Hb
  iintro Hb
  iapply (wp_load_rect 𝒱₀ (c : Thread nD τ) none Set.univ (m := cM) (r := laneR l) (S := (lane cM l).view.set) (by rw [lane_set])) $$ Hc
  iintro Hc
  iapply (wp_load_rect 𝒱₀ (c : Thread nD τ) none Set.univ (m := aM) (r := laneR l) (S := (lane aM l).view.set) (by rw [lane_set])) $$ Ha
  iintro Ha
  iapply (wp_store 𝒱₀ (c : Thread nD τ) none Set.univ (m := aM) (r := laneR l) (S := (lane aM l).view.set) (by rw [lane_set]; exact Finset.Subset.refl _)) $$ Ha
  iintro Ha
  iapply Hk
  isplitl [HO]; · iexact HO
  isplitl [HpS HpR HpC]
  · isplitl [HpS]; · iexact HpS
    isplitl [HpR]; · iexact HpR
    iexact HpC
  isplitr
  · isplitr; · iexact HrS
    isplitr; · iexact HrR
    isplitr; · iexact HrC
    iexact Hra
  isplitl [Ha]
  · iexists ((aM.access (laneR l)).write (Elt F) fa (k1_pay1 ((bM.access (laneR l)).read (Elt F) fb) ((cM.access (laneR l)).read (Elt F) fc)) Finset.univ)
    isplitr
    · ipureintro
      refine (lane_sum l fa _ _).trans ?_
      rw [← lane_read, ← lane_read, hb, hc]; rfl
    iexact Ha
  isplitl [Hb]; · iexists fb; iexact Hb
  isplitl [Hc]; · iexists fc; iexact Hc
  iexact Hx

end Cert.KernelIdeal.Ring

end
-- ==== Proof.Ring.Ack.lean ====
/- One lane's part of the rest: the acknowledgements, the copies before and after the reduce-scatter, the all-gather. -/
module

public import proofs.«01_k».proof.Proof.Ring.Lane

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Xs F) (K : GSem nD τ sig → ℕ) (c : Dev nD)
variable (l : Fin 2) (s : ℕ) {O : CellTallies nD τ sig ℕ} {k : PUnit.{1} → Txt F} {Q : PUnit.{1} → sProp (MT nD τ sig ℕ (Elt F) ℕ UU ℕ)}

/-! ## Acknowledgements -/

/-- A signal is one operation. -/
theorem signal_op (p : Dev nD) (sem : Sem sig) : (semSignalWord p sem 1#32 >>= k) = Prog.op (.semSignal (p : Thread nD τ) sem 1) k := rfl
/-- A wait is one operation. -/
theorem wait_op (sem : Sem sig) : ((semWaitWord sem 1#32 : Txt F) >>= k) = Prog.op (.semWait sem 1) k := rfl

/-- The buffer a lane sends to at reduce-scatter step `s`; after the last step, its own, back. -/
def blank : sProp 𝕄 := if s < 31 then any (lane bM l) (down l c) else any (lane bM l) c

/-- The acknowledgement that the receive buffer is free again. -/
theorem rsSig_wp (hs : s < 31) :
    iprop(invs X K ∗ ow c (O + tallyAt (cell .aRs l (up l c)) s 1) ∗ dutyTok ER (cell .aRs l (up l c)) s 0 ∗ any (lane bM l) c
      ∗ reached ER (cell .rRs l c) (s + 1) ∗ reached ER (cell .aRs l (up l c)) s)
    ⊢ iprop(((ow c O ∗ if s < 30 then iprop(emp) else any (lane bM l) c) -∗ wpc c (k ⟨⟩) Q)
        -∗ wpc c (semSignalWord (up l c) (rsem cc1_scratch8 l) 1#32 >>= k) Q) := by
  have h1 : s < rounds .aRs := hs
  have a1 : amt .aRs = 1 := rfl
  rw [signal_op]
  iintro ⟨#HI, HO, Ht, Hb, #Hr, #Hr'⟩ Hk
  ihave Hb := (show (any (lane bM l) c : sProp 𝕄) ⊢ iprop((if s < 30 then any (lane bM l) c else iprop(emp)) ∗ (if s < 30 then iprop(emp) else any (lane bM l) c)) by
    split
    · exact Laws.sep_emp.mpr
    · exact BIClass.emp_sep.mpr) $$ Hb
  icases Hb with ⟨Hb, Hb'⟩
  iapply (signal_wp X K c l s .aRs (rsem cc1_scratch8 l) rfl (by decide) a1 h1 (up l c)) $$ [HO Ht Hb]
  · isplitr; · iexact HI
    isplitl [HO]; · iexact HO
    isplitl [Ht]; · iexact Ht
    isplitl [Hb]
    · unfold pay; dsimp only; rw [down_up]
      isplitl [Hb]; · iexact Hb
      iexact Hr
    iexact Hr'
  iintro HO
  iapply Hk
  isplitl [HO]; · iexact HO
  iexact Hb'

/-- The wait for the acknowledgement from the device down the ring. -/
theorem rsAck_wp (hs : s < 31) (hO : Above (2 * s + 3) O) :
    iprop(invs X K ∗ levAts L lv ∗ cred (tallyAt (cell .aRs l c) s 1) ∗ ow c O ∗ atPos ER (cell .aRs l c) s ∅ 0
      ∗ (if s < 30 then iprop(emp) else any (lane bM l) c))
    ⊢ iprop(((ow c O ∗ atPos ER (cell .aRs l c) (s + 1) ∅ 0 ∗ reached ER (cell .aRs l c) (s + 1) ∗ blank c l (s + 1)
          ∗ reached ER (cell .rRs l (down l c)) (s + 1)) -∗ wpc c (k ⟨⟩) Q)
        -∗ wpc c (semWaitWord (rsem cc1_scratch8 l) 1#32 >>= k) Q) := by
  have h1 : s < rounds .aRs := hs
  have a1 : amt .aRs = 1 := rfl
  rw [wait_op]
  iintro ⟨#HI, #Hl, Hc, HO, Hp, Hb⟩ Hk
  iapply (wait_wp X K c l s .aRs (rsem cc1_scratch8 l) rfl (by decide) a1 s h1) $$ [Hc HO Hp]
  · isplitr; · iexact HI
    isplitl [Hc]; · iexact Hc
    isplitl [HO]; · iexact HO
    isplitr; · iapply (mayWait .aRs l c hs (Nat.le_refl _) hO); iexact Hl
    iexact Hp
  unfold pay
  dsimp only
  iintro ⟨HO, Hp, Hr, Hb', Hr'⟩
  ihave Hb := (show iprop((if s < 30 then iprop(emp) else any (lane bM l) c) ∗ (if s < 30 then any (lane bM l) (down l c) else iprop(emp))) ⊢ (blank c l (s + 1) : sProp 𝕄) by
    unfold blank
    by_cases h : s < 30
    · rw [if_pos h, if_pos h, if_pos (by omega)]; exact BIClass.emp_sep.mp
    · rw [if_neg h, if_neg h, if_neg (by omega)]; exact Laws.sep_emp.mp) $$ [Hb Hb']
  · isplitl [Hb]; · iexact Hb
    iexact Hb'
  iapply Hk
  isplitl [HO]; · iexact HO
  isplitl [Hp]; · iexact Hp
  isplitl [Hr]; · iexact Hr
  isplitl [Hb]; · iexact Hb
  iexact Hr'

/-- The acknowledgement that a chunk of the all-gather arrived. -/
theorem agSig_wp (hs : s < 31) :
    iprop(invs X K ∗ ow c (O + tallyAt (cell .aAg l (up l c)) s 1) ∗ dutyTok ER (cell .aAg l (up l c)) s 0
      ∗ reached ER (cell .rAg l c) (s + 1) ∗ reached ER (cell .aAg l (up l c)) s)
    ⊢ iprop((ow c O -∗ wpc c (k ⟨⟩) Q)
        -∗ wpc c (semSignalWord (up l c) (rsem cc1_scratch9 l) 1#32 >>= k) Q) := by
  have h1 : s < rounds .aAg := hs
  have a1 : amt .aAg = 1 := rfl
  rw [signal_op]
  iintro ⟨#HI, HO, Ht, #Hr, #Hr'⟩ Hk
  iapply (signal_wp X K c l s .aAg (rsem cc1_scratch9 l) rfl (by decide) a1 h1 (up l c)) $$ [HO Ht]
  · isplitr; · iexact HI
    isplitl [HO]; · iexact HO
    isplitl [Ht]; · iexact Ht
    isplitr
    · unfold pay; dsimp only; rw [down_up]
      iexact Hr
    iexact Hr'
  iexact Hk

/-- The wait for the all-gather's acknowledgement from the device down the ring. -/
theorem agAck_wp (hs : s < 31) (hO : Above (2 * s + 65) O) :
    iprop(invs X K ∗ levAts L lv ∗ cred (tallyAt (cell .aAg l c) s 1) ∗ ow c O ∗ atPos ER (cell .aAg l c) s ∅ 0)
    ⊢ iprop(((ow c O ∗ atPos ER (cell .aAg l c) (s + 1) ∅ 0 ∗ reached ER (cell .aAg l c) (s + 1)
          ∗ reached ER (cell .rAg l (down l c)) (s + 1)) -∗ wpc c (k ⟨⟩) Q)
        -∗ wpc c (semWaitWord (rsem cc1_scratch9 l) 1#32 >>= k) Q) := by
  have h1 : s < rounds .aAg := hs
  have a1 : amt .aAg = 1 := rfl
  rw [wait_op]
  iintro ⟨#HI, #Hl, Hc, HO, Hp⟩ Hk
  iapply (wait_wp X K c l s .aAg (rsem cc1_scratch9 l) rfl (by decide) a1 s h1) $$ [Hc HO Hp]
  · isplitr; · iexact HI
    isplitl [Hc]; · iexact Hc
    isplitl [HO]; · iexact HO
    isplitr; · iapply (mayWait .aAg l c hs (Nat.le_refl _) hO); iexact Hl
    iexact Hp
  unfold pay
  dsimp only
  iexact Hk

/-! ## The copies before and after the reduce-scatter -/

omit [FloatOps F] in
theorem aM_amount : (lane aM l).view.amount (semOf .cp l) = N := rfl
omit [FloatOps F] in
theorem agC_amount : (agC l c s).view.amount (semOf .cp l) = N := rfl
omit [FloatOps F] in
theorem agC_credit : (agC l c s).view.dmaCredit = N := rfl

/-- The own chunk's copy begun. -/
theorem ownStart_wp :
    iprop(invs X K ∗ xPart X c (ownOff l c) (ownOff_inb l c) ∗ any (lane aM l) c ∗ dutyTok ER (cell .cp l c) 0 0 ∗ reached ER (cell .cp l c) 0)
    ⊢ iprop((cred (tallyAt (cell .cp l c) 0 N) -∗ wpc c (k ⟨⟩) Q) -∗ wpc c (ownStart c l >>= k) Q) := by
  have h1 : 0 < 33 := by omega
  exact copy_wp X K c l 0 (k := k) (Q := Q) h1 (src := ownC l c) (dst := lane aM l)
    (hsrc := View.wordExact_bits rfl) (hdst := (View.wordExact_bits rfl).reshape _ _) (hsem := ⟨Or.inl rfl, trivial⟩) (aM_amount l) (X c)
    (Entails.of_eq rfl)

/-- The own chunk's copy done. -/
theorem ownWait_wp (hO : Above 0 O) :
    iprop(invs X K ∗ levAts L lv ∗ cred (tallyAt (cell .cp l c) 0 N) ∗ ow c O ∗ atPos ER (cell .cp l c) 0 ∅ 0)
    ⊢ iprop(((ow c O ∗ atPos ER (cell .cp l c) 1 ∅ 0 ∗ reached ER (cell .cp l c) 1 ∗ has (lane aM l) c (acc X l 0 c) ∗ xPart X c (ownOff l c) (ownOff_inb l c)) -∗ wpc c (k ⟨⟩) Q)
        -∗ wpc c (ownWait c l >>= k) Q) := by
  have h1 : 0 < rounds .cp := by show 0 < 33; omega
  have a1 : amt .cp = N := rfl
  iintro ⟨#HI, #Hl, Hc, HO, Hp⟩ Hk
  iapply (waitDma_wp X K c l 0 .cp (dsem cc1_scratch7 l) rfl (by decide) a1 0 h1 (src := ownC l c) (dst := lane aM l)
    (hsrc := View.wordExact_bits rfl) (hdst := (View.wordExact_bits rfl).reshape _ _) (aM_credit l)) $$ [Hc HO Hp]
  · isplitr; · iexact HI
    isplitl [Hc]; · iexact Hc
    isplitl [HO]; · iexact HO
    isplitr; · iapply (mayWait .cp l c (by decide) (Nat.le_refl _) hO); iexact Hl
    iexact Hp
  unfold pay
  dsimp only
  iexact Hk

theorem pay_mid : pay X .cp l c 32 0 = iprop(has (agC l c 0) c (fin X l 0 c) ∗ any (lane aM l) c) := by
  have h : ∀ s, ¬ s < 31 → pay X .cp l c (s + 1) 0 = iprop(has (agC l c 0) c (fin X l 0 c) ∗ any (lane aM l) c) := by
    intro s hs; unfold pay; dsimp only; rw [if_neg hs]
  exact h 31 (by decide)

/-- The finished chunk's copy into the result begun. -/
theorem midStart_wp :
    iprop(invs X K ∗ has (lane aM l) c (acc X l 31 c) ∗ any (agC l c 0) c ∗ dutyTok ER (cell .cp l c) 32 0 ∗ reached ER (cell .cp l c) 32)
    ⊢ iprop((cred (tallyAt (cell .cp l c) 0 N) -∗ wpc c (k ⟨⟩) Q) -∗ wpc c (midStart c l >>= k) Q) := by
  have h1 : 32 < 33 := by omega
  unfold Ring.has
  iintro ⟨#HI, ⟨%f, %hf, Ha⟩, H⟩
  iapply (copy_wp X K c l 32 (k := k) (Q := Q) h1 (src := lane aM l) (dst := agC l c 0)
    (hsrc := (View.wordExact_bits rfl).reshape _ _) (hdst := View.wordExact_bits rfl) (hsem := ⟨Or.inl rfl, trivial⟩) (agC_amount c l 0) f
    (by rw [pay_mid, hf]; exact sep_mono_right (any_intro c _ f)))
  isplitr; · iexact HI
  isplitl [Ha]; · iexact Ha
  iexact H

/-- The finished chunk's copy into the result done. -/
theorem midWait_wp (hO : Above 0 O) :
    iprop(invs X K ∗ levAts L lv ∗ cred (tallyAt (cell .cp l c) 0 N) ∗ ow c O ∗ atPos ER (cell .cp l c) 32 ∅ 0)
    ⊢ iprop(((ow c O ∗ atPos ER (cell .cp l c) 33 ∅ 0 ∗ has (agC l c 0) c (fin X l 0 c) ∗ any (lane aM l) c) -∗ wpc c (k ⟨⟩) Q)
        -∗ wpc c (midWait c l >>= k) Q) := by
  have h1 : 32 < rounds .cp := by show 32 < 33; omega
  have a1 : amt .cp = N := rfl
  iintro ⟨#HI, #Hl, Hc, HO, Hp⟩ Hk
  iapply (waitDma_wp X K c l 32 .cp (dsem cc1_scratch7 l) rfl (by decide) a1 0 h1 (src := lane aM l) (dst := agC l c 0)
    (hsrc := (View.wordExact_bits rfl).reshape _ _) (hdst := View.wordExact_bits rfl) (agC_credit c l 0)) $$ [Hc HO Hp]
  · isplitr; · iexact HI
    isplitl [Hc]; · iexact Hc
    isplitl [HO]; · iexact HO
    isplitr; · iapply (mayWait .cp l c (by decide) (Nat.le_refl _) hO); iexact Hl
    iexact Hp
  iintro ⟨HO, Hp, -, Hpay⟩
  ihave Hpay := (Entails.of_eq (pay_mid X c l)) $$ Hpay
  iapply Hk
  isplitl [HO]; · iexact HO
  isplitl [Hp]; · iexact Hp
  iexact Hpay

/-! ## All-gather -/

omit [FloatOps F] in
theorem agC_send : (agC l c s).view.amount (semOf .rAg l) = N := rfl

omit [FloatOps F] in
theorem chunk_congr (M : Memref sig .tc .hbm S4096x8192 .f32) {o o' : Fin 2 → Nat} (h : o = o')
    (ho : ∀ a, o a + S128x4096.size a ≤ S4096x8192.size a) (ho' : ∀ a, o' a + S128x4096.size a ≤ S4096x8192.size a) : chunk M o ho = chunk M o' ho' := by
  subst h; rfl

omit [FloatOps F] in
/-- The chunk passed on is, on the device it is sent to, the next step's chunk. -/
theorem agC_down (hs : s < 31) : agC l c s = agC l (down l c) (s + 1) := by
  have h := agOff_up l (down l c) ⟨s, hs⟩
  rw [up_down] at h
  exact chunk_congr yM h _ _

theorem fin_succ : fin X l (s + 1) c = fin X l s (up l c) := by rw [fin]

theorem pay_rAg (hs : s < 31) : iprop(has (agC l c s) (down l c) (fin X l s c) ∗ reached ER (cell .aAg l c) s) ⊢ pay X .rAg l (down l c) s 0 := by
  unfold pay; dsimp only
  rw [← agC_down c l s hs, fin_succ, up_down]

/-- A finished chunk sent on. -/
theorem agSend_wp (hs : s < 31) :
    iprop(invs X K ∗ has (agC l c s) c (fin X l s c) ∗ any (agC l c s) (down l c) ∗ reached ER (cell .aAg l c) s
      ∗ ow c (O + tallyAt (cell .rAg l (down l c)) s N)
      ∗ dutyTok ER (cell .sAg l c) s 0 ∗ reached ER (cell .sAg l c) s
      ∗ dutyTok ER (cell .rAg l (down l c)) s 0 ∗ reached ER (cell .rAg l (down l c)) s)
    ⊢ iprop(((cred (tallyAt (cell .sAg l c) 0 N) ∗ ow c O) -∗ wpc c (k ⟨⟩) Q)
        -∗ wpc c (agSend c s l >>= k) Q) := by
  have h1 : s < rounds .sAg := hs
  have h2 : s < rounds .rAg := hs
  have h3 : amt .sAg = N := rfl
  have h4 : amt .rAg = N := rfl
  exact send_wp X K c l s (src := agC l c s) (dst := agC l c s) (O := O) (k := k) (Q := Q) (hsc := rfl)
    (hsrc := View.wordExact_bits rfl) (hdst := View.wordExact_bits rfl) (hsem := ⟨⟨rfl, Or.inl rfl⟩, trivial⟩)
    .sAg .rAg (down l c) (by decide) (by decide) h1 h2 h3 h4 (agC_send c l s) (Entails.of_eq rfl) (pay_rAg X c l s hs)

/-- The waits for the chunk sent and the chunk received. -/
theorem agWait_wp (hs : s < 31) (hO : Above (2 * s + 64) O) :
    iprop(invs X K ∗ levAts L lv ∗ cred (tallyAt (cell .sAg l c) 0 N) ∗ cred (tallyAt (cell .rAg l c) s N)
      ∗ ow c O ∗ atPos ER (cell .sAg l c) s ∅ 0 ∗ atPos ER (cell .rAg l c) s ∅ 0)
    ⊢ iprop(((ow c O ∗ (atPos ER (cell .sAg l c) (s + 1) ∅ 0 ∗ atPos ER (cell .rAg l c) (s + 1) ∅ 0)
          ∗ (reached ER (cell .sAg l c) (s + 1) ∗ reached ER (cell .rAg l c) (s + 1) ∗ reached ER (cell .aAg l (up l c)) s)
          ∗ has (agC l c s) c (fin X l s c) ∗ has (agC l c (s + 1)) c (fin X l (s + 1) c)) -∗ wpc c (k ⟨⟩) Q)
        -∗ wpc c (agWait c s l >>= k) Q) := by
  have h1 : s < rounds .sAg := hs
  have h2 : s < rounds .rAg := hs
  have a1 : amt .sAg = N := rfl
  have a2 : amt .rAg = N := rfl
  iintro ⟨#HI, #Hl, HcS, HcR, HO, HpS, HpR⟩ Hk
  iapply (waitDma_wp X K c l s .sAg (dsem cc1_scratch5 l) rfl (by decide) a1 0 h1 (src := agC l c s) (dst := agC l c s)
    (hsrc := View.wordExact_bits rfl) (hdst := View.wordExact_bits rfl) (agC_credit c l s)) $$ [HcS HO HpS]
  · isplitr; · iexact HI
    isplitl [HcS]; · iexact HcS
    isplitl [HO]; · iexact HO
    isplitr; · iapply (mayWait .sAg l c (by decide) (Nat.zero_le _) hO); iexact Hl
    iexact HpS
  iintro ⟨HO, HpS, #HrS, Ha⟩
  iapply (waitDma_wp X K c l s .rAg (dsem cc1_scratch6 l) rfl (by decide) a2 s h2 (src := agC l c s) (dst := agC l c s)
    (hsrc := View.wordExact_bits rfl) (hdst := View.wordExact_bits rfl) (agC_credit c l s)) $$ [HcR HO HpR]
  · isplitr; · iexact HI
    isplitl [HcR]; · iexact HcR
    isplitl [HO]; · iexact HO
    isplitr; · iapply (mayWait .rAg l c hs (Nat.le_refl _) hO); iexact Hl
    iexact HpR
  unfold pay
  dsimp only
  iintro ⟨HO, HpR, #HrR, Hb, #Hra⟩
  iapply Hk
  isplitl [HO]; · iexact HO
  isplitl [HpS HpR]
  · isplitl [HpS]; · iexact HpS
    iexact HpR
  isplitr
  · isplitr; · iexact HrS
    isplitr; · iexact HrR
    iexact Hra
  isplitl [Ha]; · iexact Ha
  iexact Hb

end Cert.KernelIdeal.Ring

end
-- ==== Proof.Ring.Steps.lean ====
/- A step of the reduce-scatter and of the all-gather on both lanes, and the thirty-one of each. -/
module

public import proofs.«01_k».proof.Proof.Ring.Ack

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Xs F) (K : GSem nD τ sig → ℕ) (c : Dev nD)
variable (l : Fin 2) (s : ℕ) {k : PUnit.{1} → Txt F} {Q : PUnit.{1} → sProp (MT nD τ sig ℕ (Elt F) ℕ UU ℕ)}

/-- A member of a collection, and the rest of it. -/
theorem bigSep_pick (S : Finset ℕ) (Φ : ℕ → sProp 𝕄) {s : ℕ} (hs : s ∈ S) :
    bigSep S Φ = iprop(Φ s ∗ bigSep (S.erase s) Φ) := by
  conv_lhs => rw [← Finset.insert_erase hs]
  rw [bigSep_insert (Finset.notMem_erase s S)]; rfl

/-! ## Reduce-scatter -/

/-- What a lane spends in reduce-scatter step `s`. -/
def rsTok : sProp 𝕄 :=
  iprop(dutyTok ER (cell .sRs l c) s 0 ∗ dutyTok ER (cell .rRs l (down l c)) s 0 ∗ dutyTok ER (cell .cp l c) (s + 1) 0
    ∗ dutyTok ER (cell .aRs l (up l c)) s 0 ∗ cred (tallyAt (cell .rRs l c) s N) ∗ cred (tallyAt (cell .aRs l c) s 1))
/-- The chunk of the array a lane adds in reduce-scatter step `s`. -/
abbrev rsX (r : ℕ) : sProp 𝕄 := xPart X c (inOff l c r) (inOff_inb l c r)
/-- Where a lane stands in the rounds of its own cells before reduce-scatter step `s`. -/
def rsPos : sProp 𝕄 :=
  iprop(atPos ER (cell .sRs l c) s ∅ 0 ∗ atPos ER (cell .rRs l c) s ∅ 0 ∗ atPos ER (cell .cp l c) (s + 1) ∅ 0 ∗ atPos ER (cell .aRs l c) s ∅ 0)
/-- The rounds a lane knows to be reached before reduce-scatter step `s`. -/
def rsRch : sProp 𝕄 :=
  iprop(reached ER (cell .sRs l c) s ∗ reached ER (cell .cp l c) (s + 1) ∗ reached ER (cell .aRs l c) s ∗ reached ER (cell .rRs l (down l c)) s)
instance rsRch_persistent : BI.Persistent (rsRch (F := F) c l s) := by unfold rsRch; infer_instance

/-- What a lane holds before reduce-scatter step `s`. -/
def rsSt : sProp 𝕄 :=
  iprop(rsPos c l s ∗ rsRch c l s ∗ bigSep (Finset.Ico s 31) (rsTok c l) ∗ has (lane aM l) c (acc X l s c) ∗ blank c l s
    ∗ any (lane cM l) c ∗ bigSep (Finset.range 31) (rsX X c l))

/-- What a lane holds of a step once its transfer and its copy have begun. -/
def rsMid : sProp 𝕄 :=
  iprop(rsPos c l s ∗ cred (tallyAt (cell .sRs l c) 0 N) ∗ cred (tallyAt (cell .cp l c) 0 N) ∗ cred (tallyAt (cell .rRs l c) s N)
    ∗ (dutyTok ER (cell .aRs l (up l c)) s 0 ∗ cred (tallyAt (cell .aRs l c) s 1))
    ∗ bigSep (Finset.Ico (s + 1) 31) (rsTok c l) ∗ bigSep ((Finset.range 31).erase s) (rsX X c l))

/-- What a lane holds once the sum is made. -/
def rsSum : sProp 𝕄 :=
  iprop((atPos ER (cell .sRs l c) (s + 1) ∅ 0 ∗ atPos ER (cell .rRs l c) (s + 1) ∅ 0 ∗ atPos ER (cell .cp l c) (s + 2) ∅ 0 ∗ atPos ER (cell .aRs l c) s ∅ 0)
    ∗ (reached ER (cell .sRs l c) (s + 1) ∗ reached ER (cell .rRs l c) (s + 1) ∗ reached ER (cell .cp l c) (s + 2) ∗ reached ER (cell .aRs l (up l c)) s)
    ∗ has (lane aM l) c (acc X l (s + 1) c) ∗ any (lane bM l) c ∗ any (lane cM l) c
    ∗ (dutyTok ER (cell .aRs l (up l c)) s 0 ∗ cred (tallyAt (cell .aRs l c) s 1))
    ∗ bigSep (Finset.Ico (s + 1) 31) (rsTok c l) ∗ bigSep (Finset.range 31) (rsX X c l))

/-- What a lane holds once it has acknowledged. -/
def rsAckd : sProp 𝕄 :=
  iprop((atPos ER (cell .sRs l c) (s + 1) ∅ 0 ∗ atPos ER (cell .rRs l c) (s + 1) ∅ 0 ∗ atPos ER (cell .cp l c) (s + 2) ∅ 0 ∗ atPos ER (cell .aRs l c) s ∅ 0)
    ∗ (reached ER (cell .sRs l c) (s + 1) ∗ reached ER (cell .cp l c) (s + 2))
    ∗ has (lane aM l) c (acc X l (s + 1) c) ∗ any (lane cM l) c ∗ (if s < 30 then iprop(emp) else any (lane bM l) c)
    ∗ cred (tallyAt (cell .aRs l c) s 1)
    ∗ bigSep (Finset.Ico (s + 1) 31) (rsTok c l) ∗ bigSep (Finset.range 31) (rsX X c l))

/-- What a lane holds of a step between its transfer's beginning and its copy's. -/
def rsSent : sProp 𝕄 :=
  iprop(rsPos c l s ∗ reached ER (cell .cp l c) (s + 1) ∗ cred (tallyAt (cell .sRs l c) 0 N) ∗ dutyTok ER (cell .cp l c) (s + 1) 0 ∗ any (lane cM l) c
    ∗ cred (tallyAt (cell .rRs l c) s N)
    ∗ (dutyTok ER (cell .aRs l (up l c)) s 0 ∗ cred (tallyAt (cell .aRs l c) s 1))
    ∗ bigSep (Finset.Ico (s + 1) 31) (rsTok c l) ∗ bigSep (Finset.range 31) (rsX X c l))

variable {O : CellTallies nD τ sig ℕ}

theorem rs_send (hs : s < 31) :
    iprop(invs X K ∗ rsSt X c l s ∗ ow c (O + tallyAt (cell .rRs l (down l c)) s N))
    ⊢ iprop(((rsSent X c l s ∗ ow c O) -∗ wpc c (k ⟨⟩) Q) -∗ wpc c (rsSend c l >>= k) Q) := by
  unfold rsSt rsSent rsRch blank
  rw [if_pos hs, bigSep_step _ hs]
  unfold rsTok
  iintro ⟨#HI, ⟨Hp, ⟨#H1, #H2, #H3, #H4⟩, ⟨⟨T1, T2, T3, T4, T5, T6⟩, HT⟩, Ha, Hb, Hc, Hx⟩, HO⟩ Hk
  iapply (rsSend_wp X K c l s hs) $$ [Ha Hb HO T1 T2]
  · isplitr; · iexact HI
    isplitl [Ha]; · iexact Ha
    isplitl [Hb]; · iexact Hb
    isplitr; · iexact H3
    isplitl [HO]; · iexact HO
    isplitl [T1]; · iexact T1
    isplitr; · iexact H1
    isplitl [T2]; · iexact T2
    iexact H4
  iintro ⟨HcS, HO⟩
  iapply Hk
  isplitr [HO]
  · isplitl [Hp]; · iexact Hp
    isplitr; · iexact H2
    isplitl [HcS]; · iexact HcS
    isplitl [T3]; · iexact T3
    isplitl [Hc]; · iexact Hc
    isplitl [T5]; · iexact T5
    isplitl [T4 T6]
    · isplitl [T4]; · iexact T4
      iexact T6
    isplitl [HT]; · iexact HT
    iexact Hx
  iexact HO

theorem rs_in (hs : s < 31) :
    iprop(invs X K ∗ rsSent X c l s) ⊢ iprop((rsMid X c l s -∗ wpc c (k ⟨⟩) Q) -∗ wpc c (inStart c s l >>= k) Q) := by
  unfold rsSent rsMid
  rw [bigSep_pick (Finset.range 31) _ (Finset.mem_range.mpr hs)]
  iintro ⟨#HI, Hp, #H2, HcS, T3, Hc, T5, T4, HT, Hx, HX⟩ Hk
  iapply (inStart_wp X K c l s hs) $$ [Hx Hc T3]
  · isplitr; · iexact HI
    isplitl [Hx]; · iexact Hx
    isplitl [Hc]; · iexact Hc
    isplitl [T3]; · iexact T3
    iexact H2
  iintro HcC
  iapply Hk
  isplitl [Hp]; · iexact Hp
  isplitl [HcS]; · iexact HcS
  isplitl [HcC]; · iexact HcC
  isplitl [T5]; · iexact T5
  isplitl [T4]; · iexact T4
  isplitl [HT]; · iexact HT
  iexact HX

theorem rs_add (hs : s < 31) (hO : Above (2 * s + 2) O) :
    iprop(invs X K ∗ levAts L lv ∗ rsMid X c l s ∗ ow c O)
    ⊢ iprop(((rsSum X c l s ∗ ow c O) -∗ wpc c (k ⟨⟩) Q) -∗ wpc c (rsAdd c s l >>= k) Q) := by
  unfold rsSum rsMid rsPos
  rw [bigSep_pick (Finset.range 31) _ (Finset.mem_range.mpr hs)]
  iintro ⟨#HI, #Hl, ⟨⟨P1, P2, P3, P4⟩, HcS, HcC, HcR, T4, HT, HX⟩, HO⟩ Hk
  iapply (rsAdd_wp X K c l s hs hO) $$ [P1 P2 P3 HcS HcC HcR HO]
  · isplitr; · iexact HI
    isplitr; · iexact Hl
    isplitl [HcS]; · iexact HcS
    isplitl [HcC]; · iexact HcC
    isplitl [HcR]; · iexact HcR
    isplitl [HO]; · iexact HO
    isplitl [P1]; · iexact P1
    isplitl [P2]; · iexact P2
    iexact P3
  iintro ⟨HO, ⟨P1, P2, P3⟩, #HR, Ha, Hb, Hc, Hx⟩
  iapply Hk
  isplitr [HO]
  · isplitl [P1 P2 P3 P4]
    · isplitl [P1]; · iexact P1
      isplitl [P2]; · iexact P2
      isplitl [P3]; · iexact P3
      iexact P4
    isplitr; · iexact HR
    isplitl [Ha]; · iexact Ha
    isplitl [Hb]; · iexact Hb
    isplitl [Hc]; · iexact Hc
    isplitl [T4]; · iexact T4
    isplitl [HT]; · iexact HT
    isplitl [Hx]; · iexact Hx
    iexact HX
  iexact HO

theorem rs_sig (hs : s < 31) :
    iprop(invs X K ∗ rsSum X c l s ∗ ow c (O + tallyAt (cell .aRs l (up l c)) s 1))
    ⊢ iprop(((rsAckd X c l s ∗ ow c O) -∗ wpc c (k ⟨⟩) Q) -∗ wpc c (semSignalWord (up l c) (rsem cc1_scratch8 l) 1#32 >>= k) Q) := by
  unfold rsSum rsAckd
  iintro ⟨#HI, ⟨HP, ⟨#R1, #R2, #R3, #R4⟩, Ha, Hb, Hc, ⟨T4, T6⟩, HT, HX⟩, HO⟩ Hk
  iapply (rsSig_wp X K c l s hs) $$ [HO T4 Hb]
  · isplitr; · iexact HI
    isplitl [HO]; · iexact HO
    isplitl [T4]; · iexact T4
    isplitl [Hb]; · iexact Hb
    isplitr; · iexact R2
    iexact R4
  iintro ⟨HO, Hb⟩
  iapply Hk
  isplitr [HO]
  · isplitl [HP]; · iexact HP
    isplitr
    · isplitr; · iexact R1
      iexact R3
    isplitl [Ha]; · iexact Ha
    isplitl [Hc]; · iexact Hc
    isplitl [Hb]; · iexact Hb
    isplitl [T6]; · iexact T6
    isplitl [HT]; · iexact HT
    iexact HX
  iexact HO

theorem rs_ack (hs : s < 31) (hO : Above (2 * s + 3) O) :
    iprop(invs X K ∗ levAts L lv ∗ rsAckd X c l s ∗ ow c O)
    ⊢ iprop(((rsSt X c l (s + 1) ∗ ow c O) -∗ wpc c (k ⟨⟩) Q) -∗ wpc c (semWaitWord (rsem cc1_scratch8 l) 1#32 >>= k) Q) := by
  unfold rsAckd rsSt rsPos rsRch
  iintro ⟨#HI, #Hl, ⟨⟨P1, P2, P3, P4⟩, ⟨#R1, #R2⟩, Ha, Hc, Hb, T6, HT, HX⟩, HO⟩ Hk
  iapply (rsAck_wp X K c l s hs hO) $$ [HO T6 P4 Hb]
  · isplitr; · iexact HI
    isplitr; · iexact Hl
    isplitl [T6]; · iexact T6
    isplitl [HO]; · iexact HO
    isplitl [P4]; · iexact P4
    iexact Hb
  iintro ⟨HO, P4, #R3, Hb, #R4⟩
  iapply Hk
  isplitr [HO]
  · isplitl [P1 P2 P3 P4]
    · isplitl [P1]; · iexact P1
      isplitl [P2]; · iexact P2
      isplitl [P3]; · iexact P3
      iexact P4
    isplitr
    · isplitr; · iexact R1
      isplitr; · iexact R2
      isplitr; · iexact R3
      iexact R4
    isplitl [HT]; · iexact HT
    isplitl [Ha]; · iexact Ha
    isplitl [Hb]; · iexact Hb
    isplitl [Hc]; · iexact Hc
    iexact HX
  iexact HO

/-- A reduce-scatter step. -/
theorem rsStep_wp (hs : s < 31) {B : CellTallies nD τ sig ℕ} (hB : ∀ n, n < 64 → Above n B) :
    iprop(invs X K ∗ levAts L lv ∗ rsSt X c 0 s ∗ rsSt X c 1 s ∗ ow c (B + oLeft .rRs .aRs c s))
    ⊢ iprop(((rsSt X c 0 (s + 1) ∗ rsSt X c 1 (s + 1) ∗ ow c (B + oLeft .rRs .aRs c (s + 1))) -∗ wpc c (k ⟨⟩) Q)
        -∗ wpc c (rsStep c s >>= k) Q) := by
  have hA : ∀ n, n < 2 * s + 4 → Above n (B + oLeft .rRs .aRs c (s + 1)) := fun n hn =>
    above_add (hB n (by omega)) (above_left c (s + 1) (fun r hr => show n < 2 * r + 2 by omega) (fun r hr => show n < 2 * r + 3 by omega))
  unfold rsStep
  simp only [bind_assoc]
  rw [oLeft_step _ _ c hs]
  unfold oStep
  simp only [← add_assoc]
  generalize B + oLeft .rRs .aRs c (s + 1) = O at hA
  iintro ⟨#HI, #Hl, S0, S1, HO⟩ Hk
  iapply (rs_send X K c 0 s hs) $$ [S0 HO]
  · isplitr; · iexact HI
    isplitl [S0]; · iexact S0
    iexact HO
  iintro ⟨S0, HO⟩
  iapply (rs_send X K c 1 s hs) $$ [S1 HO]
  · isplitr; · iexact HI
    isplitl [S1]; · iexact S1
    iexact HO
  iintro ⟨S1, HO⟩
  iapply (rs_in X K c 0 s hs) $$ [S0]
  · isplitr; · iexact HI
    iexact S0
  iintro S0
  iapply (rs_in X K c 1 s hs) $$ [S1]
  · isplitr; · iexact HI
    iexact S1
  iintro S1
  have hA' : Above (2 * s + 2) (O + tallyAt (cell .aRs 1 (up 1 c)) s 1 + tallyAt (cell .aRs 0 (up 0 c)) s 1) :=
    above_add (above_add (hA _ (by omega)) (above_at _ _ _ _ _ hs (show 2 * s + 2 < 2 * s + 3 by omega))) (above_at _ _ _ _ _ hs (show 2 * s + 2 < 2 * s + 3 by omega))
  iapply (rs_add X K c 0 s hs hA') $$ [S0 HO]
  · isplitr; · iexact HI
    isplitr; · iexact Hl
    isplitl [S0]; · iexact S0
    iexact HO
  iintro ⟨S0, HO⟩
  iapply (rs_add X K c 1 s hs hA') $$ [S1 HO]
  · isplitr; · iexact HI
    isplitr; · iexact Hl
    isplitl [S1]; · iexact S1
    iexact HO
  iintro ⟨S1, HO⟩
  iapply (rs_sig X K c 0 s hs) $$ [S0 HO]
  · isplitr; · iexact HI
    isplitl [S0]; · iexact S0
    iexact HO
  iintro ⟨S0, HO⟩
  iapply (rs_sig X K c 1 s hs) $$ [S1 HO]
  · isplitr; · iexact HI
    isplitl [S1]; · iexact S1
    iexact HO
  iintro ⟨S1, HO⟩
  iapply (rs_ack X K c 0 s hs (hA _ (by omega))) $$ [S0 HO]
  · isplitr; · iexact HI
    isplitr; · iexact Hl
    isplitl [S0]; · iexact S0
    iexact HO
  iintro ⟨S0, HO⟩
  iapply (rs_ack X K c 1 s hs (hA _ (by omega))) $$ [S1 HO]
  · isplitr; · iexact HI
    isplitr; · iexact Hl
    isplitl [S1]; · iexact S1
    iexact HO
  iintro ⟨S1, HO⟩
  iapply Hk
  isplitl [S0]; · iexact S0
  isplitl [S1]; · iexact S1
  iexact HO

/-- All thirty-one steps of a loop, from what one step does. -/
theorem steps_wp (f : ℕ → Txt F) (I : ℕ → sProp 𝕄) {P : sProp 𝕄} [BI.Persistent P]
    (hf : ∀ s, s < 31 → ∀ k : PUnit.{1} → Txt F, iprop(P ∗ I s) ⊢ iprop((I (s + 1) -∗ wpc c (k ⟨⟩) Q) -∗ wpc c (f s >>= k) Q)) :
    ∀ n, n ≤ 31 → iprop(P ∗ I (31 - n)) ⊢ iprop((I 31 -∗ wpc c (k ⟨⟩) Q) -∗ wpc c (steps f n >>= k) Q)
  | 0, _ => by
    iintro ⟨-, HI⟩ Hk
    iapply Hk
    iexact HI
  | n + 1, hn => by
    unfold steps
    rw [bind_assoc]
    have e1 : 31 - (n + 1) = 30 - n := by omega
    have e2 : 31 - n = 30 - n + 1 := by omega
    have ih := steps_wp f I hf n (by omega)
    rw [e2] at ih
    rw [e1]
    iintro ⟨#HP, HI⟩ Hk
    iapply (hf (30 - n) (by omega) _) $$ [HI]
    · isplitr; · iexact HP
      iexact HI
    iintro HI
    iapply ih $$ [HI]
    · isplitr; · iexact HP
      iexact HI
    iexact Hk

end Cert.KernelIdeal.Ring

end
-- ==== Proof.Ring.Gather.lean ====
/- A step of the all-gather on both lanes. -/
module

public import proofs.«01_k».proof.Proof.Ring.Steps

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Xs F) (K : GSem nD τ sig → ℕ) (c : Dev nD)
variable (l : Fin 2) (s : ℕ) {k : PUnit.{1} → Txt F} {Q : PUnit.{1} → sProp (MT nD τ sig ℕ (Elt F) ℕ UU ℕ)}

/-- What a lane spends in all-gather step `s`. -/
def agTok : sProp 𝕄 :=
  iprop(dutyTok ER (cell .sAg l c) s 0 ∗ dutyTok ER (cell .rAg l (down l c)) s 0 ∗ dutyTok ER (cell .aAg l (up l c)) s 0
    ∗ cred (tallyAt (cell .rAg l c) s N) ∗ cred (tallyAt (cell .aAg l c) s 1))
/-- A finished chunk of the result. -/
abbrev agHas (r : ℕ) : sProp 𝕄 := has (agC l c r) c (fin X l r c)
/-- The chunk of the next device's result that all-gather step `r` fills. -/
abbrev agAny (r : ℕ) : sProp 𝕄 := any (agC l (down l c) (r + 1)) (down l c)

/-- What a lane holds before all-gather step `s`. -/
def agSt : sProp 𝕄 :=
  iprop((atPos ER (cell .sAg l c) s ∅ 0 ∗ atPos ER (cell .rAg l c) s ∅ 0 ∗ atPos ER (cell .aAg l c) s ∅ 0)
    ∗ (reached ER (cell .sAg l c) s ∗ reached ER (cell .aAg l c) s ∗ reached ER (cell .rAg l (down l c)) s)
    ∗ bigSep (Finset.Ico s 31) (agTok c l) ∗ bigSep (Finset.range (s + 1)) (agHas X c l) ∗ bigSep (Finset.Ico s 31) (agAny c l))
/-- What a lane holds once its transfer has begun. -/
def agSent : sProp 𝕄 :=
  iprop((atPos ER (cell .sAg l c) s ∅ 0 ∗ atPos ER (cell .rAg l c) s ∅ 0 ∗ atPos ER (cell .aAg l c) s ∅ 0)
    ∗ cred (tallyAt (cell .sAg l c) 0 N) ∗ cred (tallyAt (cell .rAg l c) s N)
    ∗ (dutyTok ER (cell .aAg l (up l c)) s 0 ∗ cred (tallyAt (cell .aAg l c) s 1))
    ∗ bigSep (Finset.Ico (s + 1) 31) (agTok c l) ∗ bigSep (Finset.range s) (agHas X c l) ∗ bigSep (Finset.Ico (s + 1) 31) (agAny c l))
/-- What a lane holds once it has received. -/
def agGot : sProp 𝕄 :=
  iprop((atPos ER (cell .sAg l c) (s + 1) ∅ 0 ∗ atPos ER (cell .rAg l c) (s + 1) ∅ 0 ∗ atPos ER (cell .aAg l c) s ∅ 0)
    ∗ (reached ER (cell .sAg l c) (s + 1) ∗ reached ER (cell .rAg l c) (s + 1) ∗ reached ER (cell .aAg l (up l c)) s)
    ∗ (dutyTok ER (cell .aAg l (up l c)) s 0 ∗ cred (tallyAt (cell .aAg l c) s 1))
    ∗ bigSep (Finset.Ico (s + 1) 31) (agTok c l) ∗ bigSep (Finset.range (s + 2)) (agHas X c l) ∗ bigSep (Finset.Ico (s + 1) 31) (agAny c l))
/-- What a lane holds once it has acknowledged. -/
def agAckd : sProp 𝕄 :=
  iprop((atPos ER (cell .sAg l c) (s + 1) ∅ 0 ∗ atPos ER (cell .rAg l c) (s + 1) ∅ 0 ∗ atPos ER (cell .aAg l c) s ∅ 0)
    ∗ reached ER (cell .sAg l c) (s + 1) ∗ cred (tallyAt (cell .aAg l c) s 1)
    ∗ bigSep (Finset.Ico (s + 1) 31) (agTok c l) ∗ bigSep (Finset.range (s + 2)) (agHas X c l) ∗ bigSep (Finset.Ico (s + 1) 31) (agAny c l))

omit [FloatOps F] in
theorem bigSep_last (Φ : ℕ → sProp 𝕄) (n : ℕ) : bigSep (Finset.range (n + 1)) Φ = iprop(Φ n ∗ bigSep (Finset.range n) Φ) := by
  rw [Finset.range_add_one, bigSep_insert Finset.notMem_range_self]; rfl

variable {O : CellTallies nD τ sig ℕ}

theorem ag_send (hs : s < 31) :
    iprop(invs X K ∗ agSt X c l s ∗ ow c (O + tallyAt (cell .rAg l (down l c)) s N))
    ⊢ iprop(((agSent X c l s ∗ ow c O) -∗ wpc c (k ⟨⟩) Q) -∗ wpc c (agSend c s l >>= k) Q) := by
  unfold agSt agSent
  rw [bigSep_step _ hs, bigSep_step (agAny c l) hs, bigSep_last]
  unfold agTok
  iintro ⟨#HI, ⟨Hp, ⟨#H1, #H3, #H4⟩, ⟨⟨T1, T2, T4, T5, T6⟩, HT⟩, ⟨Ha, HA⟩, ⟨Hb, HB⟩⟩, HO⟩ Hk
  iapply (agSend_wp X K c l s hs) $$ [Ha Hb HO T1 T2]
  · isplitr; · iexact HI
    isplitl [Ha]; · iexact Ha
    isplitl [Hb]; · rw [agC_down c l s hs]; iexact Hb
    isplitr; · iexact H3
    isplitl [HO]; · iexact HO
    isplitl [T1]; · iexact T1
    isplitr; · iexact H1
    isplitl [T2]; · iexact T2
    iexact H4
  iintro ⟨HcS, HO⟩
  iapply Hk
  isplitr [HO]
  · isplitl [Hp]; · iexact Hp
    isplitl [HcS]; · iexact HcS
    isplitl [T5]; · iexact T5
    isplitl [T4 T6]
    · isplitl [T4]; · iexact T4
      iexact T6
    isplitl [HT]; · iexact HT
    isplitl [HA]; · iexact HA
    iexact HB
  iexact HO

theorem ag_wait (hs : s < 31) (hO : Above (2 * s + 64) O) :
    iprop(invs X K ∗ levAts L lv ∗ agSent X c l s ∗ ow c O)
    ⊢ iprop(((agGot X c l s ∗ ow c O) -∗ wpc c (k ⟨⟩) Q) -∗ wpc c (agWait c s l >>= k) Q) := by
  unfold agSent agGot
  rw [bigSep_last (agHas X c l) (s + 1), bigSep_last]
  iintro ⟨#HI, #Hl, ⟨⟨P1, P2, P3⟩, HcS, HcR, T4, HT, HA, HB⟩, HO⟩ Hk
  iapply (agWait_wp X K c l s hs hO) $$ [P1 P2 HcS HcR HO]
  · isplitr; · iexact HI
    isplitr; · iexact Hl
    isplitl [HcS]; · iexact HcS
    isplitl [HcR]; · iexact HcR
    isplitl [HO]; · iexact HO
    isplitl [P1]; · iexact P1
    iexact P2
  iintro ⟨HO, ⟨P1, P2⟩, #HR, Ha, Hb⟩
  iapply Hk
  isplitr [HO]
  · isplitl [P1 P2 P3]
    · isplitl [P1]; · iexact P1
      isplitl [P2]; · iexact P2
      iexact P3
    isplitr; · iexact HR
    isplitl [T4]; · iexact T4
    isplitl [HT]; · iexact HT
    isplitl [Ha Hb HA]
    · isplitl [Hb]; · iexact Hb
      isplitl [Ha]; · iexact Ha
      iexact HA
    iexact HB
  iexact HO

theorem ag_sig (hs : s < 31) :
    iprop(invs X K ∗ agGot X c l s ∗ ow c (O + tallyAt (cell .aAg l (up l c)) s 1))
    ⊢ iprop(((agAckd X c l s ∗ ow c O) -∗ wpc c (k ⟨⟩) Q) -∗ wpc c (semSignalWord (up l c) (rsem cc1_scratch9 l) 1#32 >>= k) Q) := by
  unfold agGot agAckd
  iintro ⟨#HI, ⟨HP, ⟨#R1, #R2, #R4⟩, ⟨T4, T6⟩, HR⟩, HO⟩ Hk
  iapply (agSig_wp X K c l s hs) $$ [HO T4]
  · isplitr; · iexact HI
    isplitl [HO]; · iexact HO
    isplitl [T4]; · iexact T4
    isplitr; · iexact R2
    iexact R4
  iintro HO
  iapply Hk
  isplitr [HO]
  · isplitl [HP]; · iexact HP
    isplitr; · iexact R1
    isplitl [T6]; · iexact T6
    iexact HR
  iexact HO

theorem ag_ack (hs : s < 31) (hO : Above (2 * s + 65) O) :
    iprop(invs X K ∗ levAts L lv ∗ agAckd X c l s ∗ ow c O)
    ⊢ iprop(((agSt X c l (s + 1) ∗ ow c O) -∗ wpc c (k ⟨⟩) Q) -∗ wpc c (semWaitWord (rsem cc1_scratch9 l) 1#32 >>= k) Q) := by
  unfold agAckd agSt
  iintro ⟨#HI, #Hl, ⟨⟨P1, P2, P3⟩, #R1, T6, HR⟩, HO⟩ Hk
  iapply (agAck_wp X K c l s hs hO) $$ [HO T6 P3]
  · isplitr; · iexact HI
    isplitr; · iexact Hl
    isplitl [T6]; · iexact T6
    isplitl [HO]; · iexact HO
    iexact P3
  iintro ⟨HO, P3, #R3, #R4⟩
  iapply Hk
  isplitr [HO]
  · isplitl [P1 P2 P3]
    · isplitl [P1]; · iexact P1
      isplitl [P2]; · iexact P2
      iexact P3
    isplitr
    · isplitr; · iexact R1
      isplitr; · iexact R3
      iexact R4
    iexact HR
  iexact HO

/-- An all-gather step. -/
theorem agStep_wp (hs : s < 31) :
    iprop(invs X K ∗ levAts L lv ∗ agSt X c 0 s ∗ agSt X c 1 s ∗ ow c (oLeft .rAg .aAg c s))
    ⊢ iprop(((agSt X c 0 (s + 1) ∗ agSt X c 1 (s + 1) ∗ ow c (oLeft .rAg .aAg c (s + 1))) -∗ wpc c (k ⟨⟩) Q)
        -∗ wpc c (agStep c s >>= k) Q) := by
  have hA : ∀ n, n < 2 * s + 66 → Above n (oLeft .rAg .aAg c (s + 1)) := fun n hn => above_ag c (by omega)
  unfold agStep
  simp only [bind_assoc]
  rw [oLeft_step _ _ c hs]
  unfold oStep
  simp only [← add_assoc]
  generalize oLeft .rAg .aAg c (s + 1) = O at hA
  iintro ⟨#HI, #Hl, S0, S1, HO⟩ Hk
  iapply (ag_send X K c 0 s hs) $$ [S0 HO]
  · isplitr; · iexact HI
    isplitl [S0]; · iexact S0
    iexact HO
  iintro ⟨S0, HO⟩
  iapply (ag_send X K c 1 s hs) $$ [S1 HO]
  · isplitr; · iexact HI
    isplitl [S1]; · iexact S1
    iexact HO
  iintro ⟨S1, HO⟩
  have hA' : Above (2 * s + 64) (O + tallyAt (cell .aAg 1 (up 1 c)) s 1 + tallyAt (cell .aAg 0 (up 0 c)) s 1) :=
    above_add (above_add (hA _ (by omega)) (above_at _ _ _ _ _ hs (show 2 * s + 64 < 2 * s + 65 by omega))) (above_at _ _ _ _ _ hs (show 2 * s + 64 < 2 * s + 65 by omega))
  iapply (ag_wait X K c 0 s hs hA') $$ [S0 HO]
  · isplitr; · iexact HI
    isplitr; · iexact Hl
    isplitl [S0]; · iexact S0
    iexact HO
  iintro ⟨S0, HO⟩
  iapply (ag_wait X K c 1 s hs hA') $$ [S1 HO]
  · isplitr; · iexact HI
    isplitr; · iexact Hl
    isplitl [S1]; · iexact S1
    iexact HO
  iintro ⟨S1, HO⟩
  iapply (ag_sig X K c 0 s hs) $$ [S0 HO]
  · isplitr; · iexact HI
    isplitl [S0]; · iexact S0
    iexact HO
  iintro ⟨S0, HO⟩
  iapply (ag_sig X K c 1 s hs) $$ [S1 HO]
  · isplitr; · iexact HI
    isplitl [S1]; · iexact S1
    iexact HO
  iintro ⟨S1, HO⟩
  iapply (ag_ack X K c 0 s hs (hA _ (by omega))) $$ [S0 HO]
  · isplitr; · iexact HI
    isplitr; · iexact Hl
    isplitl [S0]; · iexact S0
    iexact HO
  iintro ⟨S0, HO⟩
  iapply (ag_ack X K c 1 s hs (hA _ (by omega))) $$ [S1 HO]
  · isplitr; · iexact HI
    isplitr; · iexact Hl
    isplitl [S1]; · iexact S1
    iexact HO
  iintro ⟨S1, HO⟩
  iapply Hk
  isplitl [S0]; · iexact S0
  isplitl [S1]; · iexact S1
  iexact HO

end Cert.KernelIdeal.Ring

end
-- ==== Proof.Ring.Body.lean ====
/- The whole body on one device: what it starts from and what it leaves. -/
module

public import proofs.«01_k».proof.Proof.Ring.Gather

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Xs F) (K : GSem nD τ sig → ℕ) (c : Dev nD)
variable (l : Fin 2) {k : PUnit.{1} → Txt F} {Q : PUnit.{1} → sProp (MT nD τ sig ℕ (Elt F) ℕ UU ℕ)}

/-! ## What a lane starts from and ends with -/

/-- A lane's own semaphores, with the round each is at. -/
def lanePos (n m : ℕ) : sProp 𝕄 :=
  iprop(atPos ER (cell .sRs l c) n ∅ 0 ∗ atPos ER (cell .rRs l c) n ∅ 0 ∗ atPos ER (cell .cp l c) m ∅ 0 ∗ atPos ER (cell .aRs l c) n ∅ 0
    ∗ atPos ER (cell .sAg l c) n ∅ 0 ∗ atPos ER (cell .rAg l c) n ∅ 0 ∗ atPos ER (cell .aAg l c) n ∅ 0)
/-- A lane's own semaphores are at their start. -/
def laneRch : sProp 𝕄 :=
  iprop(reached ER (cell .sRs l c) 0 ∗ reached ER (cell .rRs l c) 0 ∗ reached ER (cell .cp l c) 0 ∗ reached ER (cell .aRs l c) 0
    ∗ reached ER (cell .sAg l c) 0 ∗ reached ER (cell .rAg l c) 0 ∗ reached ER (cell .aAg l c) 0)
/-- What a lane spends. -/
def laneTok : sProp 𝕄 :=
  iprop(bigSep (Finset.Ico 0 31) (rsTok c l) ∗ bigSep (Finset.Ico 0 31) (agTok c l)
    ∗ dutyTok ER (cell .cp l c) 0 0 ∗ dutyTok ER (cell .cp l c) 32 0 ∗ dutyTok ER (cell .bar l (up l c)) 0 l)
/-- A lane's scratch. -/
def laneBuf : sProp 𝕄 := iprop(any (lane aM l) c ∗ any (lane bM l) c ∗ any (lane cM l) c)
/-- The chunks of the array it reads. -/
def laneX : sProp 𝕄 := iprop(xPart X c (ownOff l c) (ownOff_inb l c) ∗ bigSep (Finset.range 31) (rsX X c l))
/-- The chunks of the result, before. -/
def laneY : sProp 𝕄 := iprop(any (agC l c 0) c ∗ bigSep (Finset.Ico 0 31) fun s => any (agC l c (s + 1)) c)

/-- What a lane holds once its part of the barrier is done. -/
def lane1 : sProp 𝕄 :=
  iprop(lanePos c l 0 0 ∗ (reached ER (cell .sRs l c) 0 ∗ reached ER (cell .cp l c) 0 ∗ reached ER (cell .aRs l c) 0
      ∗ reached ER (cell .sAg l c) 0 ∗ reached ER (cell .aAg l c) 0 ∗ reached ER (cell .rRs l (down l c)) 0 ∗ reached ER (cell .rAg l (down l c)) 0)
    ∗ (bigSep (Finset.Ico 0 31) (rsTok c l) ∗ bigSep (Finset.Ico 0 31) (agTok c l) ∗ dutyTok ER (cell .cp l c) 32 0)
    ∗ any (lane bM l) (down l c) ∗ any (lane cM l) c ∗ bigSep (Finset.range 31) (rsX X c l) ∗ any (agC l c 0) c ∗ bigSep (Finset.Ico 0 31) (agAny c l))
/-- What a lane holds once its part of the barrier is done, and its own chunk. -/
def lane1' : sProp 𝕄 :=
  iprop(lane1 X c l ∗ any (lane aM l) c ∗ xPart X c (ownOff l c) (ownOff_inb l c) ∗ dutyTok ER (cell .cp l c) 0 0)
/-- What waits for the all-gather. -/
def lane2 : sProp 𝕄 :=
  iprop((atPos ER (cell .sAg l c) 0 ∅ 0 ∗ atPos ER (cell .rAg l c) 0 ∅ 0 ∗ atPos ER (cell .aAg l c) 0 ∅ 0)
    ∗ (reached ER (cell .sAg l c) 0 ∗ reached ER (cell .aAg l c) 0 ∗ reached ER (cell .rAg l (down l c)) 0)
    ∗ bigSep (Finset.Ico 0 31) (agTok c l) ∗ dutyTok ER (cell .cp l c) 32 0
    ∗ any (agC l c 0) c ∗ bigSep (Finset.Ico 0 31) (agAny c l) ∗ xPart X c (ownOff l c) (ownOff_inb l c))
/-- What the reduce-scatter leaves for the end. -/
def lane3 : sProp 𝕄 :=
  iprop((atPos ER (cell .sRs l c) 31 ∅ 0 ∗ atPos ER (cell .rRs l c) 31 ∅ 0 ∗ atPos ER (cell .cp l c) 33 ∅ 0 ∗ atPos ER (cell .aRs l c) 31 ∅ 0)
    ∗ laneBuf c l ∗ laneX X c l)
/-- What a lane ends with. -/
def laneEnd : sProp 𝕄 :=
  iprop(lanePos c l 31 33 ∗ laneBuf c l ∗ laneX X c l ∗ bigSep (Finset.range 32) (agHas X c l))

/-! ## The barrier -/

variable {O : CellTallies nD τ sig ℕ}

/-- A lane's signal at the barrier. -/
theorem bar_signal :
    iprop(invs X K ∗ ow c (O + tallyAt (cell .bar 0 (up l c)) 0 1) ∗ dutyTok ER (cell .bar l (up l c)) 0 l ∗ barPay l c ∗ reached ER (cell .bar l (up l c)) 0)
    ⊢ iprop((ow c O -∗ wpc c (k ⟨⟩) Q) -∗ wpc c (semSignalWord (up l c) barS 1#32 >>= k) Q) := by
  have ha : (sch X).amount (cell .bar l (up l c)) 0 l = 1 := amount_eq X (up l c) l l
  rw [signal_op]
  unfold ow
  iintro ⟨#HI, ⟨%W, HO⟩, Ht, Hpay, #Hr⟩ Hk
  iapply (Rounds.wp_signal 𝒱₀ ER (sch X) (c : Thread nD τ) none (dst := (up l c : Thread nD τ)) (sem := barS) (r := 0) (d := l) (κ := K (cell .bar l (up l c)))
      (mem_bar X (up l c) l l) ha 0 O rfl) $$ [HO Ht Hpay]
  · isplitr; · iapply (inv_at X K .bar l (up l c)); iexact HI
    isplitl [HO]; · iexact HO
    isplitl [Ht]; · iexact Ht
    isplitl [Hpay]
    · iapply (Entails.of_eq ((payload_bar X (up l c) l l).trans (by rw [down_up])).symm); iexact Hpay
    iexact Hr
  iintro HO
  iapply Hk
  iexists W; iexact HO

theorem wait2_op (sem : Sem sig) : ((semWaitWord sem 2#32 : Txt F) >>= k) = Prog.op (.semWait sem 2) k := rfl

/-- The wait at the barrier. -/
theorem bar_wait (hO : Above 1 O) :
    iprop(invs X K ∗ levAts L lv ∗ cred (tallyAt (cell .bar 0 c) 0 2) ∗ ow c O ∗ atPos ER (cell .bar 0 c) 0 ∅ 0)
    ⊢ iprop(((ow c O ∗ atPos ER (cell .bar 0 c) 1 ∅ 0 ∗ barPay 0 (down 0 c) ∗ barPay 1 (down 1 c)) -∗ wpc c (k ⟨⟩) Q)
        -∗ wpc c (semWaitWord barS 2#32 >>= k) Q) := by
  rw [wait2_op]
  unfold ow
  iintro ⟨#HI, #Hl, Hc, ⟨%W, HO⟩, Hp⟩ Hk
  iapply (Rounds.wp_wait_rest_token 𝒱₀ ER (sch X) (c : Thread nD τ) none (sm := semOf .bar 0) (κ := K (cell .bar 0 c))
      (wpE_semWait_eq 𝒱₀ (c : Thread nD τ) none Set.univ) (Set.mem_univ _) 0 (O := O) (W := W) (R := 0) (m := 0) (T := ∅)
      ((Nat.zero_add 2).trans (expect_bar X c 0).symm)) $$ [Hc HO Hp]
  · isplitr; · iapply (inv_at X K .bar 0 c); iexact HI
    isplitl [Hc]; · iexact Hc
    isplitl [HO]; · iexact HO
    isplitr; · iapply (mayWait .bar 0 c (by decide) (Nat.le_refl _) hO); iexact Hl
    iexact Hp
  iintro ⟨HO, Hp, -, Hpay⟩
  ihave Hpay := (Entails.of_eq (rest_bar X c 0)) $$ Hpay
  iapply Hk
  isplitl [HO]; · iexists _; iexact HO
  isplitl [Hp]; · iexact Hp
  iexact Hpay

/-- Before the barrier: what a lane gives away there, and what it keeps. -/
def laneKeep : sProp 𝕄 :=
  iprop(lanePos c l 0 0 ∗ laneRch c l
    ∗ (bigSep (Finset.Ico 0 31) (rsTok c l) ∗ bigSep (Finset.Ico 0 31) (agTok c l) ∗ dutyTok ER (cell .cp l c) 0 0 ∗ dutyTok ER (cell .cp l c) 32 0)
    ∗ any (lane aM l) c ∗ any (lane cM l) c ∗ laneX X c l ∗ any (agC l c 0) c)

instance laneRch_persistent : BI.Persistent (laneRch (F := F) c l) := by unfold laneRch; infer_instance

/-- What a lane starts from. -/
def lane0 : sProp 𝕄 := iprop(lanePos c l 0 0 ∗ laneRch c l ∗ laneTok c l ∗ laneBuf c l ∗ laneX X c l ∗ laneY c l)

theorem lane0_split : lane0 X c l ⊢ iprop(laneKeep X c l ∗ dutyTok ER (cell .bar l (up l c)) 0 l ∗ barPay l c) := by
  unfold lane0 laneKeep laneTok laneBuf laneY barPay
  iintro ⟨Hp, #Hr, ⟨T1, T2, T3, T4, T5⟩, ⟨B1, B2, B3⟩, HX, Y1, Y2⟩
  isplitl [Hp T1 T2 T3 T4 B1 B3 HX Y1]
  · isplitl [Hp]; · iexact Hp
    isplitr; · iexact Hr
    isplitl [T1 T2 T3 T4]
    · isplitl [T1]; · iexact T1
      isplitl [T2]; · iexact T2
      isplitl [T3]; · iexact T3
      iexact T4
    isplitl [B1]; · iexact B1
    isplitl [B3]; · iexact B3
    isplitl [HX]; · iexact HX
    iexact Y1
  isplitl [T5]; · iexact T5
  isplitl [B2]; · iexact B2
  isplitl [Y2]; · iexact Y2
  unfold laneRch
  icases Hr with ⟨-, #H1, -, -, -, #H2, -⟩
  isplitr; · iexact H1
  iexact H2

theorem lane1_intro : iprop(laneKeep X c l ∗ barPay l (down l c)) ⊢ lane1' X c l := by
  unfold laneKeep lane1' lane1 laneRch laneX barPay
  iintro ⟨⟨Hp, ⟨#R1, -, #R3, #R4, #R5, -, #R7⟩, ⟨T1, T2, T3, T4⟩, B1, B3, ⟨X1, X2⟩, Y1⟩, ⟨B2, Y2, #R8, #R9⟩⟩
  isplitr [B1 X1 T3]
  · isplitl [Hp]; · iexact Hp
    isplitr
    · isplitr; · iexact R1
      isplitr; · iexact R3
      isplitr; · iexact R4
      isplitr; · iexact R5
      isplitr; · iexact R7
      isplitr; · iexact R8
      iexact R9
    isplitl [T1 T2 T4]
    · isplitl [T1]; · iexact T1
      isplitl [T2]; · iexact T2
      iexact T4
    isplitl [B2]; · iexact B2
    isplitl [B3]; · iexact B3
    isplitl [X2]; · iexact X2
    isplitl [Y1]; · iexact Y1
    iexact Y2
  isplitl [B1]; · iexact B1
  isplitl [X1]; · iexact X1
  iexact T3

theorem own_start :
    iprop(invs X K ∗ lane1' X c l) ⊢ iprop(((lane1 X c l ∗ cred (tallyAt (cell .cp l c) 0 N)) -∗ wpc c (k ⟨⟩) Q) -∗ wpc c (ownStart c l >>= k) Q) := by
  unfold lane1' lane1
  iintro ⟨#HI, ⟨Hp, ⟨#R1, #R2, #RR⟩, HR⟩, B1, X1, T3⟩ Hk
  iapply (ownStart_wp X K c l) $$ [B1 X1 T3]
  · isplitr; · iexact HI
    isplitl [X1]; · iexact X1
    isplitl [B1]; · iexact B1
    isplitl [T3]; · iexact T3
    iexact R2
  iintro Hc
  iapply Hk
  isplitr [Hc]
  · isplitl [Hp]; · iexact Hp
    isplitr
    · isplitr; · iexact R1
      isplitr; · iexact R2
      iexact RR
    iexact HR
  iexact Hc

theorem own_wait (hO : Above 0 O) :
    iprop(invs X K ∗ levAts L lv ∗ (lane1 X c l ∗ cred (tallyAt (cell .cp l c) 0 N)) ∗ ow c O)
    ⊢ iprop(((rsSt X c l 0 ∗ lane2 X c l ∗ ow c O) -∗ wpc c (k ⟨⟩) Q) -∗ wpc c (ownWait c l >>= k) Q) := by
  unfold lane1 lanePos rsSt lane2 rsPos rsRch blank
  rw [if_pos (by decide)]
  iintro ⟨#HI, #Hl, ⟨⟨⟨P1, P2, P3, P4, P5, P6, P7⟩, ⟨#R1, -, #R3, #R4, #R5, #R6, #R7⟩, ⟨T1, T2, T3⟩, B2, B3, X2, Y1, Y2⟩, Hc⟩, HO⟩ Hk
  iapply (ownWait_wp X K c l hO) $$ [Hc HO P3]
  · isplitr; · iexact HI
    isplitr; · iexact Hl
    isplitl [Hc]; · iexact Hc
    isplitl [HO]; · iexact HO
    iexact P3
  iintro ⟨HO, P3, #R2, B1, X1⟩
  iapply Hk
  isplitl [P1 P2 P3 P4 T1 B1 B2 B3 X2]
  · isplitl [P1 P2 P3 P4]
    · isplitl [P1]; · iexact P1
      isplitl [P2]; · iexact P2
      isplitl [P3]; · iexact P3
      iexact P4
    isplitr
    · isplitr; · iexact R1
      isplitr; · iexact R2
      isplitr; · iexact R3
      iexact R6
    isplitl [T1]; · iexact T1
    isplitl [B1]; · iexact B1
    isplitl [B2]; · iexact B2
    isplitl [B3]; · iexact B3
    iexact X2
  isplitr [HO]
  · isplitl [P5 P6 P7]
    · isplitl [P5]; · iexact P5
      isplitl [P6]; · iexact P6
      iexact P7
    isplitr
    · isplitr; · iexact R4
      isplitr; · iexact R5
      iexact R7
    isplitl [T2]; · iexact T2
    isplitl [T3]; · iexact T3
    isplitl [Y1]; · iexact Y1
    isplitl [Y2]; · iexact Y2
    iexact X1
  iexact HO

/-! ## Between the two loops -/

/-- While the finished chunk is copied into the result. -/
def laneMid : sProp 𝕄 :=
  iprop(cred (tallyAt (cell .cp l c) 0 N) ∗ rsPos c l 31 ∗ any (lane bM l) c ∗ any (lane cM l) c ∗ laneX X c l
    ∗ (atPos ER (cell .sAg l c) 0 ∅ 0 ∗ atPos ER (cell .rAg l c) 0 ∅ 0 ∗ atPos ER (cell .aAg l c) 0 ∅ 0)
    ∗ (reached ER (cell .sAg l c) 0 ∗ reached ER (cell .aAg l c) 0 ∗ reached ER (cell .rAg l (down l c)) 0)
    ∗ bigSep (Finset.Ico 0 31) (agTok c l) ∗ bigSep (Finset.Ico 0 31) (agAny c l))

theorem mid_start :
    iprop(invs X K ∗ rsSt X c l 31 ∗ lane2 X c l) ⊢ iprop((laneMid X c l -∗ wpc c (k ⟨⟩) Q) -∗ wpc c (midStart c l >>= k) Q) := by
  unfold rsSt lane2 laneMid rsRch blank laneX
  rw [if_neg (by decide)]
  iintro ⟨#HI, ⟨P, ⟨-, #R2, -, -⟩, -, B1, B2, B3, X2⟩, ⟨PA, #RA, T2, T3, Y1, Y2, X1⟩⟩ Hk
  iapply (midStart_wp X K c l) $$ [B1 Y1 T3]
  · isplitr; · iexact HI
    isplitl [B1]; · iexact B1
    isplitl [Y1]; · iexact Y1
    isplitl [T3]; · iexact T3
    iexact R2
  iintro Hc
  iapply Hk
  isplitl [Hc]; · iexact Hc
  isplitl [P]; · iexact P
  isplitl [B2]; · iexact B2
  isplitl [B3]; · iexact B3
  isplitl [X1 X2]
  · isplitl [X1]; · iexact X1
    iexact X2
  isplitl [PA]; · iexact PA
  isplitr; · iexact RA
  isplitl [T2]; · iexact T2
  iexact Y2

theorem mid_wait (hO : Above 0 O) :
    iprop(invs X K ∗ levAts L lv ∗ laneMid X c l ∗ ow c O)
    ⊢ iprop(((agSt X c l 0 ∗ lane3 X c l ∗ ow c O) -∗ wpc c (k ⟨⟩) Q) -∗ wpc c (midWait c l >>= k) Q) := by
  unfold laneMid rsPos agSt lane3 laneBuf
  rw [bigSep_last (agHas X c l) 0, Finset.range_zero, bigSep_empty]
  iintro ⟨#HI, #Hl, ⟨Hc, ⟨P1, P2, P3, P4⟩, B2, B3, HX, PA, #RA, T2, Y2⟩, HO⟩ Hk
  iapply (midWait_wp X K c l hO) $$ [Hc HO P3]
  · isplitr; · iexact HI
    isplitr; · iexact Hl
    isplitl [Hc]; · iexact Hc
    isplitl [HO]; · iexact HO
    iexact P3
  iintro ⟨HO, P3, Y1, B1⟩
  iapply Hk
  isplitl [PA T2 Y1 Y2]
  · isplitl [PA]; · iexact PA
    isplitr; · iexact RA
    isplitl [T2]; · iexact T2
    isplitl [Y1]
    · isplitl [Y1]; · iexact Y1
      iempintro
    iexact Y2
  isplitr [HO]
  · isplitl [P1 P2 P3 P4]
    · isplitl [P1]; · iexact P1
      isplitl [P2]; · iexact P2
      isplitl [P3]; · iexact P3
      iexact P4
    isplitl [B1 B2 B3]
    · isplitl [B1]; · iexact B1
      isplitl [B2]; · iexact B2
      iexact B3
    iexact HX
  iexact HO

theorem lane_end : iprop(agSt X c l 31 ∗ lane3 X c l) ⊢ laneEnd X c l := by
  unfold agSt lane3 laneEnd lanePos
  iintro ⟨⟨⟨P5, P6, P7⟩, -, -, HY, -⟩, ⟨P1, P2, P3, P4⟩, HB, HX⟩
  isplitl [P1 P2 P3 P4 P5 P6 P7]
  · isplitl [P1]; · iexact P1
    isplitl [P2]; · iexact P2
    isplitl [P3]; · iexact P3
    isplitl [P4]; · iexact P4
    isplitl [P5]; · iexact P5
    isplitl [P6]; · iexact P6
    iexact P7
  isplitl [HB]; · iexact HB
  isplitl [HX]; · iexact HX
  iexact HY

/-! ## The whole body -/

/-- The barrier's own cell, before the body. -/
def bar0 : sProp 𝕄 :=
  iprop(cred (tallyAt (cell .bar 0 c) 0 2) ∗ atPos ER (cell .bar 0 c) 0 ∅ 0
    ∗ reached ER (cell .bar 0 (up 0 c)) 0 ∗ reached ER (cell .bar 0 (up 1 c)) 0)

theorem pro_wp :
    iprop(invs X K ∗ levAts L lv ∗ bar0 c ∗ lane0 X c 0 ∗ lane0 X c 1 ∗ ow c (O₀ c))
    ⊢ iprop(((atPos ER (cell .bar 0 c) 1 ∅ 0 ∗ (rsSt X c 0 0 ∗ lane2 X c 0) ∗ (rsSt X c 1 0 ∗ lane2 X c 1)
        ∗ ow c (oLeft .rAg .aAg c 0 + oLeft .rRs .aRs c 0)) -∗ wpc c (k ⟨⟩) Q) -∗ wpc c (pro c >>= k) Q) := by
  unfold pro O₀ bar0
  simp only [bind_assoc]
  rw [barL_eq, barR_eq]
  have h0 : ∀ n, n < 2 → Above n (oLeft .rAg .aAg c 0 + oLeft .rRs .aRs c 0) := fun n h => above_rs c (by decide) h
  generalize oLeft .rAg .aAg c 0 + oLeft .rRs .aRs c 0 = O at h0
  iintro ⟨#HI, #Hl, ⟨Hc, Hb, #Rb0, #Rb1⟩, S0, S1, HO⟩ Hk
  ihave S0 := (lane0_split X c 0) $$ S0
  icases S0 with ⟨S0, T0, G0⟩
  ihave S1 := (lane0_split X c 1) $$ S1
  icases S1 with ⟨S1, T1, G1⟩
  iapply (bar_signal X K c 0) $$ [HO T0 G0]
  · isplitr; · iexact HI
    isplitl [HO]; · iexact HO
    isplitl [T0]; · iexact T0
    isplitl [G0]; · iexact G0
    iexact Rb0
  iintro HO
  iapply (bar_signal X K c 1) $$ [HO T1 G1]
  · isplitr; · iexact HI
    isplitl [HO]; · iexact HO
    isplitl [T1]; · iexact T1
    isplitl [G1]; · iexact G1
    iexact Rb1
  iintro HO
  iapply (bar_wait X K c (h0 1 (by decide))) $$ [HO Hc Hb]
  · isplitr; · iexact HI
    isplitr; · iexact Hl
    isplitl [Hc]; · iexact Hc
    isplitl [HO]; · iexact HO
    iexact Hb
  iintro ⟨HO, Hb, G0, G1⟩
  ihave S0 := (lane1_intro X c 0) $$ [S0 G0]
  · isplitl [S0]; · iexact S0
    iexact G0
  ihave S1 := (lane1_intro X c 1) $$ [S1 G1]
  · isplitl [S1]; · iexact S1
    iexact G1
  iapply (own_start X K c 0) $$ [S0]
  · isplitr; · iexact HI
    iexact S0
  iintro S0
  iapply (own_start X K c 1) $$ [S1]
  · isplitr; · iexact HI
    iexact S1
  iintro S1
  iapply (own_wait X K c 0 (h0 0 (by decide))) $$ [S0 HO]
  · isplitr; · iexact HI
    isplitr; · iexact Hl
    isplitl [S0]; · iexact S0
    iexact HO
  iintro ⟨S0, U0, HO⟩
  iapply (own_wait X K c 1 (h0 0 (by decide))) $$ [S1 HO]
  · isplitr; · iexact HI
    isplitr; · iexact Hl
    isplitl [S1]; · iexact S1
    iexact HO
  iintro ⟨S1, U1, HO⟩
  iapply Hk
  isplitl [Hb]; · iexact Hb
  isplitl [S0 U0]
  · isplitl [S0]; · iexact S0
    iexact U0
  isplitl [S1 U1]
  · isplitl [S1]; · iexact S1
    iexact U1
  iexact HO

theorem mid_wp (hO : Above 0 O) :
    iprop(invs X K ∗ levAts L lv ∗ (rsSt X c 0 31 ∗ lane2 X c 0) ∗ (rsSt X c 1 31 ∗ lane2 X c 1) ∗ ow c O)
    ⊢ iprop(((agSt X c 0 0 ∗ lane3 X c 0) ∗ (agSt X c 1 0 ∗ lane3 X c 1) ∗ ow c O -∗ wpc c (k ⟨⟩) Q) -∗ wpc c (mid c >>= k) Q) := by
  unfold mid
  simp only [bind_assoc]
  iintro ⟨#HI, #Hl, S0, S1, HO⟩ Hk
  iapply (mid_start X K c 0) $$ [S0]
  · isplitr; · iexact HI
    iexact S0
  iintro S0
  iapply (mid_start X K c 1) $$ [S1]
  · isplitr; · iexact HI
    iexact S1
  iintro S1
  iapply (mid_wait X K c 0 hO) $$ [S0 HO]
  · isplitr; · iexact HI
    isplitr; · iexact Hl
    isplitl [S0]; · iexact S0
    iexact HO
  iintro ⟨S0, U0, HO⟩
  iapply (mid_wait X K c 1 hO) $$ [S1 HO]
  · isplitr; · iexact HI
    isplitr; · iexact Hl
    isplitl [S1]; · iexact S1
    iexact HO
  iintro ⟨S1, U1, HO⟩
  iapply Hk
  isplitl [S0 U0]
  · isplitl [S0]; · iexact S0
    iexact U0
  isplitl [S1 U1]
  · isplitl [S1]; · iexact S1
    iexact U1
  iexact HO

/-- The body, run by one device: from its start to the result in place. -/
theorem text_wp :
    iprop(invs X K ∗ levAts L lv ∗ bar0 c ∗ lane0 X c 0 ∗ lane0 X c 1 ∗ ow c (O₀ c))
    ⊢ wpc c text (fun _ => iprop(atPos ER (cell .bar 0 c) 1 ∅ 0 ∗ laneEnd X c 0 ∗ laneEnd X c 1 ∗ ow c 0)) := by
  have hrs := fun s (hs : s < 31) (k : PUnit.{1} → Txt F) => rsStep_wp X K c s (k := k) (Q := fun _ => iprop(atPos ER (cell .bar 0 c) 1 ∅ 0 ∗ laneEnd X c 0 ∗ laneEnd X c 1 ∗ ow c 0))
    hs (B := oLeft .rAg .aAg c 0) (fun n hn => above_ag c (by omega))
  have hag := fun s (hs : s < 31) (k : PUnit.{1} → Txt F) => agStep_wp X K c s (k := k) (Q := fun _ => iprop(atPos ER (cell .bar 0 c) 1 ∅ 0 ∗ laneEnd X c 0 ∗ laneEnd X c 1 ∗ ow c 0)) hs
  rw [← bind_pure text]
  unfold text
  simp only [bind_assoc]
  iintro ⟨#HI, #Hl, Hb, S0, S1, HO⟩
  iapply (Entails.of_eq (wp_deviceId 𝒱₀ (c : Thread nD τ) none Set.univ).symm)
  iapply (pro_wp X K c) $$ [Hb S0 S1 HO]
  · isplitr; · iexact HI
    isplitr; · iexact Hl
    isplitl [Hb]; · iexact Hb
    isplitl [S0]; · iexact S0
    isplitl [S1]; · iexact S1
    iexact HO
  iintro ⟨Hb, ⟨S0, U0⟩, ⟨S1, U1⟩, HO⟩
  iapply (steps_wp c (rsStep c) (fun s => iprop(rsSt X c 0 s ∗ rsSt X c 1 s ∗ ow c (oLeft .rAg .aAg c 0 + oLeft .rRs .aRs c s)))
    (P := iprop(invs X K ∗ levAts L lv)) (fun s hs k => by
      iintro ⟨⟨#HI, #Hl⟩, H⟩
      iapply (hrs s hs k)
      isplitr; · iexact HI
      isplitr; · iexact Hl
      iexact H) 31 (Nat.le_refl _)) $$ [S0 S1 HO]
  · isplitr
    · isplitr; · iexact HI
      iexact Hl
    isplitl [S0]; · iexact S0
    isplitl [S1]; · iexact S1
    iexact HO
  iintro ⟨S0, S1, HO⟩
  rw [oLeft_end, add_zero]
  iapply (mid_wp X K c (above_ag c (s := 0) (by decide))) $$ [S0 U0 S1 U1 HO]
  · isplitr; · iexact HI
    isplitr; · iexact Hl
    isplitl [S0 U0]
    · isplitl [S0]; · iexact S0
      iexact U0
    isplitl [S1 U1]
    · isplitl [S1]; · iexact S1
      iexact U1
    iexact HO
  iintro ⟨⟨S0, U0⟩, ⟨S1, U1⟩, HO⟩
  iapply (steps_wp c (agStep c) (fun s => iprop(agSt X c 0 s ∗ agSt X c 1 s ∗ ow c (oLeft .rAg .aAg c s)))
    (P := iprop(invs X K ∗ levAts L lv)) (fun s hs k => by
      iintro ⟨⟨#HI, #Hl⟩, H⟩
      iapply (hag s hs k)
      isplitr; · iexact HI
      isplitr; · iexact Hl
      iexact H) 31 (Nat.le_refl _)) $$ [S0 S1 HO]
  · isplitr
    · isplitr; · iexact HI
      iexact Hl
    isplitl [S0]; · iexact S0
    isplitl [S1]; · iexact S1
    iexact HO
  iintro ⟨S0, S1, HO⟩
  rw [oLeft_end]
  unfold wpc
  rw [wp_pure]
  imodintro
  isplitl [Hb]; · iexact Hb
  isplitl [S0 U0]
  · iapply (lane_end X c 0)
    isplitl [S0]; · iexact S0
    iexact U0
  isplitl [S1 U1]
  · iapply (lane_end X c 1)
    isplitl [S1]; · iexact S1
    iexact U1
  iexact HO

end Cert.KernelIdeal.Ring

end
-- ==== Proof.Ring.Split.lean ====
/- The large arrays as their chunks, the scratch buffers as their lanes, and what the result holds once every chunk has arrived. -/
module

public import proofs.«01_k».proof.Proof.Ring.Body

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

variable (X : Xs F) (c : Dev nD) (l : Fin 2)

/-! ## Chunk numbers -/

/-- The chunk numbers of a lane of the array it reads: its own, then one for each reduce-scatter step. -/
def xIx (l : Fin 2) (d : Dev nD) (t : ℕ) : ℕ := (d.val + if l = 0 then 32 - t % 32 else t % 32) % 32

theorem xIx_zero : ∀ (l : Fin 2) (d : Dev nD), xIx l d 0 = d.val := by decide +kernel
theorem xIx_succ' : ∀ (l : Fin 2) (d : Dev nD) (s : Fin 31), xIx l d (s.val + 1) = inIx l d s.val := by decide +kernel
theorem xIx_succ (l : Fin 2) (d : Dev nD) {s : ℕ} (hs : s < 31) : xIx l d (s + 1) = inIx l d s := xIx_succ' l d ⟨s, hs⟩
theorem xIx_inj' (l : Fin 2) (d : Dev nD) (s t : Fin 32) (h : xIx l d s.val = xIx l d t.val) : s = t := by
  have := d.isLt; have := s.isLt; have := t.isLt
  unfold xIx at h; apply Fin.ext; split at h <;> omega
theorem agIx_inj' (l : Fin 2) (d : Dev nD) (s t : Fin 32) (h : agIx l d s.val = agIx l d t.val) : s = t := by
  have := d.isLt; have := s.isLt; have := t.isLt
  unfold agIx at h; apply Fin.ext; split at h <;> omega
theorem xIx_surj' (l : Fin 2) (d : Dev nD) (j : Fin 32) : ∃ s : Fin 32, xIx l d s.val = j.val :=
  have h : Function.Injective fun s : Fin 32 => (⟨xIx l d s.val, Nat.mod_lt _ (by decide)⟩ : Fin 32) :=
    fun s t h => xIx_inj' l d s t (congrArg Fin.val h)
  (Finite.injective_iff_surjective.mp h j).imp fun _ h => congrArg Fin.val h
theorem agIx_surj' (l : Fin 2) (d : Dev nD) (j : Fin 32) : ∃ s : Fin 32, agIx l d s.val = j.val :=
  have h : Function.Injective fun s : Fin 32 => (⟨agIx l d s.val, Nat.mod_lt _ (by decide)⟩ : Fin 32) :=
    fun s t h => agIx_inj' l d s t (congrArg Fin.val h)
  (Finite.injective_iff_surjective.mp h j).imp fun _ h => congrArg Fin.val h
theorem agIx_up' : ∀ (l : Fin 2) (d : Dev nD) (s : Fin 31), agIx l (up l d) s.val = agIx l d (s.val + 1) := by decide +kernel

/-- A numbering of the chunks of each lane: every number once. -/
structure Numbers (ix : Fin 2 → ℕ → ℕ) : Prop where
  inj : ∀ (l : Fin 2) (s t : Fin 32), ix l s.val = ix l t.val → s = t
  surj : ∀ (l : Fin 2) (j : Fin 32), ∃ s : Fin 32, ix l s.val = j.val

theorem xNumbers : Numbers fun l s => xIx l c s := ⟨fun l => xIx_inj' l c, fun l => xIx_surj' l c⟩
theorem agNumbers : Numbers fun l s => agIx l c s := ⟨fun l => agIx_inj' l c, fun l => agIx_surj' l c⟩

/-! ## The elements of a chunk -/

/-- The elements of chunk `j` of lane `l`. -/
def ck (j : ℕ) (l : Fin 2) : Finset S4096x8192.Idx :=
  Finset.univ.filter fun i => (i 0).val / 128 = j ∧ (i 1).val / 4096 = l.val

theorem chunk_set {o : Fin 2 → ℕ} {j : ℕ} (h : ∀ a, o a + S128x4096.size a ≤ S4096x8192.size a) (ho : o = ![128 * j, 4096 * l.val]) :
    (Rect.unit (s := S4096x8192) o S128x4096.size h).set = ck j l := by
  subst ho
  ext i
  rw [Rect.mem_set_unit]
  unfold ck
  rw [Finset.mem_filter]
  constructor
  · intro hi
    have h0 : 128 * j ≤ (i 0).val ∧ (i 0).val < 128 * j + 128 := hi 0
    have h1 : 4096 * l.val ≤ (i 1).val ∧ (i 1).val < 4096 * l.val + 4096 := hi 1
    refine ⟨Finset.mem_univ _, ?_, ?_⟩ <;> omega
  · rintro ⟨-, h0, h1⟩ a
    fin_cases a
    · show 128 * j ≤ (i 0).val ∧ (i 0).val < 128 * j + 128
      omega
    · show 4096 * l.val ≤ (i 1).val ∧ (i 1).val < 4096 * l.val + 4096
      omega

theorem ck_all {ix : Fin 2 → ℕ → ℕ} (hix : Numbers ix) :
    (Finset.univ : Finset S4096x8192.Idx) = (Finset.univ : Finset (Fin 2)).biUnion fun l => (Finset.range 32).biUnion fun s => ck (ix l s) l := by
  ext i
  simp only [Finset.mem_univ, true_iff, Finset.mem_biUnion, true_and]
  have h0 : (i 0).val < 4096 := (i 0).isLt
  have h1 : (i 1).val < 8192 := (i 1).isLt
  obtain ⟨s, hs⟩ := hix.surj ⟨(i 1).val / 4096, by omega⟩ ⟨(i 0).val / 128, by omega⟩
  exact ⟨⟨(i 1).val / 4096, by omega⟩, s.val, Finset.mem_range.mpr s.isLt, Finset.mem_filter.mpr ⟨Finset.mem_univ _, hs.symm, rfl⟩⟩

theorem ck_disj_lane {ix : Fin 2 → ℕ → ℕ} : ∀ l ∈ (Finset.univ : Finset (Fin 2)), ∀ l' ∈ (Finset.univ : Finset (Fin 2)), l ≠ l' →
    Disjoint ((Finset.range 32).biUnion fun s => ck (ix l s) l) ((Finset.range 32).biUnion fun s => ck (ix l' s) l') := by
  intro l _ l' _ hl
  rw [Finset.disjoint_left]
  intro i hi hi'
  obtain ⟨s, -, hs⟩ := Finset.mem_biUnion.mp hi
  obtain ⟨s', -, hs'⟩ := Finset.mem_biUnion.mp hi'
  exact hl (Fin.ext ((Finset.mem_filter.mp hs).2.2.symm.trans (Finset.mem_filter.mp hs').2.2))

theorem ck_disj {ix : Fin 2 → ℕ → ℕ} (hix : Numbers ix) : ∀ s ∈ Finset.range 32, ∀ s' ∈ Finset.range 32, s ≠ s' → Disjoint (ck (ix l s) l) (ck (ix l s') l) := by
  intro s hs s' hs' hne
  rw [Finset.disjoint_left]
  intro i hi hi'
  have e := (Finset.mem_filter.mp hi).2.1.symm.trans (Finset.mem_filter.mp hi').2.1
  exact hne (Fin.mk.inj (hix.inj l ⟨s, Finset.mem_range.mp hs⟩ ⟨s', Finset.mem_range.mp hs'⟩ e))

omit [FloatOps F] in
/-- A buffer as a family of pieces, lane by lane. -/
theorem split_family (ℓ : Loc nD τ sig) (P : Fin 2 → ℕ → Finset (Idx ℓ)) (f : Buf (Elt F) ℓ)
    (hall : (Finset.univ : Finset (Idx ℓ)) = (Finset.univ : Finset (Fin 2)).biUnion fun l => (Finset.range 32).biUnion (P l))
    (h1 : ∀ l ∈ (Finset.univ : Finset (Fin 2)), ∀ l' ∈ (Finset.univ : Finset (Fin 2)), l ≠ l' → Disjoint ((Finset.range 32).biUnion (P l)) ((Finset.range 32).biUnion (P l')))
    (h2 : ∀ l, ∀ s ∈ Finset.range 32, ∀ s' ∈ Finset.range 32, s ≠ s' → Disjoint (P l s) (P l s')) :
    (ℓ ↦{fullShare} f : sProp 𝕄) = iprop((bigSep (Finset.range 32) fun s => (ℓ ↦[P 0 s]{fullShare} f)) ∗ bigSep (Finset.range 32) fun s => (ℓ ↦[P 1 s]{fullShare} f)) := by
  rw [hall, pointsTo_biUnion _ _ h1, BI.bigSep_fin_two, pointsTo_biUnion _ _ (h2 0), pointsTo_biUnion _ _ (h2 1)]
  rfl

omit [FloatOps F] in
/-- The array the kernel reads as its chunks. -/
theorem split_x {ix : Fin 2 → ℕ → ℕ} (hix : Numbers ix) (f : Buf (Elt F) ((c : Thread nD τ).loc main_v7)) :
    ((c : Thread nD τ).loc main_v7 ↦{fullShare} f : sProp 𝕄)
      = iprop((bigSep (Finset.range 32) fun s => ((c : Thread nD τ).loc main_v7 ↦[ck (ix 0 s) 0]{fullShare} f))
        ∗ bigSep (Finset.range 32) fun s => ((c : Thread nD τ).loc main_v7 ↦[ck (ix 1 s) 1]{fullShare} f)) :=
  split_family ((c : Thread nD τ).loc main_v7) (fun l s => ck (ix l s) l) f (ck_all hix) ck_disj_lane fun l => ck_disj l hix

omit [FloatOps F] in
/-- The array the kernel writes as its chunks. -/
theorem split_y {ix : Fin 2 → ℕ → ℕ} (hix : Numbers ix) (f : Buf (Elt F) ((c : Thread nD τ).loc main_v8)) :
    ((c : Thread nD τ).loc main_v8 ↦{fullShare} f : sProp 𝕄)
      = iprop((bigSep (Finset.range 32) fun s => ((c : Thread nD τ).loc main_v8 ↦[ck (ix 0 s) 0]{fullShare} f))
        ∗ bigSep (Finset.range 32) fun s => ((c : Thread nD τ).loc main_v8 ↦[ck (ix 1 s) 1]{fullShare} f)) :=
  split_family ((c : Thread nD τ).loc main_v8) (fun l s => ck (ix l s) l) f (ck_all hix) ck_disj_lane fun l => ck_disj l hix

/-! ## The array it reads -/

omit [FloatOps F] in
theorem xPart_ck {o : Fin 2 → ℕ} {j : ℕ} (h : ∀ a, o a + S128x4096.size a ≤ S4096x8192.size a) (ho : o = ![128 * j, 4096 * l.val]) :
    xPart X c o h = ((c : Thread nD τ).loc main_v7 ↦[ck j l]{fullShare} (X c) : sProp 𝕄) := by
  unfold xPart
  rw [show (chunk xM o h).view.set = ck j l from (View.set_slice_whole _ _).trans (chunk_set l h ho)]

omit [FloatOps F] in
/-- Thirty-two pieces are the first and the thirty-one that follow. -/
theorem bigSep_first (Φ : ℕ → sProp (MT nD τ sig ℕ (Elt F) ℕ UU ℕ)) :
    bigSep (Finset.range 32) Φ = iprop(Φ 0 ∗ bigSep (Finset.range 31) fun s => Φ (s + 1)) := by
  rw [show Finset.range 32 = insert 0 ((Finset.range 31).map ⟨fun s => s + 1, fun a b h => Nat.succ.inj h⟩) from by decide,
    bigSep_insert (by decide), bigSep_map]
  rfl

omit [FloatOps F] in
theorem laneX_ck : laneX X c l = bigSep (Finset.range 32) fun s => ((c : Thread nD τ).loc main_v7 ↦[ck (xIx l c s) l]{fullShare} (X c) : sProp 𝕄) := by
  rw [bigSep_first]
  unfold laneX
  rw [xPart_ck X c l (j := xIx l c 0) _ ((ownOff_eq l c).trans (by rw [xIx_zero])),
    bigSep_congr (Ψ := fun s => ((c : Thread nD τ).loc main_v7 ↦[ck (xIx l c (s + 1)) l]{fullShare} (X c) : sProp 𝕄))
      fun s hs => xPart_ck X c l (j := xIx l c (s + 1)) _ ((inOff_eq l c s).trans (by rw [xIx_succ l c (Finset.mem_range.mp hs)]))]

omit [FloatOps F] in
/-- The array a device reads, whole, is what its two lanes read. -/
theorem x_lanes : ((c : Thread nD τ).loc main_v7 ↦{fullShare} (X c) : sProp 𝕄) = iprop(laneX X c 0 ∗ laneX X c 1) := by
  rw [split_x c (xNumbers c), laneX_ck, laneX_ck]

/-! ## The array it writes -/

omit [FloatOps F] in
theorem agC_set (s : ℕ) : (agC l c s).view.set = ck (agIx l c s) l := (View.set_slice_whole _ _).trans (chunk_set l _ (agOff_eq l c s))

omit [FloatOps F] in
theorem laneY_of (f : Buf (Elt F) ((c : Thread nD τ).loc main_v8)) :
    (bigSep (Finset.range 32) fun s => ((c : Thread nD τ).loc main_v8 ↦[ck (agIx l c s) l]{fullShare} f) : sProp 𝕄) ⊢ laneY c l := by
  have h (s : ℕ) : ((c : Thread nD τ).loc main_v8 ↦[ck (agIx l c s) l]{fullShare} f : sProp 𝕄) ⊢ any (agC l c s) c := by
    rw [← agC_set]; exact any_intro c (agC l c s) f
  rw [bigSep_first]
  unfold laneY
  rw [← Finset.range_eq_Ico]
  exact BIClass.sep_mono (h 0) (bigSep_mono fun s _ => h (s + 1))

omit [FloatOps F] in
/-- The array a device writes, at any contents, is its two lanes' chunks. -/
theorem y_lanes (f : Buf (Elt F) ((c : Thread nD τ).loc main_v8)) :
    ((c : Thread nD τ).loc main_v8 ↦{fullShare} f : sProp 𝕄) ⊢ iprop(laneY c 0 ∗ laneY c 1) := by
  rw [split_y c (agNumbers c)]
  exact BIClass.sep_mono (laneY_of c 0 f) (laneY_of c 1 f)

/-! ## What the result holds -/

/-- The device a lane finishes a chunk on. -/
def owner (l : Fin 2) (j : ℕ) : Dev nD := ⟨(j + if l = 0 then 31 else 1) % 32, Nat.mod_lt _ (by decide)⟩

/-- Every chunk of the result: what the device that finishes it accumulated. -/
def res : (main_v8 : Ref sig .tc).ty.Contents (Elt F) := fun (i : S4096x8192.Idx) =>
  acc X ⟨(i 1).val / 4096, Nat.div_lt_of_lt_mul (i 1).isLt⟩ 31 (owner ⟨(i 1).val / 4096, Nat.div_lt_of_lt_mul (i 1).isLt⟩ ((i 0).val / 128))
    fun | 0 => ⟨(i 0).val % 128, Nat.mod_lt _ (by decide)⟩ | 1 => ⟨(i 1).val % 4096, Nat.mod_lt _ (by decide)⟩

theorem owner_zero : ∀ (l : Fin 2) (c : Dev nD), owner l (agIx l c 0) = c := by decide +kernel

theorem fin_owner (s : ℕ) (hs : s < 32) : ∀ c, fin X l s c = acc X l 31 (owner l (agIx l c s)) := by
  induction s with
  | zero => intro c; rw [owner_zero]; rfl
  | succ s ih =>
    intro c
    rw [fin_succ, ih (by omega), agIx_up' l c ⟨s, by omega⟩]

theorem res_at {i : S4096x8192.Idx} {j : ℕ} {y : S128x4096.Idx} (h0 : (i 0).val = 128 * j + (y 0).val) (h1 : (i 1).val = 4096 * l.val + (y 1).val) :
    res X i = acc X l 31 (owner l j) y := by
  have y0 : (y 0).val < 128 := (y 0).isLt
  have y1 : (y 1).val < 4096 := (y 1).isLt
  have hl : (⟨(i 1).val / 4096, Nat.div_lt_of_lt_mul (i 1).isLt⟩ : Fin 2) = l := Fin.ext (by show (i 1).val / 4096 = l.val; omega)
  have hj : (i 0).val / 128 = j := by omega
  show acc X ⟨(i 1).val / 4096, _⟩ 31 (owner ⟨(i 1).val / 4096, _⟩ ((i 0).val / 128)) _ = _
  rw [hl, hj]
  congr 1
  funext a
  apply Fin.ext
  fin_cases a
  · show (i 0).val % 128 = (y 0).val
    omega
  · show (i 1).val % 4096 = (y 1).val
    omega

/-- Each chunk of `res` is what the all-gather passes round. -/
theorem res_read (s : ℕ) (hs : s < 32) : (agC l c s).view.read (Elt F) (res X) = fin X l s c := by
  rw [fin_owner X l s hs]
  funext y
  rw [View.read_apply]
  refine res_at X l (i := (agC l c s).view.emb y) ?_ ?_
  · show agOff l c s 0 + 1 * (y 0).val = _
    rw [agOff_eq]
    show 128 * agIx l c s + 1 * (y 0).val = _
    omega
  · show agOff l c s 1 + 1 * (y 1).val = _
    rw [agOff_eq]
    show 4096 * l.val + 1 * (y 1).val = _
    omega

theorem agHas_ck (s : ℕ) (hs : s < 32) : agHas X c l s ⊢ ((c : Thread nD τ).loc main_v8 ↦[ck (agIx l c s) l]{fullShare} (res X) : sProp 𝕄) := by
  have h (f : (agC l c s).view.ty.Contents (Elt F)) (hf : (agC l c s).view.read (Elt F) f = fin X l s c) :
      ∀ i ∈ (agC l c s).view.set, f i = res X i := by
    intro i hi
    obtain ⟨y, -, rfl⟩ := Finset.mem_map.mp hi
    exact congrFun (hf.trans (res_read X c l s hs).symm) y
  unfold agHas has
  rw [← agC_set]
  iintro ⟨%f, %hf, H⟩
  iapply (Entails.of_eq (pointsTo_congr (ℓ := (agC l c s).view.loc (c : Thread nD τ)) (q := fullShare) (h f hf)))
  iexact H

/-- Every chunk having arrived, the result is whole. -/
theorem res_whole : iprop((bigSep (Finset.range 32) (agHas X c 0)) ∗ bigSep (Finset.range 32) (agHas X c 1))
    ⊢ ((c : Thread nD τ).loc main_v8 ↦{fullShare} (res X) : sProp 𝕄) := by
  rw [split_y c (agNumbers c)]
  exact BIClass.sep_mono (bigSep_mono fun s hs => agHas_ck X c 0 s (Finset.mem_range.mp hs)) (bigSep_mono fun s hs => agHas_ck X c 1 s (Finset.mem_range.mp hs))

/-! ## The scratch buffers -/

/-- The elements of lane `l` of a two-lane buffer. -/
def lk (l : Fin 2) : Finset S2x128x4096.Idx := Finset.univ.filter fun i => (i 0).val = l.val

theorem laneR_set : (laneR l).set = lk l := by
  ext i
  have hl := l.isLt
  have h1 : (i 1).val < 128 := (i 1).isLt
  have h2 : (i 2).val < 4096 := (i 2).isLt
  rw [Rect.mem_set_unit]
  unfold lk
  rw [Finset.mem_filter]
  constructor
  · intro hi
    have h0 : l.val ≤ (i 0).val ∧ (i 0).val < l.val + 1 := hi 0
    exact ⟨Finset.mem_univ _, by omega⟩
  · rintro ⟨-, h0⟩ a
    fin_cases a
    · show l.val ≤ (i 0).val ∧ (i 0).val < l.val + 1
      omega
    · show 0 ≤ (i 1).val ∧ (i 1).val < 0 + 128
      omega
    · show 0 ≤ (i 2).val ∧ (i 2).val < 0 + 4096
      omega

theorem lk_disj : Disjoint (lk 0) (lk 1) := by
  rw [Finset.disjoint_left]
  intro i h0 h1
  exact absurd ((Finset.mem_filter.mp h0).2.symm.trans (Finset.mem_filter.mp h1).2) (by decide)

theorem lk_all : (Finset.univ : Finset S2x128x4096.Idx) = lk 0 ∪ lk 1 := by
  ext i
  have h : (i 0).val < 2 := (i 0).isLt
  simp only [Finset.mem_univ, true_iff, Finset.mem_union, lk, Finset.mem_filter, true_and]
  rcases Nat.lt_succ_iff_lt_or_eq.mp h with h | h
  · exact Or.inl (by show (i 0).val = 0; omega)
  · exact Or.inr h

omit [FloatOps F] in
/-- A buffer in two pieces, and back. -/
theorem split_two (ℓ : Loc nD τ sig) (I J : Finset (Idx ℓ)) (hall : (Finset.univ : Finset (Idx ℓ)) = I ∪ J) (hd : Disjoint I J) :
    (iprop(∃ f, (ℓ ↦{fullShare} f)) : sProp 𝕄) ⊣⊢ iprop((∃ f, (ℓ ↦[I]{fullShare} f)) ∗ (∃ f, (ℓ ↦[J]{fullShare} f))) := by
  constructor
  · iintro ⟨%f, H⟩
    rw [hall]
    ihave H := (pointsTo_split_subset (Finset.subset_union_left (s₁ := I) (s₂ := J))).1 $$ H
    rw [Finset.union_sdiff_cancel_left hd]
    icases H with ⟨H1, H2⟩
    isplitl [H1]
    · iexists f; iexact H1
    · iexists f; iexact H2
  · iintro ⟨⟨%f, H1⟩, %g, H2⟩
    iexists (J.piecewise g f)
    rw [hall]
    iapply (pointsTo_join hd)
    isplitl [H1] <;> iassumption

omit [FloatOps F] in
theorem a_lanes : (iprop(∃ f, ((c : Thread nD τ).loc cc1_scratch0 ↦{fullShare} f)) : sProp 𝕄) ⊣⊢ iprop(any (lane aM 0) c ∗ any (lane aM 1) c) := by
  have h (l : Fin 2) : (lane aM l).view.set = lk l := (lane_set aM l).trans ((View.set_slice_whole _ _).trans (laneR_set l))
  unfold any
  rw [h 0, h 1]
  exact split_two ((c : Thread nD τ).loc cc1_scratch0) (lk 0) (lk 1) lk_all lk_disj
omit [FloatOps F] in
theorem b_lanes : (iprop(∃ f, ((c : Thread nD τ).loc cc1_scratch1 ↦{fullShare} f)) : sProp 𝕄) ⊣⊢ iprop(any (lane bM 0) c ∗ any (lane bM 1) c) := by
  have h (l : Fin 2) : (lane bM l).view.set = lk l := (lane_set bM l).trans ((View.set_slice_whole _ _).trans (laneR_set l))
  unfold any
  rw [h 0, h 1]
  exact split_two ((c : Thread nD τ).loc cc1_scratch1) (lk 0) (lk 1) lk_all lk_disj
omit [FloatOps F] in
theorem c_lanes : (iprop(∃ f, ((c : Thread nD τ).loc cc1_scratch2 ↦{fullShare} f)) : sProp 𝕄) ⊣⊢ iprop(any (lane cM 0) c ∗ any (lane cM 1) c) := by
  have h (l : Fin 2) : (lane cM l).view.set = lk l := (lane_set cM l).trans ((View.set_slice_whole _ _).trans (laneR_set l))
  unfold any
  rw [h 0, h 1]
  exact split_two ((c : Thread nD τ).loc cc1_scratch2) (lk 0) (lk 1) lk_all lk_disj

end Cert.KernelIdeal.Ring

end
-- ==== Proof.Ring.Cast.lean ====
module

public import proofs.«01_k».proof.Proof.Ring.Split
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.RegionArraysS
public import Idealize.ShloMosaic.Lib.Pipeline.Value
public import Idealize.ShloMosaic.Lib.Tactic
public import Idealize.ShloMosaic.Lib.WordCmp

@[expose] public section

set_option maxRecDepth 16384

noncomputable section

namespace Cert.KernelIdeal.Ring

open Idealize.ShloMosaic Idealize.ShloMosaic.TcCoe Idealize.ShloMosaic.Tactic Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig ℕ (Elt F) ℕ UU ℕ

variable (m : (ℓ : Loc nD τ sig) → Buf (Elt F) ℓ)

/-! The first launch: every device converts its blocks of x and w. -/

/-- Both offsets are zero. -/
theorem zeros2 : (![0, 0] : Fin 2 → ℕ) = fun _ => 0 := by funext a; fin_cases a <;> rfl

/-- One write of the whole buffer reaches every entry of the converted block of x. -/
theorem cover_x (p : Vec F S4096x128 .bf16) (y : S4096x128.Idx) :
    ∃ pc ∈ ([⟨Rect.unit (s := S4096x128) ![0, 0] S4096x128.size inb_S4096x128_S4096x128_0_0, p⟩] : List (View.Piece (Elt F) S4096x128 .bf16)), y ∈ pc.1.set :=
  ⟨_, List.mem_singleton_self _, View.mem_set_unit_zero zeros2 inb_S4096x128_S4096x128_0_0 y⟩
/-- One write of the whole buffer reaches every entry of the converted block of w. -/
theorem cover_w (p : Vec F S128x8192 .bf16) (y : S128x8192.Idx) :
    ∃ pc ∈ ([⟨Rect.unit (s := S128x8192) ![0, 0] S128x8192.size inb_S128x8192_S128x8192_0_0, p⟩] : List (View.Piece (Elt F) S128x8192 .bf16)), y ∈ pc.1.set :=
  ⟨_, List.mem_singleton_self _, View.mem_set_unit_zero zeros2 inb_S128x8192_S128x8192_0_0 y⟩

set_option maxHeartbeats 1000000 in
/-- The conversion leaves the two inputs alone and the converted entries in the two outputs. -/
theorem cast_wp (c : Dev nD) (arg0 : Memref sig .tc .vmem S4096x128 .fp8e4m3) (harg0 : arg0.IsWhole) (arg1 : Memref sig .tc .vmem S128x8192 .fp8e5m2) (harg1 : arg1.IsWhole)
    (arg2 : Memref sig .tc .vmem S4096x128 .bf16) (harg2 : arg2.IsWhole) (arg3 : Memref sig .tc .vmem S128x8192 .bf16) (harg3 : arg3.IsWhole)
    (x : Vec F S4096x128 .fp8e4m3) (w : Vec F S128x8192 .fp8e5m2) (K : PUnit → sProp 𝕄) :
    iprop(owns (c : Thread nD τ) arg0 fullShare x ∗ owns (c : Thread nD τ) arg1 fullShare w ∗ (∃ d, owns (c : Thread nD τ) arg2 fullShare d) ∗ (∃ d, owns (c : Thread nD τ) arg3 fullShare d)
        ∗ (iprop(owns (c : Thread nD τ) arg0 fullShare x ∗ owns (c : Thread nD τ) arg1 fullShare w ∗ owns (c : Thread nD τ) arg2 fullShare (k0_pay1 x) ∗ owns (c : Thread nD τ) arg3 fullShare (k0_pay2 w)) -∗ K ⟨⟩))
      ⊢ wp frame (wpE (defs₀ (F := F)) 𝒱₀ c none) Set.univ (cc0__cast_body arg0 harg0 arg1 harg1 arg2 harg2 arg3 harg3) K := by
  simp only [cc0__cast_body_eq_skeleton]; unfold cc0__cast_body_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    refine (View.read_writes_eq_canon _ _ _ (cover_x _)).trans ?_
    rw [View.canon_unit_zero zeros2]
    exact congrArg k0_pay1 (View.ld_unit_zero zeros2 _ _)
  iexists _; isplitr
  swap; · iexact H3
  ipureintro
  refine (View.read_writes_eq_canon _ _ _ (cover_w _)).trans ?_
  rw [View.canon_unit_zero zeros2]
  exact congrArg k0_pay2 (View.ld_unit_zero zeros2 _ _)

/-! The launch's record. -/

/-- What a window brings in: its block of the array as launched. -/
def blk0 (c : Dev nD) (w : Fin cfg0.W) (t : Fin cfg0.N) : ((cfg0.win w).xblock (cfg0.grid.coords t)).Idx → Elt F (cfg0.win w).elt :=
  ((cfg0.win w).blk t).view.read (Elt F) (V0 m c (Pipeline.arrRef spec0 w))

/-- The record of the first launch: the arrays as launched, the inputs left alone, the outputs converted. -/
def dat0 (c : Dev nD) : Dat τ (Elt F) ℕ ℕ UU ℕ cfg0 c where
  A w := V0 m c (Pipeline.arrRef spec0 w)
  after w t := match w with
    | ⟨0, _⟩ => blk0 m c 0 t
    | ⟨1, _⟩ => blk0 m c 1 t
    | ⟨2, _⟩ => k0_pay1 (blk0 m c 0 t)
    | ⟨3, _⟩ => k0_pay2 (blk0 m c 1 t)
  Φ _ := iprop(Pipeline.scopedRest spec0 c ∗ ∃ r, prngReg c r)
  q _ := fullShare
  owed _ := O₀ c

theorem dat0_A (c : Dev nD) (w : Fin cfg0.W) : (dat0 m c).A w = V0 m c (Pipeline.arrRef spec0 w) := by dsimp only [dat0]
theorem dat0_after0 (c : Dev nD) (t : Fin cfg0.N) : (dat0 m c).after 0 t = blk0 m c 0 t := by dsimp only [dat0]
theorem dat0_after1 (c : Dev nD) (t : Fin cfg0.N) : (dat0 m c).after 1 t = blk0 m c 1 t := by dsimp only [dat0]
theorem dat0_after2 (c : Dev nD) (t : Fin cfg0.N) : (dat0 m c).after 2 t = k0_pay1 (blk0 m c 0 t) := by dsimp only [dat0]
theorem dat0_after3 (c : Dev nD) (t : Fin cfg0.N) : (dat0 m c).after 3 t = k0_pay2 (blk0 m c 1 t) := by dsimp only [dat0]

/-- The body finds its block of x in the first staging buffer. -/
theorem dat0_before0 (c : Dev nD) (t : Fin cfg0.N) (d) : (dat0 m c).before 0 t d = blk0 m c 0 t :=
  ((dat0 m c).before_in_eq_fetched 0 rfl (fun _ => rfl) (fun _ _ _ => rfl) (fun t => by rw [dat0_after0]; unfold Dat.blockOf blk0; rw [dat0_A]) t d).trans
    (by unfold Dat.fetched Dat.blockOf blk0; rw [dat0_A]; rfl)
/-- The body finds its block of w in the second staging buffer. -/
theorem dat0_before1 (c : Dev nD) (t : Fin cfg0.N) (d) : (dat0 m c).before 1 t d = blk0 m c 1 t :=
  ((dat0 m c).before_in_eq_fetched 1 rfl (fun _ => rfl) (fun _ _ _ => rfl) (fun t => by rw [dat0_after1]; unfold Dat.blockOf blk0; rw [dat0_A]) t d).trans
    (by unfold Dat.fetched Dat.blockOf blk0; rw [dat0_A]; rfl)

/-- What the body starts from, and what it hands back. -/
def pre0 (c : Dev nD) (t : Fin cfg0.N) : sProp 𝕄 :=
  iprop((dat0 m c).Φ t.castSucc ∗ (dat0 m c).owesAt 0 t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))
def post0 (c : Dev nD) (t : Fin cfg0.N) : sProp 𝕄 :=
  iprop((dat0 m c).Φ t.succ ∗ (dat0 m c).owesAt 0 t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ owns (c : Thread nD τ) (st0_3 t) fullShare ((dat0 m c).after 3 t))

theorem body0 (c : Dev nD) (t : Fin cfg0.N) :
    pre0 m c t ⊢ wp frame (wpE (defs₀ (F := F)) 𝒱₀ c none) Set.univ (bodyAt0 t) (fun _ => post0 m c t) := by
  unfold pre0 post0 bodyAt0
  simp only [dat0_before0, dat0_before1]
  rw [show (dat0 m c).Φ t.succ = (dat0 m c).Φ t.castSucc from rfl, show (dat0 m c).owesAt 0 t.succ = (dat0 m c).owesAt 0 t.castSucc from rfl,
    dat0_after0, dat0_after1, dat0_after2, dat0_after3]
  iintro ⟨HΦ, Ho, ⟨%d0, H0⟩, ⟨%d1, H1⟩, ⟨%d2, H2⟩, ⟨%d3, H3⟩⟩
  iapply (cast_wp c _ _ _ _ _ _ _ _ (blk0 m c 0 t) (blk0 m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The conversion's program at a point is the printed one. -/
theorem row0 (t : Fin cfg0.N) : defs₀ (F := F) .tc cfg0.body (cfg0.bodyArgs t (cfg0.slots t)) = bodyAt0 t := by
  unfold defs₀; rw [Defs.onTc_tc]

theorem obligation0 (c : Dev nD) : BodyObligation (dat0 (F := F) m c) (defs₀ (F := F)) 𝒱₀ 0 Set.univ := fun t => by
  rw [bigSep_W0, bigSep_W0, row0]
  exact triple_restated (body0 m c t) rfl .rfl fun _ => .rfl

end Cert.KernelIdeal.Ring

end
-- ==== Proof.Ring.Talk.lean ====
module

public import proofs.«01_k».proof.Proof.Ring.BodyEq
public import proofs.«01_k».proof.Proof.Ring.Cast
public import Idealize.ShloMosaic.Lib.Rounds.Family
public import Idealize.ShloMosaic.Lib.Pipeline.RegionTalk

@[expose] public section

set_option maxRecDepth 16384

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig ℕ (Elt F) ℕ UU ℕ

/-! ## The second launch's own semaphores -/

/-- The fourteen semaphores the ring holds only while it runs: seven kinds in each lane. -/
abbrev Own : Type := Fin 2 × {k : Kd // k ≠ .bar}
/-- The semaphore of each. -/
abbrev ownSem (o : Own) : SemLoc sig := semOf o.2.1 o.1
/-- The cell of each on a device. -/
abbrev ownCell (c : Dev nD) (o : Own) : GSem nD τ sig := cell o.2.1 o.1 c

theorem own_facts : Pipeline.OwnSemFacts cfg1.spec ownSem := by decide

omit [FloatOps F] in
/-- What is kept for each of the fourteen, lane by lane. -/
theorem bigSep_own (Φ : Own → sProp 𝕄) : bigSep Finset.univ Φ
    = iprop(bigSep Finset.univ (fun k : {k : Kd // k ≠ .bar} => Φ (0, k)) ∗ bigSep Finset.univ (fun k : {k : Kd // k ≠ .bar} => Φ (1, k))) := by
  rw [bigSep_univ_prod, BI.bigSep_fin_two]; rfl
/-- The seven kinds. -/
def kinds : List {k : Kd // k ≠ .bar} :=
  [⟨.sRs, by decide⟩, ⟨.rRs, by decide⟩, ⟨.cp, by decide⟩, ⟨.aRs, by decide⟩, ⟨.sAg, by decide⟩, ⟨.rAg, by decide⟩, ⟨.aAg, by decide⟩]
omit [FloatOps F] in
/-- What is kept for each of the seven kinds. -/
theorem bigSep_kinds (Φ : {k : Kd // k ≠ .bar} → sProp 𝕄) : bigSep Finset.univ Φ
    = iprop(Φ ⟨.sRs, by decide⟩ ∗ Φ ⟨.rRs, by decide⟩ ∗ Φ ⟨.cp, by decide⟩ ∗ Φ ⟨.aRs, by decide⟩ ∗ Φ ⟨.sAg, by decide⟩ ∗ Φ ⟨.rAg, by decide⟩ ∗ Φ ⟨.aAg, by decide⟩) := by
  rw [bigSep_univ_eq_bigSepL kinds (by decide) (by decide)]
  rfl

/-- The round a kind ends at. -/
def ends (o : Own) : ℕ := rounds o.2.1
theorem ends_cp (l : Fin 2) (h) : ends (l, ⟨.cp, h⟩) = 33 := rfl

variable (X : Xs F) (K : GSem nD τ sig → ℕ) (c : Dev nD)

omit [FloatOps F] in
/-- The fourteen cells just opened are both lanes at their start. -/
theorem cells_start : (bigSep Finset.univ fun o : Own => iprop(atPos ER (ownCell c o) 0 ∅ 0 ∗ reached ER (ownCell c o) 0) : sProp 𝕄)
    ⊢ iprop((lanePos c 0 0 0 ∗ laneRch c 0) ∗ lanePos c 1 0 0 ∗ laneRch c 1) := by
  rw [bigSep_own, bigSep_kinds, bigSep_kinds]
  unfold lanePos laneRch
  iintro ⟨⟨⟨A1, B1⟩, ⟨A2, B2⟩, ⟨A3, B3⟩, ⟨A4, B4⟩, ⟨A5, B5⟩, ⟨A6, B6⟩, A7, B7⟩, ⟨C1, D1⟩, ⟨C2, D2⟩, ⟨C3, D3⟩, ⟨C4, D4⟩, ⟨C5, D5⟩, ⟨C6, D6⟩, C7, D7⟩
  isplitl [A1 A2 A3 A4 A5 A6 A7 B1 B2 B3 B4 B5 B6 B7]
  · isplitl [A1 A2 A3 A4 A5 A6 A7]
    · iframe
    · iframe
  isplitl [C1 C2 C3 C4 C5 C6 C7]
  · iframe
  · iframe

omit [FloatOps F] in
/-- Both lanes at their end are the fourteen cells each at its last round. -/
theorem cells_end : iprop(lanePos c 0 31 33 ∗ lanePos c 1 31 33)
    ⊢ (bigSep Finset.univ fun o : Own => atPos ER (ownCell c o) (ends o) ∅ 0 : sProp 𝕄) := by
  rw [bigSep_own, bigSep_kinds, bigSep_kinds]
  exact .rfl

/-- Both lanes at their end give every counter back at zero. -/
theorem cells_zero : iprop(invs X K ∗ lanePos c 0 31 33 ∗ lanePos c 1 31 33) ⊢ (|={Set.univ}=> Pipeline.ownSems0 ownSem c : sProp 𝕄) := by
  have hI : invs X K ⊢ bigSep Finset.univ fun o : Own => cellInv ER (sch X) (K (ownCell c o)) (ownCell c o) :=
    bigSep_intro_persistent fun o _ => inv_at X K o.2.1 o.1 c
  refine BIBase.Entails.trans ?_ (cells_close ER (sch X) Finset.univ (ownCell c) (fun o => K (ownCell c o)) (fun _ _ => Set.mem_univ _) (fun _ _ h => h) ends
    (fun o _ r hr => duties_end X c o.1 hr))
  rw [bigSep_sep']
  exact BIClass.sep_mono hI (cells_end c)

/-! ## The second launch's record -/

/-- What a device holds of the ring before it starts. -/
def ring0 : sProp 𝕄 := iprop((bigSep Finset.univ fun o : Own => openTok ER (ownCell c o)) ∗ bar0 c ∗ laneTok c 0 ∗ laneTok c 1)
def ringK : sProp 𝕄 := iprop(ring0 c ∗ ∃ K, invs X K)
/-- The same, its fourteen cells open. -/
def ringX : sProp 𝕄 :=
  iprop((lanePos c 0 0 0 ∗ laneRch c 0) ∗ (lanePos c 1 0 0 ∗ laneRch c 1) ∗ bar0 c ∗ laneTok c 0 ∗ laneTok c 1 ∗ levAts L lv ∗ ∃ K, invs X K)

/-- Opening the fourteen cells. -/
theorem ring_open : iprop(ringK X c ∗ Pipeline.ownSems0 ownSem c ∗ levAts L lv) ⊢ (|={Set.univ}=> ringX X c : sProp 𝕄) := by
  unfold ringK ring0 ringX
  iintro ⟨⟨⟨Ho, Hb, T0, T1⟩, ⟨%K, #HI⟩⟩, Hs, Hl⟩
  imod (show iprop(invs X K ∗ (bigSep Finset.univ fun o : Own => openTok ER (ownCell c o)) ∗ Pipeline.ownSems0 ownSem c)
      ⊢ (|={Set.univ}=> iprop((lanePos c 0 0 0 ∗ laneRch c 0) ∗ lanePos c 1 0 0 ∗ laneRch c 1) : sProp 𝕄) from by
    have hI : invs X K ⊢ bigSep Finset.univ fun o : Own => cellInv ER (sch X) (K (ownCell c o)) (ownCell c o) :=
      bigSep_intro_persistent fun o _ => inv_at X K o.2.1 o.1 c
    refine BIBase.Entails.trans ?_ ((cells_open ER (sch X) Finset.univ (ownCell c) (fun o => K (ownCell c o)) (Es := Set.univ) (fun _ _ => Set.mem_univ _)).trans
      (fupd_mono (cells_start c)))
    rw [bigSep_sep', show (Pipeline.ownSems0 ownSem c : sProp 𝕄) = bigSep Finset.univ fun o : Own => semVal (ownCell c o) 0 from rfl]
    iintro ⟨H1, H2, H3⟩
    isplitl [H1 H2]
    · isplitl [H1]; · iapply hI; iexact H1
      iexact H2
    iexact H3) $$ [Ho Hs] with ⟨P0, P1⟩
  · isplitr; · iexact HI
    isplitl [Ho] <;> iassumption
  imodintro
  isplitl [P0]; · iexact P0
  isplitl [P1]; · iexact P1
  isplitl [Hb]; · iexact Hb
  isplitl [T0]; · iexact T0
  isplitl [T1]; · iexact T1
  isplitl [Hl]; · iexact Hl
  iexists K; iexact HI

/-- The two arrays the ring addresses itself. -/
def ringBufs : Finset (DevRef τ sig) := {Proc.devRef .tc main_v7, Proc.devRef .tc main_v8}
omit [FloatOps F] in
theorem ringBufs_held (V : Valuation τ sig (Elt F)) : (StableHlo.held (c : Thread nD τ) ringBufs V : sProp 𝕄)
    = iprop(((c : Thread nD τ).loc main_v7 ↦{fullShare} V main_v7) ∗ ((c : Thread nD τ).loc main_v8 ↦{fullShare} V main_v8)) := by
  unfold StableHlo.held
  rw [bigSep_eq_bigSepL_of_eq [Proc.devRef .tc main_v7, Proc.devRef .tc main_v8] (by decide) (by decide)]
  rfl

variable (W : Dev nD → Valuation τ sig (Elt F))

/-- What every device brings to the ring. -/
abbrev xsOf : Xs F := fun c => W c main_v7
/-- The arrays after the ring: the result is the sum every device computes. -/
def ringW (c : Dev nD) : Valuation τ sig (Elt F) := Function.update (W c) (Proc.devRef .tc main_v8) (res (xsOf W))

/-- The record of the second launch. -/
def dat1 (c : Dev nD) : Dat τ (Elt F) ℕ ℕ UU ℕ cfg1 c where
  A w := w.elim0
  after w := w.elim0
  Φ t := if t.val = 0 then iprop(Pipeline.scopedRest cfg1.spec c ∗ (∃ r, prngReg c r) ∗ StableHlo.held (c : Thread nD τ) ringBufs (W c) ∗ ringX (xsOf W) c)
    else iprop(Pipeline.scopedRest cfg1.spec c ∗ (∃ r, prngReg c r) ∗ StableHlo.held (c : Thread nD τ) ringBufs (ringW W c) ∗ Pipeline.ownSems0 ownSem c
      ∗ semVal (cell .bar 0 c) 0)
  q w := w.elim0
  owed t := if t.val = 0 then O₀ c else 0

theorem dat1_first : (dat1 W c).Φ t1_0.castSucc
    = iprop(Pipeline.scopedRest cfg1.spec c ∗ (∃ r, prngReg c r) ∗ StableHlo.held (c : Thread nD τ) ringBufs (W c) ∗ ringX (xsOf W) c) := rfl
theorem dat1_last : (dat1 W c).Φ t1_0.succ
    = iprop(Pipeline.scopedRest cfg1.spec c ∗ (∃ r, prngReg c r) ∗ StableHlo.held (c : Thread nD τ) ringBufs (ringW W c) ∗ Pipeline.ownSems0 ownSem c
      ∗ semVal (cell .bar 0 c) 0) := rfl
theorem dat1_owed_first : (dat1 W c).owed t1_0.castSucc = O₀ c := rfl
theorem dat1_owed_last : (dat1 W c).owed t1_0.succ = 0 := rfl

theorem owesAt_intro {cfg : Cfg sig Λ₀} {c : Dev nD} (dat : Dat τ (Elt F) ℕ ℕ UU ℕ cfg c) (t : Fin (cfg.N + 1))
    (O : CellTallies nD τ sig ℕ) (h0 : dat.owed t = O) (hr : dat.recorded t = Set.univ) :
    (ow c O : sProp 𝕄) ⊢ dat.owesAt 0 t := by
  unfold Dat.owesAt Pipeline.owesWithin Dat.bound ow; rw [h0, hr]
  iintro ⟨%W, HO⟩; iexists W; isplitr; · ipureintro; exact fun _ _ => Or.inl trivial
  iexact HO
theorem owesAt_elim {cfg : Cfg sig Λ₀} {c : Dev nD} (dat : Dat τ (Elt F) ℕ ℕ UU ℕ cfg c) (t : Fin (cfg.N + 1))
    (O : CellTallies nD τ sig ℕ) (h0 : dat.owed t = O) : dat.owesAt 0 t ⊢ (ow c O : sProp 𝕄) := by
  unfold Dat.owesAt Pipeline.owesWithin ow; rw [h0]
  iintro ⟨%W, -, HO⟩; iexists W; iexact HO

/-- The scratch the ring finds: both lanes' buffers, and the first launch's staging buffers, which it leaves alone. -/
def staging : sProp 𝕄 := iprop((∃ f, ((c : Thread nD τ).loc cc0_stg0_0 ↦{fullShare} f)) ∗ (∃ f, ((c : Thread nD τ).loc cc0_stg1_0 ↦{fullShare} f))
  ∗ (∃ f, ((c : Thread nD τ).loc cc0_stg2_0 ↦{fullShare} f)) ∗ (∃ f, ((c : Thread nD τ).loc cc0_stg3_0 ↦{fullShare} f)))
theorem scratch_open : (Pipeline.scopedRest cfg1.spec c : sProp 𝕄) ⊢ iprop(staging c ∗ laneBuf c 0 ∗ laneBuf c 1) := by
  rw [show (Pipeline.scopedRest cfg1.spec c : sProp 𝕄) = _ from scopedRest1_eq c]
  unfold staging laneBuf
  iintro ⟨S0, S1, S2, S3, A, B, C⟩
  ihave HA := (a_lanes c).1 $$ A
  ihave HB := (b_lanes c).1 $$ B
  ihave HC := (c_lanes c).1 $$ C
  icases HA with ⟨A0, A1⟩
  icases HB with ⟨B0, B1⟩
  icases HC with ⟨C0, C1⟩
  iframe
theorem scratch_close : iprop(staging c ∗ laneBuf c 0 ∗ laneBuf c 1) ⊢ (Pipeline.scopedRest cfg1.spec c : sProp 𝕄) := by
  rw [show (Pipeline.scopedRest cfg1.spec c : sProp 𝕄) = _ from scopedRest1_eq c]
  unfold staging laneBuf
  iintro ⟨⟨S0, S1, S2, S3⟩, ⟨A0, B0, C0⟩, A1, B1, C1⟩
  isplitl [S0]; · iexact S0
  isplitl [S1]; · iexact S1
  isplitl [S2]; · iexact S2
  isplitl [S3]; · iexact S3
  isplitl [A0 A1]; · iapply (a_lanes c).2; isplitl [A0] <;> iassumption
  isplitl [B0 B1]; · iapply (b_lanes c).2; isplitl [B0] <;> iassumption
  iapply (c_lanes c).2; isplitl [C0] <;> iassumption

/-- One run of the ring on a device, from its arrays to its arrays. -/
theorem ring_wp : iprop(Pipeline.scopedRest cfg1.spec c ∗ StableHlo.held (c : Thread nD τ) ringBufs (W c) ∗ ringX (xsOf W) c ∗ ow c (O₀ c))
    ⊢ wpc c text (fun _ => iprop(Pipeline.scopedRest cfg1.spec c ∗ StableHlo.held (c : Thread nD τ) ringBufs (ringW W c) ∗ Pipeline.ownSems0 ownSem c
      ∗ semVal (cell .bar 0 c) 0 ∗ ow c 0)) := by
  have h8 : ringW W c main_v8 = res (xsOf W) := Function.update_self _ _ _
  have h7 : ringW W c main_v7 = xsOf W c := Function.update_of_ne (by decide) _ _
  rw [ringBufs_held, ringBufs_held, h8, h7, x_lanes (xsOf W) c]
  unfold ringX
  iintro ⟨Hs, ⟨⟨X0, X1⟩, HY⟩, ⟨⟨P0, R0⟩, ⟨P1, R1⟩, Hb, T0, T1, #Hl, ⟨%K, #HI⟩⟩, HO⟩
  ihave HS := (scratch_open c) $$ Hs
  icases HS with ⟨St, B0, B1⟩
  ihave HYY := (y_lanes c (W c main_v8)) $$ HY
  icases HYY with ⟨Y0, Y1⟩
  unfold wpc
  iapply (wp_fupd frame _ Set.univ)
  ihave HW := (text_wp (xsOf W) K c) $$ [P0 R0 P1 R1 Hb T0 T1 B0 B1 X0 X1 Y0 Y1 HO]
  · unfold lane0
    isplitr; · iexact HI
    isplitr; · iexact Hl
    isplitl [Hb]; · iexact Hb
    isplitl [P0 R0 T0 B0 X0 Y0]
    · isplitl [P0]; · iexact P0
      isplitl [R0]; · iexact R0
      isplitl [T0]; · iexact T0
      isplitl [B0]; · iexact B0
      isplitl [X0] <;> iassumption
    isplitl [P1 R1 T1 B1 X1 Y1]
    · isplitl [P1]; · iexact P1
      isplitl [R1]; · iexact R1
      isplitl [T1]; · iexact T1
      isplitl [B1]; · iexact B1
      isplitl [X1] <;> iassumption
    iexact HO
  unfold wpc
  iapply (wp_wand frame _ Set.univ) $$ HW
  iintro %a
  unfold laneEnd
  iintro ⟨Hb, ⟨P0, B0, X0, Y0⟩, ⟨P1, B1, X1, Y1⟩, HO⟩
  imod (cells_zero (xsOf W) K c) $$ [P0 P1] with Hz
  · isplitr; · iexact HI
    isplitl [P0] <;> iassumption
  ihave HIb := (inv_at (xsOf W) K .bar 0 c) $$ HI
  imod (cell_close ER (sch (xsOf W)) (g := cell .bar 0 c) (κ := K (cell .bar 0 c)) (R := 1) (Set.mem_univ _) (fun h => h) (fun r hr => duties_end (xsOf W) c 0 hr)) $$ [HIb Hb] with Hzb
  · isplitl [HIb] <;> iassumption
  imodintro
  isplitl [St B0 B1]
  · iapply (scratch_close c)
    isplitl [St]; · iexact St
    isplitl [B0] <;> iassumption
  isplitl [X0 X1 Y0 Y1]
  · isplitl [X0 X1]
    · isplitl [X0] <;> iassumption
    iapply (res_whole (xsOf W) c)
    isplitl [Y0] <;> iassumption
  isplitl [Hz]; · iexact Hz
  isplitl [Hzb]; · iexact Hzb
  iexact HO

/-- The ring's program at its one point is the text. -/
theorem row1 : defs₀ (F := F) .tc cfg1.body (cfg1.bodyArgs t1_0 (cfg1.slots t1_0)) = text := by
  unfold defs₀; rw [Defs.onTc_tc]; exact body_text

omit [FloatOps F] in
/-- The second launch stages nothing. -/
theorem no_windows {M : Type} [URA M] (Φ : Fin 0 → sProp M) : bigSep Finset.univ Φ = (BI.emp : sProp M) :=
  bigSep_univ_eq_bigSepL [] (by decide) (by decide) Φ

theorem obligation1 : BodyObligation (dat1 (F := F) W c) (defs₀ (F := F)) 𝒱₀ 0 Set.univ := fun t => by
  obtain rfl := fin_N1 t
  rw [no_windows, no_windows, row1, dat1_first, dat1_last]
  iintro ⟨⟨Hs, Hp, Hh, HR⟩, HO, -⟩
  ihave HO' := (owesAt_elim (dat1 W c) _ (O₀ c) (dat1_owed_first c W)) $$ HO
  ihave HW := (ring_wp c W) $$ [Hs Hh HR HO']
  · isplitl [Hs]; · iexact Hs
    isplitl [Hh]; · iexact Hh
    isplitl [HR] <;> iassumption
  unfold wpc
  iapply (wp_wand frame _ Set.univ) $$ HW
  iintro %a ⟨Hs, Hh, Hz, Hb, HO⟩
  isplitl [Hs Hp Hh Hz Hb]
  · isplitl [Hs]; · iexact Hs
    isplitl [Hp]; · iexact Hp
    isplitl [Hh]; · iexact Hh
    isplitl [Hz] <;> iassumption
  isplitl [HO]; · iapply (owesAt_intro (dat1 W c) t1_0.succ 0 (dat1_owed_last c W) rfl); iexact HO
  iempintro

end Cert.KernelIdeal.Ring

end
-- ==== Proof.Ring.Tokens.lean ====
module

public import proofs.«01_k».proof.Proof.Ring.Talk

@[expose] public section

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig ℕ (Elt F) ℕ UU ℕ

/-! ## The cells of the mesh -/

/-- Every device's barrier. -/
def barEmb : Dev nD ↪ GSem nD τ sig := ⟨fun c => cell .bar 0 c, fun _ _ h => congrArg (fun g : GSem nD τ sig => g.1.1) h⟩
/-- Every device's fourteen own cells. -/
def ownEmb : Dev nD × Own ↪ GSem nD τ sig :=
  ⟨fun p => ownCell p.1 p.2, fun _ _ h => Prod.ext (congrArg (fun g : GSem nD τ sig => g.1.1) h) (own_facts.inj (congrArg Prod.snd h))⟩
abbrev bars : Finset (GSem nD τ sig) := Finset.univ.map barEmb
abbrev owns' : Finset (GSem nD τ sig) := Finset.univ.map ownEmb

theorem own_ne_bar : ∀ o : Own, ownSem o ≠ .reg barS := by decide
theorem bars_owns : Disjoint bars owns' := by
  rw [Finset.disjoint_left]
  rintro g h h'
  obtain ⟨c, -, rfl⟩ := Finset.mem_map.mp h
  obtain ⟨p, -, e⟩ := Finset.mem_map.mp h'
  exact own_ne_bar p.2 (congrArg Prod.snd e)
/-- Every cell the ring names is one of them. -/
theorem cell_mem (k : Kd) (l : Fin 2) (c : Dev nD) : cell k l c ∈ bars ∪ owns' := by
  by_cases hk : k = .bar
  · subst hk
    exact Finset.mem_union_left _ (Finset.mem_map_of_mem barEmb (Finset.mem_univ c))
  · exact Finset.mem_union_right _ (Finset.mem_map_of_mem ownEmb (Finset.mem_univ ((c, (l, ⟨k, hk⟩)) : Dev nD × Own)))

/-! ## The duties of the mesh -/

/-- The two duties of every barrier. -/
def barTokEmb : Dev nD × Fin 2 ↪ GSem nD τ sig × ℕ × Fin 2 :=
  ⟨fun p => (cell .bar 0 p.1, 0, p.2), fun _ _ h => Prod.ext (congrArg (fun t : GSem nD τ sig × ℕ × Fin 2 => t.1.1.1) h) (congrArg (fun t : GSem nD τ sig × ℕ × Fin 2 => t.2.2) h)⟩
/-- One duty for every round of every own cell. -/
def ownTokEmb : (Dev nD × Own) × Fin 33 ↪ GSem nD τ sig × ℕ × Fin 2 :=
  ⟨fun p => (ownEmb p.1, p.2.val, 0), fun _ _ h => Prod.ext (ownEmb.injective (congrArg Prod.fst h)) (Fin.ext (congrArg (fun t : GSem nD τ sig × ℕ × Fin 2 => t.2.1) h))⟩
abbrev barToks : Finset (GSem nD τ sig × ℕ × Fin 2) := Finset.univ.map barTokEmb
abbrev ownToks : Finset (GSem nD τ sig × ℕ × Fin 2) := Finset.univ.map ownTokEmb
theorem toks_disjoint : Disjoint barToks ownToks := by
  rw [Finset.disjoint_left]
  rintro g h h'
  obtain ⟨p, -, rfl⟩ := Finset.mem_map.mp h
  obtain ⟨q, -, e⟩ := Finset.mem_map.mp h'
  exact own_ne_bar q.1.2 (congrArg (fun t : GSem nD τ sig × ℕ × Fin 2 => t.1.2) e)

/-- A device's duties of one kind and lane over the thirty-one steps. -/
def stepToks (k : Kd) (l : Fin 2) (c : Dev nD) : sProp 𝕄 := bigSep (Finset.Ico 0 31) fun r => dutyTok ER (cell k l c) r 0
/-- Its duties of the lane's copies: one for each step, one before and one after. -/
def copyToks (l : Fin 2) (c : Dev nD) : sProp 𝕄 :=
  iprop((bigSep (Finset.Ico 0 31) fun r => dutyTok ER (cell .cp l c) (r + 1) 0) ∗ dutyTok ER (cell .cp l c) 0 0 ∗ dutyTok ER (cell .cp l c) 32 0)
/-- A lane's duties of a device's own cells. -/
def laneOwn (l : Fin 2) (c : Dev nD) : sProp 𝕄 :=
  iprop(stepToks .sRs l c ∗ stepToks .rRs l c ∗ copyToks l c ∗ stepToks .aRs l c ∗ stepToks .sAg l c ∗ stepToks .rAg l c ∗ stepToks .aAg l c)

omit [FloatOps F] in
theorem stepToks_of (k : Kd) (l : Fin 2) (c : Dev nD) : (bigSep (Finset.range 33) fun r => dutyTok ER (cell k l c) r 0 : sProp 𝕄) ⊢ stepToks k l c :=
  bigSep_subset fun r hr => Finset.mem_range.mpr ((Finset.mem_Ico.mp hr).2.trans (by decide))
omit [FloatOps F] in
theorem copies_of (l : Fin 2) (c : Dev nD) : (bigSep (Finset.range 33) fun r => dutyTok ER (cell .cp l c) r 0 : sProp 𝕄) ⊢ copyToks l c := by
  have hs : Finset.range 33 = insert 32 (insert 0 ((Finset.Ico 0 31).map ⟨(· + 1), fun a b h => Nat.succ.inj h⟩)) := by decide
  rw [hs, bigSep_insert (by decide), bigSep_insert (by decide), bigSep_map]
  unfold copyToks
  show iprop(dutyTok ER (cell .cp l c) 32 0 ∗ dutyTok ER (cell .cp l c) 0 0 ∗ bigSep (Finset.Ico 0 31) fun r => dutyTok ER (cell .cp l c) (r + 1) 0) ⊢ _
  iintro ⟨H1, H2, H3⟩
  isplitl [H3]; · iexact H3
  isplitl [H2] <;> iassumption

omit [FloatOps F] in
theorem rounds_fin (c : Dev nD) (o : Own) : (bigSep Finset.univ fun r : Fin 33 => dutyTok ER (ownTokEmb ((c, o), r)).1 (ownTokEmb ((c, o), r)).2.1 (ownTokEmb ((c, o), r)).2.2 : sProp 𝕄)
    = bigSep (Finset.range 33) fun r => dutyTok ER (ownCell c o) r 0 := by
  rw [show Finset.range 33 = Finset.univ.map (Fin.valEmbedding (n := 33)) from by decide, bigSep_map]; rfl
omit [FloatOps F] in
/-- All duties of the own cells, device by device and lane by lane. -/
theorem ownToks_eq : (bigSep ownToks fun x => dutyTok ER x.1 x.2.1 x.2.2 : sProp 𝕄)
    ⊢ iprop((bigSep Finset.univ fun c : Dev nD => laneOwn 0 c) ∗ bigSep Finset.univ fun c : Dev nD => laneOwn 1 c) := by
  rw [bigSep_map, bigSep_univ_prod, bigSep_univ_prod, ← bigSep_sep']
  refine bigSep_mono fun c _ => ?_
  simp only [rounds_fin]
  rw [bigSep_own, bigSep_kinds, bigSep_kinds]
  have h (l : Fin 2) := BIClass.sep_mono (stepToks_of (F := F) .sRs l c) (BIClass.sep_mono (stepToks_of (F := F) .rRs l c) (BIClass.sep_mono (copies_of (F := F) l c)
    (BIClass.sep_mono (stepToks_of (F := F) .aRs l c) (BIClass.sep_mono (stepToks_of (F := F) .sAg l c) (BIClass.sep_mono (stepToks_of (F := F) .rAg l c) (stepToks_of (F := F) .aAg l c))))))
  exact BIClass.sep_mono (h 0) (h 1)
omit [FloatOps F] in
/-- All duties of the barriers. -/
theorem barToks_eq : (bigSep barToks fun x => dutyTok ER x.1 x.2.1 x.2.2 : sProp 𝕄)
    = iprop((bigSep Finset.univ fun c : Dev nD => dutyTok ER (cell .bar 0 c) 0 0) ∗ bigSep Finset.univ fun c : Dev nD => dutyTok ER (cell .bar 1 c) 0 1) := by
  rw [bigSep_map, bigSep_univ_prod, ← bigSep_sep']
  exact bigSep_congr fun c _ => BI.bigSep_fin_two _

/-- A lane's duties as the device that pays them holds them. -/
def lanePay (l : Fin 2) (c : Dev nD) : sProp 𝕄 :=
  iprop(stepToks .sRs l c ∗ stepToks .rRs l (down l c) ∗ copyToks l c ∗ stepToks .aRs l (up l c) ∗ stepToks .sAg l c ∗ stepToks .rAg l (down l c) ∗ stepToks .aAg l (up l c)
    ∗ dutyTok ER (cell .bar l (up l c)) 0 l)

omit [FloatOps F] in
/-- Every duty goes to the device that pays it: a transfer's arrival to the sender, an acknowledgement's and the barrier's to the receiver. -/
theorem lane_deal (l : Fin 2) : iprop((bigSep Finset.univ fun c : Dev nD => (laneOwn l c : sProp 𝕄)) ∗ bigSep Finset.univ fun c : Dev nD => dutyTok ER (cell .bar l c) 0 l)
    ⊢ bigSep Finset.univ fun c : Dev nD => lanePay l c := by
  unfold laneOwn lanePay
  simp only [bigSep_sep']
  rw [bigSep_univ_equiv (ringE l) fun c : Dev nD => (stepToks .rRs l c : sProp 𝕄), bigSep_univ_equiv (ringE l) fun c : Dev nD => (stepToks .rAg l c : sProp 𝕄),
    bigSep_univ_equiv (ringE l).symm fun c : Dev nD => (stepToks .aRs l c : sProp 𝕄), bigSep_univ_equiv (ringE l).symm fun c : Dev nD => (stepToks .aAg l c : sProp 𝕄),
    bigSep_univ_equiv (ringE l).symm fun c : Dev nD => (dutyTok ER (cell .bar l c) 0 l : sProp 𝕄)]
  iintro ⟨⟨H1, H2, H3, H4, H5, H6, H7⟩, H8⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The credit of the mesh -/

/-- What a lane of a device is owed over the steps: arrivals and acknowledgements. -/
def laneCred (l : Fin 2) (c : Dev nD) : sProp 𝕄 :=
  iprop((bigSep (Finset.Ico 0 31) fun s => cred (tallyAt (cell .rRs l c) s N)) ∗ (bigSep (Finset.Ico 0 31) fun s => cred (tallyAt (cell .aRs l c) s 1))
    ∗ (bigSep (Finset.Ico 0 31) fun s => cred (tallyAt (cell .rAg l c) s N)) ∗ bigSep (Finset.Ico 0 31) fun s => cred (tallyAt (cell .aAg l c) s 1))

/-- A lane's duties and credit are what the lane spends. -/
theorem laneTok_intro (l : Fin 2) (c : Dev nD) : iprop(lanePay l c ∗ laneCred l c) ⊢ (laneTok c l : sProp 𝕄) := by
  unfold lanePay laneCred laneTok stepToks copyToks
  rw [show (rsTok c l : ℕ → sProp 𝕄) = fun s => rsTok c l s from rfl, show (agTok c l : ℕ → sProp 𝕄) = fun s => agTok c l s from rfl]
  unfold rsTok agTok
  simp only [bigSep_sep']
  iintro ⟨⟨H1, H2, ⟨H3, H4, H5⟩, H6, H7, H8, H9, H10⟩, C1, C2, C3, C4⟩
  isplitl [H1 H2 H3 H6 C1 C2]
  · isplitl [H1]; · iexact H1
    isplitl [H2]; · iexact H2
    isplitl [H3]; · iexact H3
    isplitl [H6]; · iexact H6
    isplitl [C1] <;> iassumption
  isplitl [H7 H8 H9 C3 C4]
  · isplitl [H7]; · iexact H7
    isplitl [H8]; · iexact H8
    isplitl [H9]; · iexact H9
    isplitl [C3] <;> iassumption
  isplitl [H4]; · iexact H4
  isplitl [H5]; · iexact H5
  iexact H10

omit [FloatOps F] in
/-- The credit of one step of one phase. -/
theorem step_cred (kr ka : Kd) (s : ℕ) (c : Dev nD) : (Pipeline.launchCred (fun d => oStep kr ka d s) c : sProp 𝕄)
    ⊢ iprop((cred (tallyAt (cell kr 0 c) s N) ∗ cred (tallyAt (cell ka 0 c) s 1)) ∗ cred (tallyAt (cell kr 1 c) s N) ∗ cred (tallyAt (cell ka 1 c) s 1)) := by
  unfold oStep
  rw [Pipeline.launchCred_add, Pipeline.launchCred_add, Pipeline.launchCred_add]
  have hr (l : Fin 2) := Pipeline.launchCred_tallyAt (Val := Elt F) (Name := ℕ) (U := UU) (Lvl := ℕ) (τ := τ) (semOf kr l) (down l) (up l) (down_up l) (up_down l) s N c
  have ha (l : Fin 2) := Pipeline.launchCred_tallyAt (Val := Elt F) (Name := ℕ) (U := UU) (Lvl := ℕ) (τ := τ) (semOf ka l) (up l) (down l) (up_down l) (down_up l) s 1 c
  iintro ⟨⟨⟨A1, A0⟩, R1⟩, R0⟩
  isplitl [R0 A0]
  · isplitl [R0]
    · iapply (hr 0); iexact R0
    · iapply (ha 0); iexact A0
  isplitl [R1]
  · iapply (hr 1); iexact R1
  · iapply (ha 1); iexact A1

omit [FloatOps F] in
/-- The credit of one phase. -/
theorem left_cred (kr ka : Kd) (c : Dev nD) : (Pipeline.launchCred (fun d => oLeft kr ka d 0) c : sProp 𝕄)
    ⊢ iprop(((bigSep (Finset.Ico 0 31) fun s => cred (tallyAt (cell kr 0 c) s N)) ∗ bigSep (Finset.Ico 0 31) fun s => cred (tallyAt (cell ka 0 c) s 1))
      ∗ (bigSep (Finset.Ico 0 31) fun s => cred (tallyAt (cell kr 1 c) s N)) ∗ bigSep (Finset.Ico 0 31) fun s => cred (tallyAt (cell ka 1 c) s 1)) := by
  unfold oLeft
  rw [Pipeline.launchCred_sum, ← bigSep_sep', ← bigSep_sep', ← bigSep_sep']
  exact bigSep_mono fun s _ => step_cred kr ka s c

omit [FloatOps F] in
/-- The whole credit of a device at launch. -/
theorem launch_cred (c : Dev nD) : (Pipeline.launchCred O₀ c : sProp 𝕄)
    ⊢ iprop(cred (tallyAt (cell .bar 0 c) 0 2) ∗ laneCred 0 c ∗ laneCred 1 c) := by
  have h (l : Fin 2) : (Pipeline.launchCred (fun d => tallyAt (cell .bar 0 (up l d)) 0 1) c : sProp 𝕄) ⊢ cred (tallyAt (cell .bar 0 c) 0 1) :=
    Pipeline.launchCred_tallyAt (semOf .bar 0) (up l) (down l) (up_down l) (down_up l) 0 1 c
  rw [show (O₀ : Dev nD → CellTallies nD τ sig ℕ) = fun d => oLeft .rAg .aAg d 0 + oLeft .rRs .aRs d 0 + tallyAt (cell .bar 0 (up 1 d)) 0 1 + tallyAt (cell .bar 0 (up 0 d)) 0 1
    from funext fun d => by unfold O₀; rw [barR_eq, barL_eq],
    Pipeline.launchCred_add, Pipeline.launchCred_add, Pipeline.launchCred_add]
  unfold laneCred
  iintro ⟨⟨⟨G, S⟩, B1⟩, B0⟩
  ihave G' := (left_cred (F := F) .rAg .aAg c) $$ G
  ihave S' := (left_cred (F := F) .rRs .aRs c) $$ S
  icases G' with ⟨⟨G1, G2⟩, G3, G4⟩
  icases S' with ⟨⟨S1, S2⟩, S3, S4⟩
  isplitl [B0 B1]
  · iapply (Entails.of_eq (congrArg cred (tallyAt_add (cell .bar 0 c) (0 : ℕ) 1 1)) : _ ⊢ (cred (tallyAt (cell .bar 0 c) 0 2) : sProp 𝕄))
    iapply (cred_add _ _).2
    isplitl [B0]
    · iapply (h 0); iexact B0
    · iapply (h 1); iexact B1
  isplitl [S1 S2 G1 G2]
  · isplitl [S1]; · iexact S1
    isplitl [S2]; · iexact S2
    isplitl [G1] <;> iassumption
  isplitl [S3]; · iexact S3
  isplitl [S4]; · iexact S4
  isplitl [G3] <;> iassumption

end Cert.KernelIdeal.Ring

end
-- ==== Proof.Ring.Parts.lean ====
module

public import proofs.«01_k».proof.Proof.Ring.Tokens

@[expose] public section

set_option maxRecDepth 16384

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation HostSeg RegionSeg Seg)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The arrays through the program -/

/-- After the conversion. -/
def W1 (c : Dev nD) : Valuation τ sig (Elt F) := Pipeline.afterRegion (dat0 m c) (V0 m c)
/-- After the host's product and scale. -/
def W2 (c : Dev nD) : Valuation τ sig (Elt F) := StableHlo.after hostOps1 (W1 m c)
/-- After the ring. -/
def W3 (c : Dev nD) : Valuation τ sig (Elt F) := ringW (W2 m) c
/-- What the devices sum. -/
def Xm : Xs F := xsOf (W2 m)

def pdats : (p : Fin 2) → (c : Dev nD) → Dat τ (Elt F) ℕ ℕ UU ℕ (cfgs p) c
  | 0 => dat0 m
  | 1 => dat1 (W2 m)

/-! ## The three parts -/

/-- What rides beside the arrays up to the ring. -/
def ride (c : Dev nD) : sProp 𝕄 := iprop(ow c (O₀ c) ∗ (∃ r, prngReg c r) ∗ ringK (Xm m) c)

theorem mem_L_zero (c : Dev nD) (sm : SemLoc sig) : 0 ∈ L ((c : Thread nD τ), sm) := mem_L c sm (by decide)
theorem lv_staging : ∀ (c : Dev nD) (w : Fin cfg0.W) (s : Fin (cfg0.win w).nbuf), lv ((c : Thread nD τ), .dma ((cfg0.win w).sem s)) 0 ≤ 0 := by
  intro c w s
  have h : ∀ (w : Fin cfg0.W) (s : Fin (cfg0.win w).nbuf), kindOf (.dma ((cfg0.win w).sem s)) = none := by decide
  unfold lv
  rw [h w s]

set_option backward.isDefEq.respectTransparency.types false in
/-- The conversion as a part of the program. -/
def reg0 : RegionSeg (pcfgs (F := F)) adm (pdats m) 0 defs₀ 𝒱₀ L lv 0 :=
  RegionSeg.ofHeldIn (pcfgs (F := F)) adm (pdats m) 0 defs₀ 𝒱₀ L lv 0 O₀ (Pipeline.ucRefs τ sig) (fun c => iprop(∃ r, prngReg c r)) (fun c => iprop(∃ r, prngReg c r))
    launch0.toP rfl (fun c => (obligation0 m c).loose) (fun _ _ => rfl) (fun _ => rfl) (fun c => (dat0 m c).share_full fun _ => rfl)
    (fun _ => .rfl) (fun _ => .rfl) (fun _ => 0) ⟨fun c _ _ => mem_L_zero c _, lv_staging, fun c g i h => above_O₀ c g i h⟩ (ringK (Xm m)) (V0 m) (fun _ _ => rfl)

/-- The host's operations as a part of the program. -/
def hostSeg : HostSeg (Ix := ℕ) (Name := ℕ) (U := UU) (Lvl := ℕ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) (ride m)

theorem ring_owed (c : Dev nD) (t : Fin (cfg1.N + 1)) (g : GSem nD τ sig) (i : ℕ) (h : 0 < (dat1 (W2 m) c).owed t g i) : i ∈ L g ∧ 0 < lv g i := by
  have e : (dat1 (W2 m) c).owed t = if t.val = 0 then O₀ c else 0 := rfl
  rw [e] at h
  split at h
  · exact above_O₀ c g i h
  · exact absurd h (Nat.lt_irrefl 0)

theorem ringBufs_sub : ringBufs ⊆ Pipeline.ucRefs τ sig := by decide
theorem ringW_rest (c : Dev nD) : ∀ b ∈ Pipeline.ucRefs τ sig \ ringBufs, W3 m c b = W2 m c b := fun b hb =>
  Function.update_of_ne (fun e => (Finset.mem_sdiff.mp hb).2 (by rw [e]; decide)) _ _

set_option backward.isDefEq.respectTransparency.types false in
/-- The ring as a part of the program. -/
def reg1 : RegionSeg (pcfgs (F := F)) adm (pdats m) 0 defs₀ 𝒱₀ L lv 1 :=
  RegionSeg.ofTalk (pcfgs (F := F)) adm (pdats m) 0 defs₀ 𝒱₀ L lv 1 ownSem own_facts ringBufs (Pipeline.ucRefs τ sig) ringBufs_sub
    launch1.toP rfl (fun c => (obligation1 c (W2 m)).loose) (fun _ => 0) O₀
    (fun c => (zero_add (O₀ c)).symm) (fun _ => rfl) (fun _ => rfl) (fun _ w => w.elim0)
    (W2 m) (W3 m) (ringW_rest m) (ringK (Xm m)) (fun c => semVal (cell .bar 0 c) 0) (ringX (Xm m)) (fun c => semVal (cell .bar 0 c) 0)
    (ring_open (Xm m)) (fun _ => .rfl) (fun _ => .rfl) (fun c => by iintro H; imodintro; iexact H) (fun _ => 0)
    ⟨fun _ w => w.elim0, fun _ w => w.elim0, fun c t g i h => ring_owed m c t g i h⟩ (fun _ => iprop(emp)) (fun _ w => w.elim0) (fun _ w => w.elim0)

/-- The program is its three parts. -/
def parts : List (Seg (pcfgs (F := F)) adm (pdats m) 0 defs₀ 𝒱₀ L lv) := [.region (reg0 m), .host (hostSeg m), .region (reg1 m)]

/-- The arrays the conversion works on. -/
abbrev castRefs : Finset (DevRef τ sig) := Pipeline.arrRefs (τ := τ) (pcfgs (F := F) 0).spec
theorem castRefs_sub : castRefs (F := F) ⊆ Pipeline.ucRefs τ sig := Pipeline.arrRefs_sub_ucRefs (pcfgs (F := F) 0).spec launch0.win.arr_unscoped

theorem reg0_pre (c : Dev nD) : iprop(StableHlo.held (c : Thread nD τ) (Pipeline.ucRefs τ sig) (V0 m c) ∗ ride m c) ⊢ (reg0 m).pre c := by
  show _ ⊢ iprop(StableHlo.held (c.tc : Thread nD τ) (castRefs (F := F)) (V0 m c) ∗ (∃ r, prngReg c r)
    ∗ (StableHlo.held (c.tc : Thread nD τ) (Pipeline.ucRefs τ sig \ castRefs (F := F)) (V0 m c) ∗ ringK (Xm m) c) ∗ ∃ Wd, owes (c : Thread nD τ) (O₀ c) Wd)
  unfold ride ow
  rw [StableHlo.held_sub_split (c.tc : Thread nD τ) (castRefs_sub (F := F)) (V0 m c)]
  iintro ⟨⟨Ha, Hu⟩, HO, HX, HR⟩
  isplitl [Ha]; · iexact Ha
  isplitl [HX]; · iexact HX
  isplitl [Hu HR]
  · isplitl [Hu] <;> iassumption
  iexact HO

theorem reg0_post (c : Dev nD) : (reg0 m).post c ⊢ iprop(StableHlo.held (c : Thread nD τ) (Pipeline.ucRefs τ sig) (W1 m c) ∗ ride m c) := by
  show iprop(StableHlo.held (c.tc : Thread nD τ) (castRefs (F := F)) (W1 m c) ∗ (∃ r, prngReg c r)
    ∗ (StableHlo.held (c.tc : Thread nD τ) (Pipeline.ucRefs τ sig \ castRefs (F := F)) (V0 m c) ∗ ringK (Xm m) c) ∗ ∃ Wd, owes (c : Thread nD τ) (O₀ c) Wd) ⊢ _
  unfold ride ow
  rw [StableHlo.held_sub_split (c.tc : Thread nD τ) (castRefs_sub (F := F)) (W1 m c),
    StableHlo.held_congr (c.tc : Thread nD τ) (S := Pipeline.ucRefs τ sig \ castRefs (F := F)) (V := W1 m c) (V' := V0 m c)
      (Pipeline.afterRegion_off (dat0 m c) (V0 m c) (Pipeline.ucRefs τ sig))]
  iintro ⟨Ha, HX, ⟨Hu, HR⟩, HO⟩
  isplitl [Ha Hu]
  · isplitl [Ha] <;> iassumption
  isplitl [HO]; · iexact HO
  isplitl [HX] <;> iassumption

theorem no_arrays (c : Dev nD) (V : Valuation τ sig (Elt F)) :
    (StableHlo.held (c.tc : Thread nD τ) (Pipeline.arrRefs (τ := τ) (pcfgs (F := F) 1).spec) V : sProp 𝕄) = BI.emp := by
  have : Pipeline.arrRefs (τ := τ) (pcfgs (F := F) 1).spec = ∅ := by
    unfold Pipeline.arrRefs
    haveI : IsEmpty (Fin (pcfgs (F := F) 1).W) := inferInstanceAs (IsEmpty (Fin 0))
    rw [Finset.map_eq_empty, Finset.image_eq_empty, Finset.univ_eq_empty]
  rw [this]
  exact BI.bigSep_empty

/-- What every device ends with. -/
def last (c : Dev nD) : sProp 𝕄 := iprop(StableHlo.held (c : Thread nD τ) (Pipeline.ucRefs τ sig) (W3 m c) ∗ semVal (cell .bar 0 c) 0)

theorem reg1_pre (c : Dev nD) : iprop(StableHlo.held (c : Thread nD τ) (Pipeline.ucRefs τ sig) (W2 m c) ∗ ride m c) ⊢ (reg1 m).pre c := by
  show _ ⊢ iprop(StableHlo.held (c.tc : Thread nD τ) (Pipeline.arrRefs (τ := τ) (pcfgs (F := F) 1).spec) (W2 m c) ∗ (∃ r, prngReg c r)
    ∗ (StableHlo.held (c.tc : Thread nD τ) (Pipeline.ucRefs τ sig) (W2 m c) ∗ emp) ∗ ringK (Xm m) c ∗ ∃ Wd, owes (c : Thread nD τ) (0 + O₀ c) Wd)
  rw [no_arrays, zero_add]
  unfold ride ow
  iintro ⟨Hh, HO, Hp, HK⟩
  isplitr; · iempintro
  isplitl [Hp]; · iexact Hp
  isplitl [Hh]
  · isplitl [Hh]; · iexact Hh
    iempintro
  isplitl [HK]; · iexact HK
  iexact HO

theorem reg1_post (c : Dev nD) : (reg1 m).post c ⊢ iprop(last m c ∗ ∃ Wd, owes (c : Thread nD τ) (0 : CellTallies nD τ sig ℕ) Wd) := by
  show iprop(StableHlo.held (c.tc : Thread nD τ) (Pipeline.arrRefs (τ := τ) (pcfgs (F := F) 1).spec) (W3 m c) ∗ (∃ r, prngReg c r)
    ∗ (StableHlo.held (c.tc : Thread nD τ) (Pipeline.ucRefs τ sig) (W3 m c) ∗ emp) ∗ semVal (cell .bar 0 c) 0 ∗ ∃ Wd, owes (c : Thread nD τ) (0 : CellTallies nD τ sig ℕ) Wd) ⊢ _
  rw [no_arrays]
  unfold last
  iintro ⟨-, -, ⟨Hh, -⟩, Hb, HO⟩
  isplitl [Hh Hb]
  · isplitl [Hh] <;> iassumption
  iexact HO

end Cert.KernelIdeal.Ring

end
-- ==== Proof.Ring.Launch.lean ====
module

public import proofs.«01_k».proof.Proof.Ring.Parts

@[expose] public section

set_option maxRecDepth 16384

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation HostSeg RegionSeg Seg)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The launch -/

/-- The launch's ghost state. -/
def u₀ : UU :=
  (initOf (Pipeline.cells cfgs cellOf_inj) (Pipeline.launchToks cfgs cellOf_inj), launchOf bars owns' (barToks ∪ ownToks))

/-- All of a resource on one device. -/
def onDev (c₀ : Dev nD) (R : sProp 𝕄) (c : Dev nD) : sProp 𝕄 := if c = c₀ then R else iprop(emp)
omit [FloatOps F] in
theorem bigSep_onDev (c₀ : Dev nD) (R : sProp 𝕄) : bigSep Finset.univ (onDev c₀ R) = R := by
  rw [bigSep_univ_at _ c₀, bigSep_congr (s := Finset.univ.erase c₀) (Ψ := fun _ => (BI.emp : sProp 𝕄))
      fun c hc => by unfold onDev; rw [if_neg (Finset.ne_of_mem_erase hc)]; rfl, BI.bigSep_emp_const]
  unfold onDev; rw [if_pos rfl]
  exact BI.equiv_iff.mp Idealize.SL.BI.sep_emp
def seed : Dev nD → sProp 𝕄 := onDev 0 (BI.own (ER (launchOf bars owns' (barToks ∪ ownToks))))

/-- What every device may consult: every cell's invariant, and every barrier at its start. -/
def records (K : GSem nD τ sig → ℕ) : sProp 𝕄 :=
  iprop((bigSep (bars ∪ owns') fun g => cellInv ER (sch (Xm m)) (K g) g) ∗ bigSep bars fun g => reached ER g 0)
instance records_persistent (K : GSem nD τ sig → ℕ) : BI.Persistent (records m K) := by unfold records; infer_instance
theorem records_invs (K : GSem nD τ sig → ℕ) : (bigSep (bars ∪ owns') fun g => (cellInv ER (sch (Xm m)) (K g) g : sProp 𝕄)) ⊢ invs (Xm m) K :=
  bigSep_intro_persistent fun p _ => bigSep_elim (Φ := fun g => cellInv ER (sch (Xm m)) (K g) g) (cell_mem p.1 p.2.1 p.2.2)
omit [FloatOps F] in
theorem bar_reached (c : Dev nD) : (bigSep bars fun g => (reached ER g 0 : sProp 𝕄)) ⊢ reached ER (cell .bar 0 c) 0 :=
  bigSep_elim (Φ := fun g => reached ER g 0) (Finset.mem_map_of_mem barEmb (Finset.mem_univ c))

/-- A device's part of the ghost state. -/
def share (c : Dev nD) : sProp 𝕄 :=
  iprop(atPos ER (cell .bar 0 c) 0 ∅ 0 ∗ (bigSep Finset.univ fun o : Own => openTok ER (ownCell c o)) ∗ lanePay 0 c ∗ lanePay 1 c)
/-- The rest of what a device is launched with. -/
def bundle (c : Dev nD) : sProp 𝕄 :=
  iprop(StableHlo.held (c : Thread nD τ) (Pipeline.ucRefs τ sig) (V0 m c) ∗ (cred (tallyAt (cell .bar 0 c) 0 2) ∗ laneCred 0 c ∗ laneCred 1 c)
    ∗ ow c (O₀ c) ∗ ∃ r, prngReg c r)

theorem start_intro (K : GSem nD τ sig → ℕ) (c : Dev nD) : iprop(records m K ∗ (share c ∗ bundle m c))
    ⊢ iprop(StableHlo.held (c : Thread nD τ) (Pipeline.ucRefs τ sig) (V0 m c) ∗ ride m c) := by
  unfold records share bundle ride ringK ring0 bar0
  iintro ⟨⟨#HI, #HR⟩, ⟨Ha, Ho, P0, P1⟩, Hh, ⟨Hb, C0, C1⟩, HO, Hp⟩
  isplitl [Hh]; · iexact Hh
  isplitl [HO]; · iexact HO
  isplitl [Hp]; · iexact Hp
  isplitl [Ha Ho P0 P1 Hb C0 C1]
  · isplitl [Ho]; · iexact Ho
    isplitl [Ha Hb]
    · isplitl [Hb]; · iexact Hb
      isplitl [Ha]; · iexact Ha
      isplitr
      · iapply (bar_reached (F := F) (up 0 c)); iexact HR
      · iapply (bar_reached (F := F) (up 1 c)); iexact HR
    isplitl [P0 C0]
    · iapply (laneTok_intro (F := F) 0 c); isplitl [P0] <;> iassumption
    · iapply (laneTok_intro (F := F) 1 c); isplitl [P1] <;> iassumption
  iexists K
  iapply (records_invs m K); iexact HI

omit [FloatOps F] in
/-- Every duty of the mesh, dealt to the devices that pay them. -/
theorem deal : (bigSep (barToks ∪ ownToks) fun x => dutyTok ER x.1 x.2.1 x.2.2 : sProp 𝕄) ⊢ bigSep Finset.univ fun c : Dev nD => iprop(lanePay 0 c ∗ lanePay 1 c) := by
  have hu : (bigSep (barToks ∪ ownToks) fun x => dutyTok ER x.1 x.2.1 x.2.2 : sProp 𝕄)
      = iprop((bigSep barToks fun x => dutyTok ER x.1 x.2.1 x.2.2) ∗ bigSep ownToks fun x => dutyTok ER x.1 x.2.1 x.2.2) := bigSep_union toks_disjoint
  rw [hu, barToks_eq, bigSep_sep']
  iintro ⟨⟨B0, B1⟩, Ho⟩
  ihave H := (ownToks_eq (F := F)) $$ Ho
  icases H with ⟨H0, H1⟩
  isplitl [B0 H0]
  · iapply (lane_deal (F := F) 0); isplitl [H0] <;> iassumption
  · iapply (lane_deal (F := F) 1); isplitl [H1] <;> iassumption

omit [FloatOps F] in
theorem unscopedSems_eq (c : Dev nD) : (unscopedSems0 c : sProp 𝕄) = semVal (cell .bar 0 c) 0 := by
  unfold unscopedSems0
  rw [show (Finset.univ.filter fun sm : SemLoc sig => ¬ sm.isScoped .tc) = {semOf .bar 0} from by decide, BI.bigSep_singleton]

omit [FloatOps F] in
/-- Two families over the devices, as one of pairs. -/
theorem zip {Φ Ψ : Dev nD → sProp (MT nD τ sig ℕ (Elt F) ℕ UU ℕ)} :
    iprop(bigSep Finset.univ Φ ∗ bigSep Finset.univ Ψ) ⊢ bigSep Finset.univ fun c => iprop(Φ c ∗ Ψ c) :=
  Entails.of_eq (bigSep_sep' Finset.univ Φ Ψ).symm
omit [FloatOps F] in
/-- A family of pairs, as two. -/
theorem unzip {Φ Ψ : Dev nD → sProp (MT nD τ sig ℕ (Elt F) ℕ UU ℕ)} :
    (bigSep Finset.univ fun c => iprop(Φ c ∗ Ψ c)) ⊢ iprop(bigSep Finset.univ Φ ∗ bigSep Finset.univ Ψ) :=
  Entails.of_eq (bigSep_sep' Finset.univ Φ Ψ)

omit [FloatOps F] in
theorem bars_start : bigSep Finset.univ (fun c : Dev nD => (semVal (cell .bar 0 c) 0 : sProp 𝕄)) ⊢ bigSep bars (fun g => (semVal g 0 : sProp 𝕄)) :=
  Entails.of_eq (bigSep_map (s := Finset.univ) barEmb (Φ := fun g : GSem nD τ sig => (semVal g 0 : sProp 𝕄))).symm
omit [FloatOps F] in
theorem bars_at : bigSep bars (fun g => (atPos ER g 0 ∅ 0 : sProp 𝕄)) ⊢ bigSep Finset.univ (fun c : Dev nD => (atPos ER (cell .bar 0 c) 0 ∅ 0 : sProp 𝕄)) :=
  Entails.of_eq (bigSep_map (s := Finset.univ) barEmb (Φ := fun g : GSem nD τ sig => (atPos ER g 0 ∅ 0 : sProp 𝕄)))
omit [FloatOps F] in
theorem owns_open : bigSep owns' (fun g => (openTok ER g : sProp 𝕄))
      ⊢ bigSep Finset.univ (fun c : Dev nD => bigSep Finset.univ fun o : Own => openTok ER (ownCell c o)) :=
  Entails.of_eq (by
    unfold owns'
    rw [bigSep_map, bigSep_univ_prod]
    rfl)
omit [FloatOps F] in
theorem seed_at : bigSep Finset.univ (seed (F := F)) ⊢ BI.own (ER (launchOf bars owns' (barToks ∪ ownToks))) := by
  unfold seed
  exact Entails.of_eq (bigSep_onDev (F := F) 0 _)

theorem bundle_intro (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ seed c)
      ⊢ (iprop(bundle m c ∗ (semVal (cell .bar 0 c) 0 ∗ seed c)) : sProp 𝕄) := by
  rw [show (unscopedBufs c (fun b => m ((c : Thread nD τ).loc b)) : sProp 𝕄) = StableHlo.held (c : Thread nD τ) (Pipeline.ucRefs τ sig) (V0 m c) from
    Pipeline.unscopedBufs_held c (V0 m c), unscopedSems_eq]
  unfold bundle ow
  iintro ⟨Hh, Hus, HO, Hcr, Hp, HG⟩
  ihave Hc := (launch_cred (F := F) c) $$ Hcr
  isplitl [Hh Hc HO Hp]
  · isplitl [Hh]; · iexact Hh
    isplitl [Hc]; · iexact Hc
    isplitl [HO]; · iexists ∅; iexact HO
    iexists (ρ c); iexact Hp
  isplitl [Hus] <;> iassumption

omit [FloatOps F] in
theorem share_intro : iprop(bigSep bars (fun g => (atPos ER g 0 ∅ 0 : sProp 𝕄)) ∗ bigSep owns' (fun g => (openTok ER g : sProp 𝕄))
      ∗ bigSep (barToks ∪ ownToks) fun x => dutyTok ER x.1 x.2.1 x.2.2) ⊢ bigSep Finset.univ (share (F := F)) := by
  unfold share
  iintro ⟨Hat, Hopen, Htok⟩
  iapply zip; isplitl [Hat]; · iapply (bars_at (F := F)); iexact Hat
  iapply zip; isplitl [Hopen]; · iapply (owns_open (F := F)); iexact Hopen
  iapply (deal (F := F)); iexact Htok

/-- The cells of the mesh, funded and dealt. -/
theorem fund : iprop(bigSep Finset.univ (fun c : Dev nD => (semVal (cell .bar 0 c) 0 : sProp 𝕄)) ∗ bigSep Finset.univ (seed (F := F)))
    ⊢ iprop(|={Set.univ}=> ∃ K, records m K ∗ bigSep Finset.univ (share (F := F))) := by
  iintro ⟨Hv, HG⟩
  ihave Hv' := (bars_start (F := F)) $$ Hv
  ihave Hu := (seed_at (F := F)) $$ HG
  imod (Rounds.fund_launch ER (sch (Xm m)) bars_owns (fun g _ h => h) (barToks ∪ ownToks)) $$ [Hv' Hu] with ⟨%K, -, #Hinv, #Hr, Hat, Hopen, Htok⟩
  · isplitl [Hv'] <;> iassumption
  imodintro
  iexists K
  isplitr
  · unfold records
    isplitr; · iexact Hinv
    iexact Hr
  iapply (share_intro (F := F))
  isplitl [Hat]; · iexact Hat
  isplitl [Hopen] <;> iassumption

/-- From what the launch deals to what every device starts from. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c)) ∗ levAts L lv)
      ⊢ (|={Set.univ}=> bigSep Finset.univ fun c : Dev nD => iprop(StableHlo.held (c : Thread nD τ) (Pipeline.ucRefs τ sig) (V0 m c) ∗ ride m c) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ seed c))
      ⊢ (bigSep Finset.univ fun c : Dev nD => iprop(bundle m c ∗ (semVal (cell .bar 0 c) 0 ∗ seed c)) : sProp 𝕄) from bigSep_mono fun c _ => bundle_intro m ρ c) $$ H
  ihave H2 := unzip $$ H'; icases H2 with ⟨HB, H3⟩
  ihave H4 := unzip $$ H3
  imod (fund m) $$ H4 with ⟨%K, #HR, HS⟩
  imodintro
  iapply (bigSep_with_persistent (R := records m K) (Φ := fun c => iprop(share c ∗ bundle m c)) fun c _ => start_intro m K c)
  isplitr; · iexact HR
  iapply zip
  isplitl [HS] <;> iassumption

end Cert.KernelIdeal.Ring

end
-- ==== Proof.Ring.Run.lean ====
module

public import proofs.«01_k».proof.Proof.Ring.Launch

@[expose] public section

set_option maxRecDepth 16384

noncomputable section

namespace Cert.KernelIdeal.Ring

open Idealize.ShloMosaic Idealize.ShloMosaic.TcCoe Idealize.ShloMosaic.Rounds
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation HostSeg RegionSeg Seg)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The run -/

theorem unscoped_bar : ∀ sm : SemLoc sig, sm.isScoped .tc = false → sm = semOf .bar 0 := by decide

set_option backward.isDefEq.respectTransparency.types false in
/-- From any memory with every counter at zero, every fair run of the program on the thirty-two devices terminates with every array of every
    device as the three parts leave it, and every counter of the machine at zero. -/
theorem run : θ_run defs (onTc (τ := τ) (main (F := F))) ⟨m, fun _ => 0, ρ⟩
    (fun r => (∀ c : Dev nD, ∀ b ∈ Pipeline.ucRefs τ sig, r.2.mem ((c : Dev nD), b) = W3 m c b) ∧ r.2.sem = fun _ => 0) :=
  Pipeline.θ_run_regions_kit_sems (pcfgs (F := F)) adm (pdats m) 0 cellOf_inj EP defs₀ 𝒱₀ L lv m ρ main (parts m)
    (fun c Q => by
      rewrite [main_chain c, Seg.run_eq_chain,
        show (parts m).map Seg.prog = [
          Prog.lift (.customCall (Pipeline.entry 0) ()),
          StableHlo.seq hostOps1,
          Prog.lift (.customCall (Pipeline.entry 1) ()) ] from rfl]
      dsimp (config := { failIfUnchanged := false }) only
      exact .rfl)
    (by simp only [parts, Seg.pipes_host, Seg.pipes_region, Seg.pipes_nil]; decide)
    (O₀ := O₀) (hL := L_of_ne) (G := seed) (u₀ := u₀)
    (hu₀ := by
      unfold u₀ seed
      iintro Hu
      ihave H := (ownU_pair _ _) $$ Hu
      icases H with ⟨HP, HX⟩
      imodintro
      isplitl [HP]; · iexact HP
      rw [bigSep_onDev]; iexact HX)
    (T₀ := fun c => iprop(StableHlo.held (c : Thread nD τ) (Pipeline.ucRefs τ sig) (V0 m c) ∗ ride m c)) (Tₙ := last m)
    (hch := ⟨fun c => reg0_pre m c, fun c => reg0_post m c, fun c => reg1_pre m c, fun c => reg1_post m c⟩)
    (hinit := init m ρ)
    (QY := fun c s => (∀ b ∈ Pipeline.ucRefs τ sig, s.mem ((c : Dev nD), b) = W3 m c b) ∧ s.sem (cell .bar 0 c) = 0)
    (hfin := fun c s' => by
      unfold last StableHlo.held
      iintro ⟨⟨Hh, Hb⟩, HSI⟩
      icombine HSI Hb gives %hb
      ihave HR := (pointsTo_read_all (Pipeline.ucRefs τ sig) (fun b => ((c : Dev nD), b)) (W3 m c) s') $$ [Hh HSI]
      · isplitl [Hh] <;> iassumption
      icases HR with ⟨%hr, HSI⟩
      imodintro
      isplitr
      · ipureintro
        exact ⟨hr, by simpa using hb⟩
      iexact HSI)
    (hQ := fun s h hs => ⟨fun c => (h c).1, sem_eq_zero hs fun c sm hsm => by
      obtain rfl := unscoped_bar sm hsm
      exact (h c).2⟩)

end Cert.KernelIdeal.Ring

end
-- ==== Proof.Ring.Ends.lean ====
module

public import proofs.«01_k».proof.Proof.Ring.Run

@[expose] public section

set_option maxRecDepth 16384

noncomputable section

namespace Cert.KernelIdeal.Ring

open Idealize.ShloMosaic Idealize.ShloMosaic.TcCoe
open Idealize.SL.Sem
open Cert.KernelIdeal.Gen

variable {F : FTy → Type} [FloatOps F]
variable (m : (ℓ : Loc nD τ sig) → Buf (Elt F) ℓ) (ρ : Dev nD → PrngReg)

/-! ## What the program leaves of each array -/

/-- An array that no part writes is as launched. -/
theorem W3_of (c : Dev nD) (r : Ref sig .tc) (h8 : r ≠ main_v8) (hh : r ∉ hostOps1_W)
    (hc : ∀ w, Pipeline.arrRef spec0 w = r → (cfg0.win w).isOut = false) : W3 m c r = m ((c : Thread nD τ).loc r) := by
  have h3 : W3 m c r = W2 m c r := Function.update_of_ne (StableHlo.devRef_ne_of_ne h8) _ _
  have h2 : W2 m c r = W1 m c r := StableHlo.after_of_writes_sub hostOps1 _ hostOps1_writes hh
  have h1 : W1 m c r = V0 m c r := Pipeline.afterRegion_keeps (dat0 m c) (V0 m c) launch0.win.arr_inj (fun w => rfl) r hc
  exact h3.trans (h2.trans h1)

/-- The result is the sum the ring forms. -/
theorem W3_result (c : Dev nD) : W3 m c main_v8 = res (Xm m) := by
  unfold W3 ringW
  rw [Function.update_self]; rfl

theorem W3_arg0 (c : Dev nD) : W3 m c main_arg0 = m ((c : Thread nD τ).loc main_arg0) := W3_of m c _ (by decide) (by decide) (by decide)
theorem W3_arg1 (c : Dev nD) : W3 m c main_arg1 = m ((c : Thread nD τ).loc main_arg1) := W3_of m c _ (by decide) (by decide) (by decide)
theorem W3_arg2 (c : Dev nD) : W3 m c main_arg2 = m ((c : Thread nD τ).loc main_arg2) := W3_of m c _ (by decide) (by decide) (by decide)
theorem W3_arg3 (c : Dev nD) : W3 m c main_arg3 = m ((c : Thread nD τ).loc main_arg3) := W3_of m c _ (by decide) (by decide) (by decide)

theorem uc_mem (r : Ref sig .tc) (h : r.isScoped = false) : Proc.devRef (τ := τ) .tc r ∈ Pipeline.ucRefs τ sig :=
  Finset.mem_filter.mpr ⟨StableHlo.devRef_mem_tcRefs r, fun e => Bool.false_ne_true (h.symm.trans e)⟩

/-- From any memory with every counter at zero, every fair run of the program terminates with the ring's sum on every device, every device's
    arguments as they were, and every counter at zero. -/
theorem run_main : θ_run defs (onTc (τ := τ) (main (F := F))) ⟨m, fun _ => 0, ρ⟩
    (fun r => (∀ c : Dev nD, r.2.mem ((c : Thread nD τ).loc main_v8) = res (Xm m)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c =>
    ⟨(h.1 c _ (uc_mem main_v8 rfl)).trans (W3_result m c), (h.1 c _ (uc_mem main_arg0 rfl)).trans (W3_arg0 m c), (h.1 c _ (uc_mem main_arg1 rfl)).trans (W3_arg1 m c),
      (h.1 c _ (uc_mem main_arg2 rfl)).trans (W3_arg2 m c), (h.1 c _ (uc_mem main_arg3 rfl)).trans (W3_arg3 m c)⟩, h.2⟩) (run m ρ)

end Cert.KernelIdeal.Ring

end
-- ==== Proof.Value.Array.lean ====
/- The array the ring leaves, element by element: the sum of what every device put in. -/
module

public import proofs.«01_k».proof.Proof.Ring.Split
public import Idealize.ShloMosaic.PureOps.Ideal.Laws

@[expose] public section

noncomputable section

namespace Cert.KernelIdeal.Ring

open Idealize.ShloMosaic Idealize.ShloMosaic.TcCoe
open Cert.KernelIdeal.Gen

variable (X : Xs Ideal) (l : Fin 2) (c : Dev nD)

/-! ## One chunk -/

/-- The device `t` places up the ring. -/
def ups (l : Fin 2) (t : ℕ) (c : Dev nD) : Dev nD := (up l)^[t] c

/-- Element `y` of chunk `j` of lane `l`. -/
def chunkAt (j : ℕ) (hj : j < 32) (y : S128x4096.Idx) : S4096x8192.Idx
  | 0 => ⟨128 * j + (y 0).val, by have : (y 0).val < 128 := (y 0).isLt; show _ < 4096; omega⟩
  | 1 => ⟨4096 * l.val + (y 1).val, by have : (y 1).val < 4096 := (y 1).isLt; have := l.isLt; show _ < 8192; omega⟩

theorem xIx_lt (t : ℕ) : xIx l c t < 32 := Nat.mod_lt _ (by decide)

theorem up_val : ∀ (l : Fin 2) (c : Dev nD), (up l c).val = (c.val + if l = 0 then 31 else 1) % 32 := by decide +kernel

/-- The chunk a device passes on is the one the next device adds to. -/
theorem xIx_up (t : ℕ) : xIx l (up l c) t = xIx l c (t + 1) := by
  unfold xIx
  rw [up_val]
  have := c.isLt
  split <;> omega

theorem read_chunk {o : Fin 2 → ℕ} {j : ℕ} (hj : j < 32) (h : ∀ a, o a + S128x4096.size a ≤ S4096x8192.size a) (ho : o = ![128 * j, 4096 * l.val]) (y : S128x4096.Idx) :
    (chunk xM o h).view.read (Elt Ideal) (X c) y = X c (chunkAt l j hj y) := by
  subst ho
  rw [View.read_apply]
  refine congrArg (X c) ?_
  funext a
  apply Fin.ext
  fin_cases a
  · show 128 * j + 1 * (y 0).val = 128 * j + (y 0).val
    omega
  · show 4096 * l.val + 1 * (y 1).val = 4096 * l.val + (y 1).val
    omega

/-- What a device has accumulated before reduce-scatter step `s`: its own part and those of the `s` devices up the ring. -/
theorem acc_eq_sum (s : ℕ) (hs : s < 32) (y : S128x4096.Idx) : ∀ c, acc X l s c y
    = (∑ t ∈ Finset.range (s + 1), X (ups l t c) (chunkAt l (xIx l c s) (xIx_lt l c s) y) : EReal) := by
  induction s with
  | zero =>
    intro c
    rw [Finset.sum_range_one]
    exact read_chunk X l c _ _ (by rw [ownOff_eq, xIx_zero]) y
  | succ s ih =>
    intro c
    rw [Finset.sum_range_succ']
    have h1 : acc X l (s + 1) c y = (acc X l s (up l c) y + (inC l c s).view.read (Elt Ideal) (X c) y : EReal) := rfl
    rw [h1, ih (by omega) (up l c)]
    have h2 : (inC l c s).view.read (Elt Ideal) (X c) y = X c (chunkAt l (xIx l c (s + 1)) (xIx_lt l c _) y) :=
      read_chunk X l c _ _ (by rw [inOff_eq, xIx_succ l c (by omega)]) y
    rw [h2]
    congr 1
    refine Finset.sum_congr rfl fun t _ => ?_
    have e : ∀ (j j' : ℕ) (hj : j < 32) (hj' : j' < 32), j = j' → X (ups l t (up l c)) (chunkAt l j hj y) = X (ups l (t + 1) c) (chunkAt l j' hj' y) := by
      rintro j _ hj hj' rfl; rfl
    exact e _ _ _ _ (xIx_up l c s)

/-! ## The whole array -/

theorem ups_val (t : ℕ) : ∀ c, (ups l t c).val = (c.val + if l = 0 then 31 * t else t) % 32 := by
  induction t with
  | zero => intro c; have : c.val < 32 := c.isLt; show c.val = _; split <;> omega
  | succ t ih =>
    intro c
    show (ups l t (up l c)).val = _
    rw [ih, up_val]
    have := c.isLt
    split <;> omega

/-- Going up the ring passes every device once. -/
theorem ups_bij : Function.Bijective fun t : Fin 32 => ups l t.val c := by
  refine Function.Injective.bijective_of_nat_card_le (fun s t h => ?_) (by simp)
  have h' : (ups l s.val c).val = (ups l t.val c).val := congrArg Fin.val h
  rw [ups_val, ups_val] at h'
  have := s.isLt; have := t.isLt; have := c.isLt
  apply Fin.ext
  split at h' <;> omega

theorem owner_last : ∀ (l : Fin 2) (j : Fin 32), xIx l (owner l j.val) 31 = j.val := by decide +kernel

/-- Every element of the result is the sum over the devices of what they put in. -/
theorem res_eq_sum (i : S4096x8192.Idx) : res X i = (∑ c : Dev nD, X c i : EReal) := by
  have h0 : (i 0).val < 4096 := (i 0).isLt
  have h1 : (i 1).val < 8192 := (i 1).isLt
  let l : Fin 2 := ⟨(i 1).val / 4096, by omega⟩
  let j : Fin 32 := ⟨(i 0).val / 128, by omega⟩
  let y : S128x4096.Idx := fun | 0 => ⟨(i 0).val % 128, Nat.mod_lt _ (by decide)⟩ | 1 => ⟨(i 1).val % 4096, Nat.mod_lt _ (by decide)⟩
  have hy : ∀ (n : ℕ) (hn : n < 32), n = j.val → chunkAt l n hn y = i := by
    rintro _ hn rfl
    funext a
    apply Fin.ext
    fin_cases a
    · show 128 * ((i 0).val / 128) + (i 0).val % 128 = (i 0).val
      omega
    · show 4096 * ((i 1).val / 4096) + (i 1).val % 4096 = (i 1).val
      omega
  rw [res_at X l (i := i) (j := j.val) (y := y) (by show (i 0).val = 128 * ((i 0).val / 128) + (i 0).val % 128; omega)
    (by show (i 1).val = 4096 * ((i 1).val / 4096) + (i 1).val % 4096; omega), acc_eq_sum X l 31 (by decide), hy _ _ (owner_last l j),
    Finset.sum_range]
  let f : Dev nD → EReal := fun d => X d i
  exact Function.Bijective.sum_comp (ups_bij l (owner l j.val)) f

end Cert.KernelIdeal.Ring

end
-- ==== Proof.Value.Block.lean ====
/- What one device puts in: the product of its two blocks, scaled. -/
module

public import proofs.«01_k».proof.Proof.Ring.Ends
public import Idealize.ShloMosaic.PureOps.Ideal.Laws
public import Idealize.ShloMosaic.Lib.ValueIdx
public import Idealize.ShloMosaic.Lib.Pipeline.ValueKit.Geometry

@[expose] public section

noncomputable section

namespace Cert.KernelIdeal.Ring

open Idealize.ShloMosaic Idealize.ShloMosaic.TcCoe Idealize.ShloMosaic.ValueIdx
open Cert.KernelIdeal.Gen

variable {F : FTy → Type} [FloatOps F]

/-! The host's operations between the two launches. -/

/-- The host multiplies the converted blocks and scales the product by the two scales' product. -/
theorem host_result (V : Valuation τ sig (Elt F)) : StableHlo.after hostOps1 V main_v7
    = mulf (F := F) (s := S4096x8192) (φ := .f32) (Host.dotGeneral dot_S4096x128_S128x8192_S4096x8192_1_0_0_1_n_n none (V main_v1_0 : FVec F S4096x128 .bf16) (V main_v1_1 : FVec F S128x8192 .bf16))
      (broadcastInDim S4096x8192 ![] bcast_S_S4096x8192 (mulf (F := F) (s := S_) (φ := .f32) (shapeCast S_ (V main_arg2) shapeCasts_S1_S_) (shapeCast S_ (V main_arg3) shapeCasts_S1_S_))) := by
  after_results
  rfl

/-! The conversion: one grid point, and every window's block is its whole array. -/

variable (m : (ℓ : Loc nD τ sig) → Buf (Elt F) ℓ) (c : Dev nD)

/-- The one grid point. -/
def point0 : Fin cfg0.N := ⟨0, by decide⟩

/-- The converted block of x is the conversion of the block as launched. -/
theorem W1_x : W1 m c main_v1_0 = k0_pay1 (m ((c : Thread nD τ).loc main_arg0)) := by
  refine (Pipeline.afterRegion_arr (dat0 m c) (V0 m c) launch0.win.arr_inj 2).trans ?_
  refine (dat0 m c).arrAt_eq_of_after_last 2 point0 (by decide +kernel) _ fun j => ?_
  rw [dat0_after2]
  have e : blk0 m c 0 point0 = m ((c : Thread nD τ).loc main_arg0) := by
    funext y
    show V0 m c main_arg0 (((cfg0.win 0).blk point0).view.emb y) = _
    have h : ((cfg0.win 0).blk point0).view.emb y = y := by
      funext a; apply Fin.ext; fin_cases a
      · show 0 * 4096 + 1 * (y 0).val = (y 0).val; omega
      · show 0 * 128 + 1 * (y 1).val = (y 1).val; omega
    rw [h]
  rw [e]; rfl

/-- The converted block of w is the conversion of the block as launched. -/
theorem W1_w : W1 m c main_v1_1 = k0_pay2 (m ((c : Thread nD τ).loc main_arg1)) := by
  refine (Pipeline.afterRegion_arr (dat0 m c) (V0 m c) launch0.win.arr_inj 3).trans ?_
  refine (dat0 m c).arrAt_eq_of_after_last 3 point0 (by decide +kernel) _ fun j => ?_
  rw [dat0_after3]
  have e : blk0 m c 1 point0 = m ((c : Thread nD τ).loc main_arg1) := by
    funext y
    show V0 m c main_arg1 (((cfg0.win 1).blk point0).view.emb y) = _
    have h : ((cfg0.win 1).blk point0).view.emb y = y := by
      funext a; apply Fin.ext; fin_cases a
      · show 0 * 128 + 1 * (y 0).val = (y 0).val; omega
      · show 0 * 8192 + 1 * (y 1).val = (y 1).val; omega
    rw [h]
  rw [e]; rfl

/-- The conversion leaves the scales alone. -/
theorem W1_scales : W1 m c main_arg2 = m ((c : Thread nD τ).loc main_arg2) ∧ W1 m c main_arg3 = m ((c : Thread nD τ).loc main_arg3) :=
  ⟨Pipeline.afterRegion_keeps (dat0 m c) (V0 m c) launch0.win.arr_inj (fun _ => rfl) main_arg2 (by decide),
    Pipeline.afterRegion_keeps (dat0 m c) (V0 m c) launch0.win.arr_inj (fun _ => rfl) main_arg3 (by decide)⟩

/-- What the device puts into the all-reduce, from its arguments. -/
theorem Xm_eq : Xm m c = mulf (F := F) (s := S4096x8192) (φ := .f32)
      (Host.dotGeneral dot_S4096x128_S128x8192_S4096x8192_1_0_0_1_n_n none (k0_pay1 (m ((c : Thread nD τ).loc main_arg0))) (k0_pay2 (m ((c : Thread nD τ).loc main_arg1))))
      (broadcastInDim S4096x8192 ![] bcast_S_S4096x8192 (mulf (F := F) (s := S_) (φ := .f32)
        (shapeCast S_ (m ((c : Thread nD τ).loc main_arg2)) shapeCasts_S1_S_) (shapeCast S_ (m ((c : Thread nD τ).loc main_arg3)) shapeCasts_S1_S_))) := by
  refine (host_result (W1 m c)).trans ?_
  rw [W1_x, W1_w, (W1_scales m c).1, (W1_scales m c).2]

end Cert.KernelIdeal.Ring

/-! The same at the exact values. -/

namespace Cert.KernelIdeal.Ring

open Idealize.ShloMosaic Idealize.ShloMosaic.TcCoe Idealize.ShloMosaic.ValueIdx
open Cert.KernelIdeal.Gen

/-- A sum over the one shared axis of a block product is a sum over its 128 places. -/
theorem block_dot (A : FVec Ideal S4096x128 .bf16) (B : FVec Ideal S128x8192 .bf16) (i : S4096x8192.Idx) :
    (Host.dotGeneral dot_S4096x128_S128x8192_S4096x8192_1_0_0_1_n_n none A B : FVec Ideal S4096x8192 .f32) i
      = (∑ k : Fin 128, (A (ix2 (i 0) k) : EReal) * B (ix2 k (i 1)) : EReal) := by
  simp only [Host.dotGeneral]
  rw [Ideal.dotGeneral_apply]
  refine (Equiv.sum_comp (contrEquiv1 dot_S4096x128_S128x8192_S4096x8192_1_0_0_1_n_n 128 rfl rfl).symm _).symm.trans ?_
  refine Finset.sum_congr rfl fun k _ => ?_
  congr 1
  · refine congrArg A ?_
    funext a; apply Fin.ext; fin_cases a <;> rfl
  · refine congrArg B ?_
    funext a; apply Fin.ext; fin_cases a <;> rfl

/-- The host's product of the scales, spread over the array, is that product everywhere. -/
theorem scale_apply (s t : FVec Ideal S1 .f32) (i : S4096x8192.Idx) :
    broadcastInDim S4096x8192 ![] bcast_S_S4096x8192 (mulf (F := Ideal) (s := S_) (φ := .f32) (shapeCast S_ s shapeCasts_S1_S_) (shapeCast S_ t shapeCasts_S1_S_)) i
      = ((s (ix1 0) : EReal) * t (ix1 0) : EReal) := by
  rw [broadcastInDim_apply _ _ _ _ (fun a => a.elim0) (fun a => a.elim0), mulf_apply, shapeCast_apply s _ _ (ix1 0) (by decide), shapeCast_apply t _ _ (ix1 0) (by decide)]

/-- One entry of the scaled product of a block of columns of x and the same block of rows of w. -/
def entry (A : S4096x128.Idx → EReal) (B : S128x8192.Idx → EReal) (s t : S1.Idx → EReal) (i : S4096x8192.Idx) : EReal :=
  (∑ k : Fin 128, A (ix2 (i 0) k) * B (ix2 k (i 1))) * (s (ix1 0) * t (ix1 0))

/-- One entry of what a device puts in, from its four arguments. -/
theorem Xm_apply (m : (ℓ : Loc nD τ sig) → Buf (Elt Ideal) ℓ) (c : Dev nD) (i : S4096x8192.Idx) :
    Xm m c i = entry (m ((c : Thread nD τ).loc main_arg0)) (m ((c : Thread nD τ).loc main_arg1))
      (m ((c : Thread nD τ).loc main_arg2)) (m ((c : Thread nD τ).loc main_arg3)) i := by
  have ha : (k0_pay1 (F := Ideal) (m ((c : Thread nD τ).loc main_arg0)) : S4096x128.Idx → EReal) = m ((c : Thread nD τ).loc main_arg0) := by
    unfold k0_pay1; rw [shapeCast_self]; rfl
  have hb : (k0_pay2 (F := Ideal) (m ((c : Thread nD τ).loc main_arg1)) : S128x8192.Idx → EReal) = m ((c : Thread nD τ).loc main_arg1) := by
    unfold k0_pay2; rw [shapeCast_self]; rfl
  rw [Xm_eq, mulf_apply, block_dot, scale_apply, ha, hb]
  rfl

end Cert.KernelIdeal.Ring

end
-- ==== Proof.Value.Reference.lean ====
/- The reference, entry by entry. -/
module

public import proofs.«01_k».proof.Proof.Gen.ReferenceIdeal.Value
public import Idealize.ShloMosaic.PureOps.Ideal.Laws
public import Idealize.ShloMosaic.Lib.ValueIdx
public import Idealize.ShloMosaic.Lib.Pipeline.Value

@[expose] public section

noncomputable section

namespace Cert.ReferenceIdeal.Whole

open Idealize.ShloMosaic Idealize.ShloMosaic.TcCoe Idealize.ShloMosaic.ValueIdx
open Cert.ReferenceIdeal Cert.ReferenceIdeal.Gen

/-- A sum over the one shared axis of the whole product is a sum over its 4096 places. -/
theorem whole_dot (A : FVec Ideal S4096x4096 .f32) (B : FVec Ideal S4096x8192 .f32) (i : S4096x8192.Idx) :
    (matmul dot_S4096x4096_S4096x8192_S4096x8192_1_0_0_1_n_n none A B (constant S4096x8192 .f32 0x00000000#32) : FVec Ideal S4096x8192 .f32) i
      = (∑ k : Fin 4096, (A (ix2 (i 0) k) : EReal) * B (ix2 k (i 1)) : EReal) := by
  simp only [matmul]
  rw [Ideal.matmul_constant_zero_apply]
  refine (Equiv.sum_comp (contrEquiv1 dot_S4096x4096_S4096x8192_S4096x8192_1_0_0_1_n_n 4096 rfl rfl).symm _).symm.trans ?_
  refine Finset.sum_congr rfl fun k _ => ?_
  congr 1
  · refine congrArg A ?_
    funext a; apply Fin.ext; fin_cases a <;> rfl
  · refine congrArg B ?_
    funext a; apply Fin.ext; fin_cases a <;> rfl

/-- One entry of the scaled product of the whole x and the whole w. -/
def entry (A : S4096x4096.Idx → EReal) (B : S4096x8192.Idx → EReal) (s t : S1.Idx → EReal) (i : S4096x8192.Idx) : EReal :=
  (∑ k : Fin 4096, A (ix2 (i 0) k) * B (ix2 k (i 1))) * (s (ix1 0) * t (ix1 0))

/-- The reference's result is the scaled product of the whole arrays. -/
theorem result_apply (A : Vec Ideal S4096x4096 .fp8e4m3) (B : Vec Ideal S4096x8192 .fp8e5m2) (s t : Vec Ideal S1 .f32) (i : S4096x8192.Idx) :
    Cert.ReferenceIdeal.Value.G4 A B s t i = entry A B s t i := by
  unfold Cert.ReferenceIdeal.Value.G4 k0_pay1
  rw [mulf_apply, whole_dot, broadcastTo_apply _ _ _ (ix2 0 0) (fun a => by fin_cases a <;> rfl), shapeCast_apply _ _ _ (ix1 0) (by decide), mulf_apply]
  rfl

end Cert.ReferenceIdeal.Whole

end
-- ==== Proof.Value.Equal.lean ====
/- The equation: the devices' scaled block products add up to the scaled whole product. -/
module

public import proofs.«01_k».proof.Proof.Value.Array
public import proofs.«01_k».proof.Proof.Value.Block
public import proofs.«01_k».proof.Proof.Value.Reference
public import proofs.«01_k».proof.Pre_scale_in_range_KernelIdeal
public import Idealize.ShloMosaic.Lib.Layout

@[expose] public section

noncomputable section

namespace Cert.KernelIdeal.Ring

open Idealize.ShloMosaic Idealize.ShloMosaic.TcCoe Idealize.ShloMosaic.ValueIdx

/-- A scale that is neither negative nor infinite may be taken out of a sum of any extended reals. -/
theorem sum_scaled {ι : Type} (S : Finset ι) (f : ι → EReal) (s : EReal) (h0 : 0 ≤ s) (ht : s ≠ ⊤) :
    (∑ c ∈ S, f c * s) = (∑ c ∈ S, f c) * s := by
  classical
  induction S using Finset.induction_on with
  | empty => simp
  | insert a S ha ih => rw [Finset.sum_insert ha, Finset.sum_insert ha, ih, EReal.right_distrib_of_nonneg_of_ne_top h0 ht]

/-- A sum over 4096 places is the sum, over 32 blocks, of the sums over each block's 128 places. -/
theorem sum_blocks (f : Fin 4096 → EReal) : (∑ c : Fin 32, ∑ k : Fin 128, f ⟨c.val * 128 + k.val, by omega⟩) = ∑ k : Fin 4096, f k := by
  rw [← Fintype.sum_prod_type']
  refine Fintype.sum_equiv (finProdFinEquiv (m := 32) (n := 128)) _ _ fun p => congrArg f (Fin.ext ?_)
  show p.1.val * 128 + p.2.val = p.2.val + 128 * p.1.val
  omega

/-- What the precondition says of the two scales' product: it is not negative, and it is not infinite. -/
theorem scale_bounds [Cert.Pre_scale_in_range_KernelIdeal.Facts] (A : FVec Ideal S4096x128 .fp8e4m3) (B : FVec Ideal S128x8192 .fp8e5m2) (s t : FVec Ideal S1 .f32)
    (h : (Cert.Pre_scale_in_range_KernelIdeal.fn (F := Ideal) A B s t).1 = (fun _ => 1#1) ∧ (Cert.Pre_scale_in_range_KernelIdeal.fn (F := Ideal) A B s t).2 = (fun _ => 1#1)) :
    (0 : EReal) ≤ (s (ix1 0) : EReal) * t (ix1 0) ∧ ((s (ix1 0) : EReal) * t (ix1 0) : EReal) ≠ ⊤ := by
  have h1 : Ideal.cmp .oge ((s (ix1 0) : EReal) * t (ix1 0)) (Ideal.ofBits .f32 0x00000000#32) = 1#1 := congrFun h.1 (ix1 0)
  have h2 : Ideal.cmp .olt ((s (ix1 0) : EReal) * t (ix1 0)) (Ideal.ofBits .f32 0x7F800000#32) = 1#1 := congrFun h.2 (ix1 0)
  have htop : Ideal.ofBits .f32 0x7F800000#32 = (⊤ : EReal) := by simp [Ideal.ofBits, Ideal.ieee]
  rw [Ideal.ofBits_zero_f32] at h1
  rw [htop] at h2
  constructor
  · by_contra hn
    simp [Ideal.cmp, hn] at h1
  · intro hn
    simp [Ideal.cmp, hn] at h2

/-- The devices' entries, each from its blocks of the whole arrays, add up to the reference's entry. -/
theorem sum_entries (A : (⟨2, ![4096, 4096]⟩ : Shape).Idx → EReal) (B : (⟨2, ![4096, 8192]⟩ : Shape).Idx → EReal) (s t : S1.Idx → EReal)
    (h0 : 0 ≤ s (ix1 0) * t (ix1 0)) (ht : s (ix1 0) * t (ix1 0) ≠ ⊤) (i : S4096x8192.Idx) :
    (∑ c : Dev nD, entry (Layout.block ⟨2, ![4096, 128]⟩ ⟨2, ![4096, 4096]⟩ 1 32 c A) (Layout.block ⟨2, ![128, 8192]⟩ ⟨2, ![4096, 8192]⟩ 0 32 c B) s t i)
      = Cert.ReferenceIdeal.Whole.entry A B s t i := by
  unfold entry Cert.ReferenceIdeal.Whole.entry
  rw [sum_scaled _ _ _ h0 ht, ← sum_blocks]
  refine congrArg (· * _) (Finset.sum_congr rfl fun c _ => Finset.sum_congr rfl fun k _ => ?_)
  refine congrArg₂ (· * ·) (congrArg A ?_) (congrArg B ?_) <;> funext a <;> apply Fin.ext <;> fin_cases a <;> rfl

/-- The kernel's result is the reference's, when each device holds its blocks of the reference's arrays. -/
theorem result_eq [Cert.Pre_scale_in_range_KernelIdeal.Facts] (m : (ℓ : Loc nD τ sig) → Buf (Elt Ideal) ℓ)
    (A : FVec Ideal ⟨2, ![4096, 4096]⟩ .fp8e4m3) (B : FVec Ideal ⟨2, ![4096, 8192]⟩ .fp8e5m2) (s t : FVec Ideal S1 .f32)
    (hp : ∀ c : Dev nD, (Cert.Pre_scale_in_range_KernelIdeal.fn (F := Ideal) (m ((c.tc : Thread nD τ).loc main_arg0)) (m ((c.tc : Thread nD τ).loc main_arg1)) (m ((c.tc : Thread nD τ).loc main_arg2)) (m ((c.tc : Thread nD τ).loc main_arg3))).1 = (fun _ => 1#1)
      ∧ (Cert.Pre_scale_in_range_KernelIdeal.fn (F := Ideal) (m ((c.tc : Thread nD τ).loc main_arg0)) (m ((c.tc : Thread nD τ).loc main_arg1)) (m ((c.tc : Thread nD τ).loc main_arg2)) (m ((c.tc : Thread nD τ).loc main_arg3))).2 = (fun _ => 1#1))
    (hm : ∀ c : Dev nD, m ((c.tc : Thread nD τ).loc main_arg0) = Layout.block ⟨2, ![4096, 128]⟩ ⟨2, ![4096, 4096]⟩ 1 32 c A
      ∧ m ((c.tc : Thread nD τ).loc main_arg1) = Layout.block ⟨2, ![128, 8192]⟩ ⟨2, ![4096, 8192]⟩ 0 32 c B
      ∧ m ((c.tc : Thread nD τ).loc main_arg2) = s ∧ m ((c.tc : Thread nD τ).loc main_arg3) = t) :
    res (Xm m) = Cert.ReferenceIdeal.Value.G4 (F := Ideal) A B s t := by
  have hb := scale_bounds _ _ _ _ (hp 0)
  rw [(hm 0).2.2.1, (hm 0).2.2.2] at hb
  funext i
  rw [Cert.ReferenceIdeal.Whole.result_apply]
  refine (res_eq_sum (Xm m) i).trans (Eq.trans ?_ (sum_entries A B s t hb.1 hb.2 i))
  refine Finset.sum_congr (M := EReal) rfl fun c _ => ?_
  rw [Xm_apply, (hm c).1, (hm c).2.1, (hm c).2.2.1, (hm c).2.2.2]

end Cert.KernelIdeal.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Ring.Ends
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- The precondition's side condition, read of the kernel's blocks. -/
theorem pre_kernel : Cert.Pre_scale_in_range_KernelIdeal.Facts := ⟨by decide⟩
/-- The precondition's side condition, read of the reference's arrays. -/
theorem pre_reference : Cert.Pre_scale_in_range_ReferenceIdeal.Facts := ⟨by decide⟩

/-- The kernel as written and its idealization have the same table of bodies. -/
theorem text_bodies : Cert.Kernel.defs₀ (F := Bits) = Cert.KernelIdeal.defs₀ (F := Bits) := by
  refine congrArg (Defs.onTc (nD := Cert.Kernel.nD) (τ := Cert.Kernel.τ) (sig := Cert.Kernel.sig) (Val := Elt Bits) (Λ := Cert.Kernel.Λ₀)) ?_
  funext l a
  match l, a with
  | 0, (t, s) => rfl
  | 1, (t, s) => rfl
/-- And the same table of launches. -/
theorem text_defs : Cert.Kernel.defs (F := Bits) = Cert.KernelIdeal.defs (F := Bits) := congrArg (Pipeline.defs Cert.Kernel.pcfgs) text_bodies
/-- And the same program. -/
theorem text_main : Cert.Kernel.main (F := Bits) = Cert.KernelIdeal.main (F := Bits) := rfl

/-- The kernel as written terminates, leaves its arguments alone and every counter at zero. -/
theorem frame_kernel : Cert.quiescent_Kernel (hKernel := Cert.Kernel.Gen.facts) := by
  intro m g _
  rw [text_defs, text_main]
  exact (θ_run (Cert.KernelIdeal.defs (F := Bits)) _ _).mono (fun _ h => ⟨fun c => (h.1 c).2, h.2⟩) (Cert.KernelIdeal.Ring.run_main (F := Bits) m g)

/-- So does its idealization. -/
theorem frame_ideal : Cert.quiescent_KernelIdeal (hKernelIdeal := Cert.KernelIdeal.Gen.facts) := fun m g _ =>
  (θ_run (Cert.KernelIdeal.defs (F := Ideal)) _ _).mono (fun _ h => ⟨fun c => (h.1 c).2, h.2⟩) (Cert.KernelIdeal.Ring.run_main (F := Ideal) m g)

/-- So does the reference. -/
theorem frame_reference : Cert.quiescent_ReferenceIdeal (hReferenceIdeal := Cert.ReferenceIdeal.Gen.facts) := fun m g _ =>
  Cert.ReferenceIdeal.Gen.frame (F := Ideal) m g

/-- With exact values, every device of the kernel ends with the reference's whole result. -/
theorem equal_reference : Cert.algebraic_KernelIdeal_ReferenceIdeal_pre_scale_in_range_KernelIdeal (hKernelIdeal := Cert.KernelIdeal.Gen.facts)
    (hReferenceIdeal := Cert.ReferenceIdeal.Gen.facts) (hPre_scale_in_range_KernelIdeal := pre_kernel) := fun m g m' g' hp hm =>
  haveI := pre_kernel
  ⟨_, (θ_run (Cert.KernelIdeal.defs (F := Ideal)) _ _).mono
      (fun _ h c => ⟨((h.1 c).1).trans (Cert.KernelIdeal.Ring.result_eq m _ _ _ _ hp hm), (h.1 c).2⟩) (Cert.KernelIdeal.Ring.run_main (F := Ideal) m g),
    (θ_run (Cert.ReferenceIdeal.defs (F := Ideal)) _ _).mono (fun _ h => h 0) (Cert.ReferenceIdeal.Value.run (F := Ideal) m' g')⟩

/-- Every claim made of the kernel. -/
theorem claim : Cert.Claim := ⟨Cert.Kernel.Gen.facts, Cert.KernelIdeal.Gen.facts, Cert.ReferenceIdeal.Gen.facts, pre_kernel, pre_reference,
  frame_kernel, frame_ideal, fun m g _ => frame_ideal m g trivial, frame_reference, fun m g _ => frame_reference m g trivial, trivial, equal_reference⟩

end Cert.Proof

end
